-- ==== Defs.lean ====
def Pre_Kernel [hPre_ids_ok : Cert.Pre_ids_ok.Facts] (m : (ℓ : Loc Cert.Kernel.nD Cert.Kernel.τ Cert.Kernel.sig) → Buf (Elt Bits) ℓ) : Prop :=
  ∀ c : Dev Cert.Kernel.nD,
    (Cert.Pre_ids_ok.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_ok : Cert.Pre_ids_ok.Facts] (m : (ℓ : Loc Cert.KernelIdeal.nD Cert.KernelIdeal.τ Cert.KernelIdeal.sig) → Buf (Elt Ideal) ℓ) : Prop :=
  ∀ c : Dev Cert.KernelIdeal.nD,
    (Cert.Pre_ids_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_ok [hPre_ids_ok : Cert.Pre_ids_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Grouped [hPre_sched_ok : Cert.Pre_sched_ok.Facts] (m : (ℓ : Loc Cert.Grouped.nD Cert.Grouped.τ Cert.Grouped.sig) → Buf (Elt Bits) ℓ) : Prop :=
  ∀ c : Dev Cert.Grouped.nD,
    (Cert.Pre_sched_ok.fn (F := Bits) (m ((c.tc : Thread Cert.Grouped.nD Cert.Grouped.τ).loc Cert.Grouped.main_arg0)) (m ((c.tc : Thread Cert.Grouped.nD Cert.Grouped.τ).loc Cert.Grouped.main_arg1)) (m ((c.tc : Thread Cert.Grouped.nD Cert.Grouped.τ).loc Cert.Grouped.main_arg2)) (m ((c.tc : Thread Cert.Grouped.nD Cert.Grouped.τ).loc Cert.Grouped.main_arg3)) (m ((c.tc : Thread Cert.Grouped.nD Cert.Grouped.τ).loc Cert.Grouped.main_arg4))) = (fun _ => 1#1)

def Pre_GroupedIdeal [hPre_sched_ok : Cert.Pre_sched_ok.Facts] (m : (ℓ : Loc Cert.GroupedIdeal.nD Cert.GroupedIdeal.τ Cert.GroupedIdeal.sig) → Buf (Elt Ideal) ℓ) : Prop :=
  ∀ c : Dev Cert.GroupedIdeal.nD,
    (Cert.Pre_sched_ok.fn (F := Ideal) (m ((c.tc : Thread Cert.GroupedIdeal.nD Cert.GroupedIdeal.τ).loc Cert.GroupedIdeal.main_arg0)) (m ((c.tc : Thread Cert.GroupedIdeal.nD Cert.GroupedIdeal.τ).loc Cert.GroupedIdeal.main_arg1)) (m ((c.tc : Thread Cert.GroupedIdeal.nD Cert.GroupedIdeal.τ).loc Cert.GroupedIdeal.main_arg2)) (m ((c.tc : Thread Cert.GroupedIdeal.nD Cert.GroupedIdeal.τ).loc Cert.GroupedIdeal.main_arg3)) (m ((c.tc : Thread Cert.GroupedIdeal.nD Cert.GroupedIdeal.τ).loc Cert.GroupedIdeal.main_arg4))) = (fun _ => 1#1)

def Pre_GroupedRefIdeal (m : (ℓ : Loc Cert.GroupedRefIdeal.nD Cert.GroupedRefIdeal.τ Cert.GroupedRefIdeal.sig) → Buf (Elt Ideal) ℓ) : Prop :=
  True

def Pre_GroupedRefIdeal_sched_ok [hPre_sched_ok : Cert.Pre_sched_ok.Facts] (m : (ℓ : Loc Cert.GroupedRefIdeal.nD Cert.GroupedRefIdeal.τ Cert.GroupedRefIdeal.sig) → Buf (Elt Ideal) ℓ) : Prop :=
  ∀ c : Dev Cert.GroupedRefIdeal.nD,
    (Cert.Pre_sched_ok.fn (F := Ideal) (m ((c.tc : Thread Cert.GroupedRefIdeal.nD Cert.GroupedRefIdeal.τ).loc Cert.GroupedRefIdeal.main_arg0)) (m ((c.tc : Thread Cert.GroupedRefIdeal.nD Cert.GroupedRefIdeal.τ).loc Cert.GroupedRefIdeal.main_arg1)) (m ((c.tc : Thread Cert.GroupedRefIdeal.nD Cert.GroupedRefIdeal.τ).loc Cert.GroupedRefIdeal.main_arg2)) (m ((c.tc : Thread Cert.GroupedRefIdeal.nD Cert.GroupedRefIdeal.τ).loc Cert.GroupedRefIdeal.main_arg3)) (m ((c.tc : Thread Cert.GroupedRefIdeal.nD Cert.GroupedRefIdeal.τ).loc Cert.GroupedRefIdeal.main_arg4))) = (fun _ => 1#1)

def quiescent_Kernel [hKernel : Cert.Kernel.Facts] [hPre_ids_ok : Cert.Pre_ids_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_ok : Cert.Pre_ids_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_ok [hReferenceIdeal : Cert.ReferenceIdeal.Facts] [hPre_ids_ok : Cert.Pre_ids_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Grouped [hGrouped : Cert.Grouped.Facts] [hPre_sched_ok : Cert.Pre_sched_ok.Facts] : Prop :=
  ∀ (m : (ℓ : Loc Cert.Grouped.nD Cert.Grouped.τ Cert.Grouped.sig) → Buf (Elt Bits) ℓ) (g : Dev Cert.Grouped.nD → PrngReg), Pre_Grouped m →
    θ_run (Cert.Grouped.defs (F := Bits)) (onTc (τ := Cert.Grouped.τ) (Cert.Grouped.main (F := Bits))) ⟨m, fun _ => 0, g⟩ (fun r => (∀ c : Dev Cert.Grouped.nD,
      r.2.mem ((c.tc : Thread Cert.Grouped.nD Cert.Grouped.τ).loc Cert.Grouped.main_arg0) = m ((c.tc : Thread Cert.Grouped.nD Cert.Grouped.τ).loc Cert.Grouped.main_arg0)
      ∧ r.2.mem ((c.tc : Thread Cert.Grouped.nD Cert.Grouped.τ).loc Cert.Grouped.main_arg1) = m ((c.tc : Thread Cert.Grouped.nD Cert.Grouped.τ).loc Cert.Grouped.main_arg1)
      ∧ r.2.mem ((c.tc : Thread Cert.Grouped.nD Cert.Grouped.τ).loc Cert.Grouped.main_arg2) = m ((c.tc : Thread Cert.Grouped.nD Cert.Grouped.τ).loc Cert.Grouped.main_arg2)
      ∧ r.2.mem ((c.tc : Thread Cert.Grouped.nD Cert.Grouped.τ).loc Cert.Grouped.main_arg3) = m ((c.tc : Thread Cert.Grouped.nD Cert.Grouped.τ).loc Cert.Grouped.main_arg3)
      ∧ r.2.mem ((c.tc : Thread Cert.Grouped.nD Cert.Grouped.τ).loc Cert.Grouped.main_arg4) = m ((c.tc : Thread Cert.Grouped.nD Cert.Grouped.τ).loc Cert.Grouped.main_arg4))
      ∧ r.2.sem = fun _ => 0)

def quiescent_GroupedIdeal [hGroupedIdeal : Cert.GroupedIdeal.Facts] [hPre_sched_ok : Cert.Pre_sched_ok.Facts] : Prop :=
  ∀ (m : (ℓ : Loc Cert.GroupedIdeal.nD Cert.GroupedIdeal.τ Cert.GroupedIdeal.sig) → Buf (Elt Ideal) ℓ) (g : Dev Cert.GroupedIdeal.nD → PrngReg), Pre_GroupedIdeal m →
    θ_run (Cert.GroupedIdeal.defs (F := Ideal)) (onTc (τ := Cert.GroupedIdeal.τ) (Cert.GroupedIdeal.main (F := Ideal))) ⟨m, fun _ => 0, g⟩ (fun r => (∀ c : Dev Cert.GroupedIdeal.nD,
      r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
      ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
      ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2)
      ∧ r.2.mem ((c.tc : Thread Cert.GroupedIdeal.nD Cert.GroupedIdeal.τ).loc Cert.GroupedIdeal.main_arg3) = m ((c.tc : Thread Cert.GroupedIdeal.nD Cert.GroupedIdeal.τ).loc Cert.GroupedIdeal.main_arg3)
      ∧ r.2.mem ((c.tc : Thread Cert.GroupedIdeal.nD Cert.GroupedIdeal.τ).loc Cert.GroupedIdeal.main_arg4) = m ((c.tc : Thread Cert.GroupedIdeal.nD Cert.GroupedIdeal.τ).loc Cert.GroupedIdeal.main_arg4))
      ∧ r.2.sem = fun _ => 0)

def quiescent_GroupedRefIdeal [hGroupedRefIdeal : Cert.GroupedRefIdeal.Facts] : Prop :=
  ∀ (m : (ℓ : Loc Cert.GroupedRefIdeal.nD Cert.GroupedRefIdeal.τ Cert.GroupedRefIdeal.sig) → Buf (Elt Ideal) ℓ) (g : Dev Cert.GroupedRefIdeal.nD → PrngReg), Pre_GroupedRefIdeal m →
    θ_run (Cert.GroupedRefIdeal.defs (F := Ideal)) (onTc (τ := Cert.GroupedRefIdeal.τ) (Cert.GroupedRefIdeal.main (F := Ideal))) ⟨m, fun _ => 0, g⟩ (fun r => (∀ c : Dev Cert.GroupedRefIdeal.nD,
      r.2.mem ((c.tc : Thread Cert.GroupedRefIdeal.nD Cert.GroupedRefIdeal.τ).loc Cert.GroupedRefIdeal.main_arg0) = m ((c.tc : Thread Cert.GroupedRefIdeal.nD Cert.GroupedRefIdeal.τ).loc Cert.GroupedRefIdeal.main_arg0)
      ∧ r.2.mem ((c.tc : Thread Cert.GroupedRefIdeal.nD Cert.GroupedRefIdeal.τ).loc Cert.GroupedRefIdeal.main_arg1) = m ((c.tc : Thread Cert.GroupedRefIdeal.nD Cert.GroupedRefIdeal.τ).loc Cert.GroupedRefIdeal.main_arg1)
      ∧ r.2.mem ((c.tc : Thread Cert.GroupedRefIdeal.nD Cert.GroupedRefIdeal.τ).loc Cert.GroupedRefIdeal.main_arg2) = m ((c.tc : Thread Cert.GroupedRefIdeal.nD Cert.GroupedRefIdeal.τ).loc Cert.GroupedRefIdeal.main_arg2)
      ∧ r.2.mem ((c.tc : Thread Cert.GroupedRefIdeal.nD Cert.GroupedRefIdeal.τ).loc Cert.GroupedRefIdeal.main_arg3) = m ((c.tc : Thread Cert.GroupedRefIdeal.nD Cert.GroupedRefIdeal.τ).loc Cert.GroupedRefIdeal.main_arg3)
      ∧ r.2.mem ((c.tc : Thread Cert.GroupedRefIdeal.nD Cert.GroupedRefIdeal.τ).loc Cert.GroupedRefIdeal.main_arg4) = m ((c.tc : Thread Cert.GroupedRefIdeal.nD Cert.GroupedRefIdeal.τ).loc Cert.GroupedRefIdeal.main_arg4))
      ∧ r.2.sem = fun _ => 0)

def quiescent_GroupedRefIdeal_pre_sched_ok [hGroupedRefIdeal : Cert.GroupedRefIdeal.Facts] [hPre_sched_ok : Cert.Pre_sched_ok.Facts] : Prop :=
  ∀ (m : (ℓ : Loc Cert.GroupedRefIdeal.nD Cert.GroupedRefIdeal.τ Cert.GroupedRefIdeal.sig) → Buf (Elt Ideal) ℓ) (g : Dev Cert.GroupedRefIdeal.nD → PrngReg), Pre_GroupedRefIdeal_sched_ok m →
    θ_run (Cert.GroupedRefIdeal.defs (F := Ideal)) (onTc (τ := Cert.GroupedRefIdeal.τ) (Cert.GroupedRefIdeal.main (F := Ideal))) ⟨m, fun _ => 0, g⟩ (fun r => (∀ c : Dev Cert.GroupedRefIdeal.nD,
      r.2.mem ((c.tc : Thread Cert.GroupedRefIdeal.nD Cert.GroupedRefIdeal.τ).loc Cert.GroupedRefIdeal.main_arg0) = m ((c.tc : Thread Cert.GroupedRefIdeal.nD Cert.GroupedRefIdeal.τ).loc Cert.GroupedRefIdeal.main_arg0)
      ∧ r.2.mem ((c.tc : Thread Cert.GroupedRefIdeal.nD Cert.GroupedRefIdeal.τ).loc Cert.GroupedRefIdeal.main_arg1) = m ((c.tc : Thread Cert.GroupedRefIdeal.nD Cert.GroupedRefIdeal.τ).loc Cert.GroupedRefIdeal.main_arg1)
      ∧ r.2.mem ((c.tc : Thread Cert.GroupedRefIdeal.nD Cert.GroupedRefIdeal.τ).loc Cert.GroupedRefIdeal.main_arg2) = m ((c.tc : Thread Cert.GroupedRefIdeal.nD Cert.GroupedRefIdeal.τ).loc Cert.GroupedRefIdeal.main_arg2)
      ∧ r.2.mem ((c.tc : Thread Cert.GroupedRefIdeal.nD Cert.GroupedRefIdeal.τ).loc Cert.GroupedRefIdeal.main_arg3) = m ((c.tc : Thread Cert.GroupedRefIdeal.nD Cert.GroupedRefIdeal.τ).loc Cert.GroupedRefIdeal.main_arg3)
      ∧ r.2.mem ((c.tc : Thread Cert.GroupedRefIdeal.nD Cert.GroupedRefIdeal.τ).loc Cert.GroupedRefIdeal.main_arg4) = m ((c.tc : Thread Cert.GroupedRefIdeal.nD Cert.GroupedRefIdeal.τ).loc Cert.GroupedRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_ok : Cert.Pre_ids_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Grouped_GroupedIdeal : Prop :=
  True

def algebraic_GroupedIdeal_GroupedRefIdeal [hGroupedIdeal : Cert.GroupedIdeal.Facts] [hGroupedRefIdeal : Cert.GroupedRefIdeal.Facts] [hPre_sched_ok : Cert.Pre_sched_ok.Facts] : Prop :=
  ∀ (m : (ℓ : Loc Cert.GroupedIdeal.nD Cert.GroupedIdeal.τ Cert.GroupedIdeal.sig) → Buf (Elt Ideal) ℓ) (g : Dev Cert.GroupedIdeal.nD → PrngReg)
    (m' : (ℓ : Loc Cert.GroupedRefIdeal.nD Cert.GroupedRefIdeal.τ Cert.GroupedRefIdeal.sig) → Buf (Elt Ideal) ℓ) (g' : Dev Cert.GroupedRefIdeal.nD → PrngReg), Pre_GroupedIdeal m →
    (∀ c : Dev Cert.GroupedIdeal.nD,
      m' ((c.tc : Thread Cert.GroupedRefIdeal.nD Cert.GroupedRefIdeal.τ).loc Cert.GroupedRefIdeal.main_arg0) = m ((c.tc : Thread Cert.GroupedIdeal.nD Cert.GroupedIdeal.τ).loc Cert.GroupedIdeal.main_arg0)
      ∧ m' ((c.tc : Thread Cert.GroupedRefIdeal.nD Cert.GroupedRefIdeal.τ).loc Cert.GroupedRefIdeal.main_arg1) = m ((c.tc : Thread Cert.GroupedIdeal.nD Cert.GroupedIdeal.τ).loc Cert.GroupedIdeal.main_arg1)
      ∧ m' ((c.tc : Thread Cert.GroupedRefIdeal.nD Cert.GroupedRefIdeal.τ).loc Cert.GroupedRefIdeal.main_arg2) = m ((c.tc : Thread Cert.GroupedIdeal.nD Cert.GroupedIdeal.τ).loc Cert.GroupedIdeal.main_arg2)
      ∧ m' ((c.tc : Thread Cert.GroupedRefIdeal.nD Cert.GroupedRefIdeal.τ).loc Cert.GroupedRefIdeal.main_arg3) = m ((c.tc : Thread Cert.GroupedIdeal.nD Cert.GroupedIdeal.τ).loc Cert.GroupedIdeal.main_arg3)
      ∧ m' ((c.tc : Thread Cert.GroupedRefIdeal.nD Cert.GroupedRefIdeal.τ).loc Cert.GroupedRefIdeal.main_arg4) = m ((c.tc : Thread Cert.GroupedIdeal.nD Cert.GroupedIdeal.τ).loc Cert.GroupedIdeal.main_arg4)) →
    ∃ (v0 : (c : Dev Cert.GroupedIdeal.nD) → Buf (Elt Ideal) ((c.tc : Thread Cert.GroupedIdeal.nD Cert.GroupedIdeal.τ).loc Cert.GroupedIdeal.main_v9)),
      θ_run (Cert.GroupedIdeal.defs (F := Ideal)) (onTc (τ := Cert.GroupedIdeal.τ) (Cert.GroupedIdeal.main (F := Ideal))) ⟨m, fun _ => 0, g⟩ (fun r => ∀ c : Dev Cert.GroupedIdeal.nD,
          r.2.mem ((c.tc : Thread Cert.GroupedIdeal.nD Cert.GroupedIdeal.τ).loc Cert.GroupedIdeal.main_v9) = v0 c
          ∧ r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
          ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
          ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2)
          ∧ r.2.mem ((c.tc : Thread Cert.GroupedIdeal.nD Cert.GroupedIdeal.τ).loc Cert.GroupedIdeal.main_arg3) = m ((c.tc : Thread Cert.GroupedIdeal.nD Cert.GroupedIdeal.τ).loc Cert.GroupedIdeal.main_arg3)
          ∧ r.2.mem ((c.tc : Thread Cert.GroupedIdeal.nD Cert.GroupedIdeal.τ).loc Cert.GroupedIdeal.main_arg4) = m ((c.tc : Thread Cert.GroupedIdeal.nD Cert.GroupedIdeal.τ).loc Cert.GroupedIdeal.main_arg4))
      ∧ θ_run (Cert.GroupedRefIdeal.defs (F := Ideal)) (onTc (τ := Cert.GroupedRefIdeal.τ) (Cert.GroupedRefIdeal.main (F := Ideal))) ⟨m', fun _ => 0, g'⟩ (fun r => ∀ c : Dev Cert.GroupedRefIdeal.nD,
          r.2.mem ((c.tc : Thread Cert.GroupedRefIdeal.nD Cert.GroupedRefIdeal.τ).loc Cert.GroupedRefIdeal.main_v75) = v0 c
          ∧ r.2.mem ((c.tc : Thread Cert.GroupedRefIdeal.nD Cert.GroupedRefIdeal.τ).loc Cert.GroupedRefIdeal.main_arg0) = m' ((c.tc : Thread Cert.GroupedRefIdeal.nD Cert.GroupedRefIdeal.τ).loc Cert.GroupedRefIdeal.main_arg0)
          ∧ r.2.mem ((c.tc : Thread Cert.GroupedRefIdeal.nD Cert.GroupedRefIdeal.τ).loc Cert.GroupedRefIdeal.main_arg1) = m' ((c.tc : Thread Cert.GroupedRefIdeal.nD Cert.GroupedRefIdeal.τ).loc Cert.GroupedRefIdeal.main_arg1)
          ∧ r.2.mem ((c.tc : Thread Cert.GroupedRefIdeal.nD Cert.GroupedRefIdeal.τ).loc Cert.GroupedRefIdeal.main_arg2) = m' ((c.tc : Thread Cert.GroupedRefIdeal.nD Cert.GroupedRefIdeal.τ).loc Cert.GroupedRefIdeal.main_arg2)
          ∧ r.2.mem ((c.tc : Thread Cert.GroupedRefIdeal.nD Cert.GroupedRefIdeal.τ).loc Cert.GroupedRefIdeal.main_arg3) = m' ((c.tc : Thread Cert.GroupedRefIdeal.nD Cert.GroupedRefIdeal.τ).loc Cert.GroupedRefIdeal.main_arg3)
          ∧ r.2.mem ((c.tc : Thread Cert.GroupedRefIdeal.nD Cert.GroupedRefIdeal.τ).loc Cert.GroupedRefIdeal.main_arg4) = m' ((c.tc : Thread Cert.GroupedRefIdeal.nD Cert.GroupedRefIdeal.τ).loc Cert.GroupedRefIdeal.main_arg4))

def Claim : Prop :=
  ∃ (hKernel : Cert.Kernel.Facts) (hKernelIdeal : Cert.KernelIdeal.Facts) (hReferenceIdeal : Cert.ReferenceIdeal.Facts) (hGrouped : Cert.Grouped.Facts) (hGroupedIdeal : Cert.GroupedIdeal.Facts) (hGroupedRefIdeal : Cert.GroupedRefIdeal.Facts) (hPre_ids_ok : Cert.Pre_ids_ok.Facts) (hPre_sched_ok : Cert.Pre_sched_ok.Facts),
    quiescent_Kernel (hKernel := hKernel) (hPre_ids_ok := hPre_ids_ok)
    ∧ quiescent_KernelIdeal (hKernelIdeal := hKernelIdeal) (hPre_ids_ok := hPre_ids_ok)
    ∧ quiescent_ReferenceIdeal (hReferenceIdeal := hReferenceIdeal)
    ∧ quiescent_ReferenceIdeal_pre_ids_ok (hReferenceIdeal := hReferenceIdeal) (hPre_ids_ok := hPre_ids_ok)
    ∧ quiescent_Grouped (hGrouped := hGrouped) (hPre_sched_ok := hPre_sched_ok)
    ∧ quiescent_GroupedIdeal (hGroupedIdeal := hGroupedIdeal) (hPre_sched_ok := hPre_sched_ok)
    ∧ quiescent_GroupedRefIdeal (hGroupedRefIdeal := hGroupedRefIdeal)
    ∧ quiescent_GroupedRefIdeal_pre_sched_ok (hGroupedRefIdeal := hGroupedRefIdeal) (hPre_sched_ok := hPre_sched_ok)
    ∧ preserves_Kernel_KernelIdeal
    ∧ algebraic_KernelIdeal_ReferenceIdeal (hKernelIdeal := hKernelIdeal) (hReferenceIdeal := hReferenceIdeal) (hPre_ids_ok := hPre_ids_ok)
    ∧ preserves_Grouped_GroupedIdeal
    ∧ algebraic_GroupedIdeal_GroupedRefIdeal (hGroupedIdeal := hGroupedIdeal) (hGroupedRefIdeal := hGroupedRefIdeal) (hPre_sched_ok := hPre_sched_ok)
-- ==== Pre_ids_ok.lean ====
abbrev S4096x1024 : Shape := ⟨2, ![4096, 1024]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x1024 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 8#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Pre_sched_ok.lean ====
abbrev S5x32 : Shape := ⟨2, ![5, 32]⟩
abbrev S4096x1024 : Shape := ⟨2, ![4096, 1024]⟩
abbrev S8x1024x512 : Shape := ⟨3, ![8, 1024, 512]⟩
abbrev S8x512 : Shape := ⟨2, ![8, 512]⟩
abbrev S4096 : Shape := ⟨1, ![4096]⟩
abbrev S1x15 : Shape := ⟨2, ![1, 15]⟩
abbrev S15 : Shape := ⟨1, ![15]⟩
abbrev S_ : Shape := ⟨0, ![]⟩
abbrev S14 : Shape := ⟨1, ![14]⟩
abbrev S1 : Shape := ⟨1, ![1]⟩

class Facts : Prop where
  slices_S5x32_S1x15_0_0 : S5x32.Slices ![0, 0] S1x15
  shapeCasts_S1x15_S15 : S1x15.ShapeCasts S15
  slices_S5x32_S1x15_1_0 : S5x32.Slices ![1, 0] S1x15
  bcast_S_S15 : S_.BroadcastsInDim S15 (![] : Fin 0 → Fin S15.rank)
  reducesTo_S15_S_d0 : S15.ReducesTo [0] S_
  h_S_ : 0 < S_.numel
  slices_S15_S14_0 : S15.Slices ![0] S14
  slices_S15_S14_1 : S15.Slices ![1] S14
  reducesTo_S14_S_d0 : S14.ReducesTo [0] S_
  slices_S15_S1_0 : S15.Slices ![0] S1
  shapeCasts_S1_S_ : S1.ShapeCasts S_
  slices_S15_S1_14 : S15.Slices ![14] S1
  bcast_S_S14 : S_.BroadcastsInDim S14 (![] : Fin 0 → Fin S14.rank)

variable [Facts]

def fn_part1 {F : FTy → Type} [FloatOps F] (main_v1 : IVec S15 32) (main_v16 : IVec S_ 1) (main_v17 : IVec S14 32) : IVec S_ 1 :=
  let main_v18 : IVec S14 32 := (extractStridedSlice S14 ![1] · slices_S15_S14_1) main_v1
  let main_v19 : IVec S14 1 := cmpi .sle main_v17 main_v18
  let main_c_5 : IVec S_ 1 := constantI S_ 1 1#1
  let main_v20 : IVec S_ 1 := (fun x v => Host.reduce IntOp.andi x v reducesTo_S14_S_d0 h_S_) main_v19 main_c_5
  let main_v21 : IVec S_ 1 := andi main_v16 main_v20
  let main_v22 : IVec S1 32 := (extractStridedSlice S1 ![0] · slices_S15_S1_0) main_v1
  let main_v23 : IVec S_ 32 := shapeCast S_ main_v22 shapeCasts_S1_S_
  let main_c_6 : IVec S_ 32 := constantI S_ 32 0#32
  let main_v24 : IVec S_ 1 := cmpi .eq main_v23 main_c_6
  let main_v25 : IVec S_ 1 := andi main_v21 main_v24
  let main_v26 : IVec S1 32 := (extractStridedSlice S1 ![14] · slices_S15_S1_14) main_v1
  let main_v27 : IVec S_ 32 := shapeCast S_ main_v26 shapeCasts_S1_S_
  let main_c_7 : IVec S_ 32 := constantI S_ 32 7#32
  let main_v28 : IVec S_ 1 := cmpi .eq main_v27 main_c_7
  let main_v29 : IVec S_ 1 := andi main_v25 main_v28
  let main_v30 : IVec S14 32 := (extractStridedSlice S14 ![1] · slices_S15_S14_1) main_v1
  let main_v31 : IVec S14 32 := (extractStridedSlice S14 ![0] · slices_S15_S14_0) main_v1
  let main_v32 : IVec S14 32 := subi main_v30 main_v31
  let main_c_8 : IVec S_ 32 := constantI S_ 32 1#32
  let main_v33 : IVec S14 32 := broadcastInDim S14 ![] bcast_S_S14 main_c_8
  let main_v34 : IVec S14 1 := cmpi .sle main_v32 main_v33
  let main_c_9 : IVec S_ 1 := constantI S_ 1 1#1
  let main_v35 : IVec S_ 1 := (fun x v => Host.reduce IntOp.andi x v reducesTo_S14_S_d0 h_S_) main_v34 main_c_9
  let main_v36 : IVec S_ 1 := andi main_v29 main_v35
  main_v36

def fn {F : FTy → Type} [FloatOps F] (main_arg0 : IVec S5x32 32) (main_arg1 : FVec F S4096x1024 .f32) (main_arg2 : FVec F S8x1024x512 .f32) (main_arg3 : FVec F S8x512 .f32) (main_arg4 : IVec S4096 32) : IVec S_ 1 :=
  let main_v0 : IVec S1x15 32 := (extractStridedSlice S1x15 ![0, 0] · slices_S5x32_S1x15_0_0) main_arg0
  let main_v1 : IVec S15 32 := shapeCast S15 main_v0 shapeCasts_S1x15_S15
  let main_v2 : IVec S1x15 32 := (extractStridedSlice S1x15 ![1, 0] · slices_S5x32_S1x15_1_0) main_arg0
  let main_v3 : IVec S15 32 := shapeCast S15 main_v2 shapeCasts_S1x15_S15
  let main_c : IVec S_ 32 := constantI S_ 32 0#32
  let main_v4 : IVec S15 32 := broadcastInDim S15 ![] bcast_S_S15 main_c
  let main_v5 : IVec S15 1 := cmpi .sge main_v1 main_v4
  let main_c_0 : IVec S_ 32 := constantI S_ 32 8#32
  let main_v6 : IVec S15 32 := broadcastInDim S15 ![] bcast_S_S15 main_c_0
  let main_v7 : IVec S15 1 := cmpi .slt main_v1 main_v6
  let main_v8 : IVec S15 1 := andi main_v5 main_v7
  let main_c_1 : IVec S_ 1 := constantI S_ 1 1#1
  let main_v9 : IVec S_ 1 := (fun x v => Host.reduce IntOp.andi x v reducesTo_S15_S_d0 h_S_) main_v8 main_c_1
  let main_c_2 : IVec S_ 32 := constantI S_ 32 0#32
  let main_v10 : IVec S15 32 := broadcastInDim S15 ![] bcast_S_S15 main_c_2
  let main_v11 : IVec S15 1 := cmpi .sge main_v3 main_v10
  let main_c_3 : IVec S_ 32 := constantI S_ 32 8#32
  let main_v12 : IVec S15 32 := broadcastInDim S15 ![] bcast_S_S15 main_c_3
  let main_v13 : IVec S15 1 := cmpi .slt main_v3 main_v12
  let main_v14 : IVec S15 1 := andi main_v11 main_v13
  let main_c_4 : IVec S_ 1 := constantI S_ 1 1#1
  let main_v15 : IVec S_ 1 := (fun x v => Host.reduce IntOp.andi x v reducesTo_S15_S_d0 h_S_) main_v14 main_c_4
  let main_v16 : IVec S_ 1 := andi main_v9 main_v15
  let main_v17 : IVec S14 32 := (extractStridedSlice S14 ![0] · slices_S15_S14_0) main_v1
  fn_part1 (F := F) main_v1 main_v16 main_v17
-- ==== Kernel.lean ====
abbrev S4096x1024 : Shape := ⟨2, ![4096, 1024]⟩
abbrev S4096 : Shape := ⟨1, ![4096]⟩
abbrev S128x32x4x2x128 : Shape := ⟨5, ![128, 32, 4, 2, 128]⟩
abbrev S128x4x32x2x128 : Shape := ⟨5, ![128, 4, 32, 2, 128]⟩
abbrev S16384x2x128 : Shape := ⟨3, ![16384, 2, 128]⟩
abbrev S5x32 : Shape := ⟨2, ![5, 32]⟩
abbrev S8x16 : Shape := ⟨2, ![8, 16]⟩
abbrev S128 : Shape := ⟨1, ![128]⟩
abbrev S128x2x128 : Shape := ⟨3, ![128, 2, 128]⟩
abbrev S_ : Shape := ⟨0, ![]⟩
abbrev S16 : Shape := ⟨1, ![16]⟩
abbrev S1x16 : Shape := ⟨2, ![1, 16]⟩

abbrev nBuf : Table → Nat
  | .hbm => 9
  | .local .scVector .vmem => 10
  | _ => 0

abbrev bufTy : (tb : Table) → Fin (nBuf tb) → BufTy
  | .hbm, ⟨0, _⟩ => ⟨S4096x1024, .f32⟩
  | .hbm, ⟨1, _⟩ => ⟨S4096, .i32⟩
  | .hbm, ⟨2, _⟩ => ⟨S128x32x4x2x128, .f32⟩
  | .hbm, ⟨3, _⟩ => ⟨S128x4x32x2x128, .f32⟩
  | .hbm, ⟨4, _⟩ => ⟨S16384x2x128, .f32⟩
  | .hbm, ⟨5, _⟩ => ⟨S16384x2x128, .f32⟩
  | .hbm, ⟨6, _⟩ => ⟨S4096, .i32⟩
  | .hbm, ⟨7, _⟩ => ⟨S5x32, .i32⟩
  | .hbm, ⟨8, _⟩ => ⟨S4096x1024, .f32⟩
  | .local .scVector .vmem, ⟨0, _⟩ => ⟨S4096, .i32⟩
  | .local .scVector .vmem, ⟨1, _⟩ => ⟨S8x16, .i32⟩
  | .local .scVector .vmem, ⟨2, _⟩ => ⟨S128, .i32⟩
  | .local .scVector .vmem, ⟨3, _⟩ => ⟨S128, .i32⟩
  | .local .scVector .vmem, ⟨4, _⟩ => ⟨S128, .i32⟩
  | .local .scVector .vmem, ⟨5, _⟩ => ⟨S128, .i32⟩
  | .local .scVector .vmem, ⟨6, _⟩ => ⟨S128, .i32⟩
  | .local .scVector .vmem, ⟨7, _⟩ => ⟨S128x2x128, .f32⟩
  | .local .scVector .vmem, ⟨8, _⟩ => ⟨S128x2x128, .f32⟩
  | .local .scVector .vmem, ⟨9, _⟩ => ⟨S5x32, .i32⟩
  | _, _ => ⟨S4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v4 : Ref sig .tc := ⟨.hbm, 8, rfl⟩
abbrev main_arg1_scv : Ref sig .scVector := ⟨.hbm, 1, rfl⟩
abbrev main_v2_scv : Ref sig .scVector := ⟨.hbm, 4, rfl⟩
abbrev main_v3_0_scv : Ref sig .scVector := ⟨.hbm, 5, rfl⟩
abbrev main_v3_1_scv : Ref sig .scVector := ⟨.hbm, 6, rfl⟩
abbrev main_v3_2_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch13 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_7 : BitVec 32 := 0#32
  let c256_i32 : BitVec 32 := 256#32
  let v12 : BitVec 32 := Scalar.addi c0_i32_7 c256_i32
  let c1_i32 : BitVec 32 := 1#32
  ⟨c0_i32_7, v12, c1_i32⟩
def k0_off1 (k0_t1 : Fin k0_t1_loop.trips) : Fin 1 → Nat :=
  let c0_i32_7 : BitVec 32 := 0#32
  let c1_i32 : BitVec 32 := 1#32
  let arg21 : BitVec 32 := Scf.iv c0_i32_7 c1_i32 k0_t1
  let c16_i32_1019 : BitVec 32 := 16#32
  let v2474 : BitVec 32 := Scalar.muli arg21 c16_i32_1019
  let v2475 : Index := Scalar.indexCast v2474
  ![v2475.toNat]
def k0_off2 (i : grid0.Coords) (c0_i32_69 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v3 : BitVec 32 := Scalar.muli v1 c8_i32
  let v181 : BitVec 32 := Scalar.addi v3 c0_i32_69
  let c16_i32 : BitVec 32 := 16#32
  let v182 : BitVec 32 := Scalar.muli v181 c16_i32
  let v183 : Index := Scalar.indexCast v182
  ![v183.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_956 : BitVec 32 := 4#32
  let v2437 : BitVec 32 := Scalar.muli v2 c4_i32_956
  let c0_i32_957 : BitVec 32 := 0#32
  let c0_i32_958 : BitVec 32 := 0#32
  ![v2437.toNat, 0, 0]
def k0_off5 (i : grid0.Coords) (c32_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v2442 : BitVec 32 := Scalar.addi v2 c32_i32
  let c4_i32_965 : BitVec 32 := 4#32
  let v2443 : BitVec 32 := Scalar.muli v2442 c4_i32_965
  let c0_i32_966 : BitVec 32 := 0#32
  let c0_i32_967 : BitVec 32 := 0#32
  ![v2443.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x1024 : Shape := ⟨2, ![4096, 1024]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096, .i32⟩
  | .hbm, ⟨3, _⟩ => ⟨S4096x1, .i32⟩
  | .hbm, ⟨4, _⟩ => ⟨S1x4096, .i32⟩
  | .hbm, ⟨5, _⟩ => ⟨S4096x4096, .i32⟩
  | .hbm, ⟨6, _⟩ => ⟨S4096x4096, .i32⟩
  | .hbm, ⟨7, _⟩ => ⟨S4096x4096, .i1⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S4096x4096, .i1⟩
  | .hbm, ⟨17, _⟩ => ⟨S4096x4096, .i1⟩
  | .hbm, ⟨18, _⟩ => ⟨S4096x4096, .i32⟩
  | .hbm, ⟨19, _⟩ => ⟨S_, .i32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S4096x4096, .f32⟩
  | .hbm, ⟨27, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩

abbrev nD : Nat := 1
abbrev τ : Topo := Topo.v7x

variable {F : FTy → Type} [FloatOps F]
-- ==== Grouped.lean ====
abbrev S5x32 : Shape := ⟨2, ![5, 32]⟩
abbrev S4096x1024 : Shape := ⟨2, ![4096, 1024]⟩
abbrev S8x1024x512 : Shape := ⟨3, ![8, 1024, 512]⟩
abbrev S8x512 : Shape := ⟨2, ![8, 512]⟩
abbrev S4096 : Shape := ⟨1, ![4096]⟩
abbrev S8x1x512 : Shape := ⟨3, ![8, 1, 512]⟩
abbrev S8x512x520 : Shape := ⟨3, ![8, 512, 520]⟩
abbrev S512x1024 : Shape := ⟨2, ![512, 1024]⟩
abbrev S1x1 : Shape := ⟨2, ![1, 1]⟩
abbrev S1x1024x512 : Shape := ⟨3, ![1, 1024, 512]⟩
abbrev S1x1x512 : Shape := ⟨3, ![1, 1, 512]⟩
abbrev S1x512x520 : Shape := ⟨3, ![1, 512, 520]⟩
abbrev S1024x512 : Shape := ⟨2, ![1024, 512]⟩
abbrev S512x1 : Shape := ⟨2, ![512, 1]⟩
abbrev S512x512 : Shape := ⟨2, ![512, 512]⟩
abbrev S512 : Shape := ⟨1, ![512]⟩
abbrev S1x512 : Shape := ⟨2, ![1, 512]⟩
abbrev S1x512x512 : Shape := ⟨3, ![1, 512, 512]⟩
abbrev S512x8 : Shape := ⟨2, ![512, 8]⟩
abbrev S1x512x8 : Shape := ⟨3, ![1, 512, 8]⟩
abbrev S4096x1x520 : Shape := ⟨3, ![4096, 1, 520]⟩
abbrev S_ : Shape := ⟨0, ![]⟩
abbrev S4096x1 : Shape := ⟨2, ![4096, 1]⟩

abbrev nBuf : Space → Nat
  | .hbm => 16
  | .vmem => 9
  | .smem => 1
  | _ => 0

abbrev bufTy : (tb : Table) → Fin (tcTables nBuf tb) → BufTy
  | .hbm, ⟨0, _⟩ => ⟨S4096x1024, .f32⟩
  | .hbm, ⟨1, _⟩ => ⟨S8x1024x512, .f32⟩
  | .hbm, ⟨2, _⟩ => ⟨S8x512, .f32⟩
  | .hbm, ⟨3, _⟩ => ⟨S4096, .i32⟩
  | .hbm, ⟨4, _⟩ => ⟨S8x1x512, .f32⟩
  | .hbm, ⟨5, _⟩ => ⟨S8x512x520, .f32⟩
  | .hbm, ⟨6, _⟩ => ⟨S4096x1x520, .f32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S4096x1x520, .f32⟩
  | .local _ .vmem, ⟨0, _⟩ => ⟨S512x1024, .f32⟩
  | .local _ .vmem, ⟨1, _⟩ => ⟨S512x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1x512, .f32⟩
  | .local _ .vmem, ⟨5, _⟩ => ⟨S1x1x512, .f32⟩
  | .local _ .vmem, ⟨6, _⟩ => ⟨S1x512x520, .f32⟩
  | .local _ .vmem, ⟨7, _⟩ => ⟨S1x512x520, .f32⟩
  | .local _ .vmem, ⟨8, _⟩ => ⟨S1024x512, .bf16⟩
  | .local _ .smem, ⟨0, _⟩ => ⟨S5x32, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![15], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v0 : Index := Scalar.indexCast arg0
  ![1, v0.toNat]
def k0_off3 (i : grid0.Coords) : Fin 2 → Nat :=
  let c0_0 : Index := 0#32
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![0, v4.toNat]
def k0_off4 (i : grid0.Coords) : Fin 2 → Nat :=
  let c1 : Index := 1#32
  let arg0 : BitVec 32 := BitVec.ofNat 32 (i 0).val
  let v12 : Index := Scalar.indexCast arg0
  ![1, v12.toNat]
def k0_off5 (i : grid0.Coords) : Fin 2 → Nat :=
  let c1_6 : Index := 1#32
  let arg0 : BitVec 32 := BitVec.ofNat 32 (i 0).val
  let c1_i32_4 : BitVec 32 := 1#32
  let v14 : BitVec 32 := Scalar.subi arg0 c1_i32_4
  let c0_i32_5 : BitVec 32 := 0#32
  let v15 : BitVec 32 := Scalar.maxsi v14 c0_i32_5
  let v16 : Index := Scalar.indexCast v15
  ![1, v16.toNat]
def k0_off6 (i : grid0.Coords) : Fin 2 → Nat :=
  let c2 : Index := 2#32
  let arg0 : BitVec 32 := BitVec.ofNat 32 (i 0).val
  let v22 : Index := Scalar.indexCast arg0
  ![2, v22.toNat]
def k0_off7 (i : grid0.Coords) : Fin 2 → Nat :=
  let c1_10 : Index := 1#32
  let arg0 : BitVec 32 := BitVec.ofNat 32 (i 0).val
  let v27 : Index := Scalar.indexCast arg0
  ![1, v27.toNat]
def k0_off8 (i : grid0.Coords) : Fin 2 → Nat :=
  let c3 : Index := 3#32
  let arg0 : BitVec 32 := BitVec.ofNat 32 (i 0).val
  let v33 : Index := Scalar.indexCast arg0
  ![3, v33.toNat]
def k0_off9 (i : grid0.Coords) : Fin 2 → Nat :=
  let c4 : Index := 4#32
  let arg0 : BitVec 32 := BitVec.ofNat 32 (i 0).val
  let v37 : Index := Scalar.indexCast arg0
  ![4, v37.toNat]
def k0_cond1 (i : grid0.Coords) (v1 : BitVec 32) (v5 : BitVec 32) : BitVec 1 :=
  let arg0 : BitVec 32 := BitVec.ofNat 32 (i 0).val
  let c0_i32_1 : BitVec 32 := 0#32
  let v6 : BitVec 1 := Scalar.cmpi .eq arg0 c0_i32_1
  let v7 : BitVec 1 := Scalar.cmpi .ne v1 v5
  let v8 : BitVec 1 := Scalar.ori v6 v7
  let v9 : BitVec 32 := Scalar.extui v8
  let c0_i32_2 : BitVec 32 := 0#32
  let v10 : BitVec 1 := Scalar.cmpi .ne v9 c0_i32_2
  v10

def k0_cond3 (v23 : BitVec 32) : BitVec 1 :=
  let c1_i32_8 : BitVec 32 := 1#32
  let v24 : BitVec 1 := Scalar.cmpi .eq v23 c1_i32_8
  let v25 : BitVec 32 := Scalar.extui v24
  let c0_i32_9 : BitVec 32 := 0#32
  let v26 : BitVec 1 := Scalar.cmpi .ne v25 c0_i32_9
  v26

def cc0_transform_0 (k0_off1_inb : ∀ i : grid0.Coords, ∀ a, (k0_off1 i) a + S1x1.size a ≤ S5x32.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S5x32) ![0, v0.toNat] S1x1.size (k0_off1_inb i)) numel1_S1x1
  let c0_i32 : BitVec 32 := 0#32
  let c0_i32_0 : BitVec 32 := 0#32
  ![v1.toNat, c0_i32.toNat]

def cc0_transform_1 (k0_off2_inb : ∀ i : grid0.Coords, ∀ a, (k0_off2 i) a + S1x1.size a ≤ S5x32.size a) (numel1_S1x1 : S1x1.numel = 1) (pf : pre0.Contents (Elt F)) (i : grid0.Coords) : Fin 3 → Nat :=
  let arg0 : BitVec 32 := BitVec.ofNat 32 (i 0).val
  let c1 : Index := 1#32
  let v0 : Index := Scalar.indexCast arg0
  let v1 : BitVec 32 := pf.at 0 (Rect.unit (s := S5x32) ![1, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_2 (k0_off2_inb : ∀ i : grid0.Coords, ∀ a, (k0_off2 i) a + S1x1.size a ≤ S5x32.size a) (numel1_S1x1 : S1x1.numel = 1) (pf : pre0.Contents (Elt F)) (i : grid0.Coords) : Fin 3 → Nat :=
  let arg0 : BitVec 32 := BitVec.ofNat 32 (i 0).val
  let c1 : Index := 1#32
  let v0 : Index := Scalar.indexCast arg0
  let v1 : BitVec 32 := pf.at 0 (Rect.unit (s := S5x32) ![1, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1x1.size a ≤ S5x32.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S5x32) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x520 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GroupedRefIdeal.lean ====
abbrev S5x32 : Shape := ⟨2, ![5, 32]⟩
abbrev S4096x1024 : Shape := ⟨2, ![4096, 1024]⟩
abbrev S8x1024x512 : Shape := ⟨3, ![8, 1024, 512]⟩
abbrev S8x512 : Shape := ⟨2, ![8, 512]⟩
abbrev S4096 : Shape := ⟨1, ![4096]⟩
abbrev S1x15 : Shape := ⟨2, ![1, 15]⟩
abbrev S15 : Shape := ⟨1, ![15]⟩
abbrev S4096x1 : Shape := ⟨2, ![4096, 1]⟩
abbrev S_ : Shape := ⟨0, ![]⟩
abbrev S4096x15 : Shape := ⟨2, ![4096, 15]⟩
abbrev S4096x15x1 : Shape := ⟨3, ![4096, 15, 1]⟩
abbrev S15x1 : Shape := ⟨2, ![15, 1]⟩
abbrev S8 : Shape := ⟨1, ![8]⟩
abbrev S1x8 : Shape := ⟨2, ![1, 8]⟩
abbrev S15x8 : Shape := ⟨2, ![15, 8]⟩
abbrev S1x15x8 : Shape := ⟨3, ![1, 15, 8]⟩
abbrev S4096x15x8 : Shape := ⟨3, ![4096, 15, 8]⟩
abbrev S4096x8x512 : Shape := ⟨3, ![4096, 8, 512]⟩
abbrev S1x8x512 : Shape := ⟨3, ![1, 8, 512]⟩
abbrev S4096x15x8x1 : Shape := ⟨4, ![4096, 15, 8, 1]⟩
abbrev S4096x15x8x512 : Shape := ⟨4, ![4096, 15, 8, 512]⟩
abbrev S4096x1x8x512 : Shape := ⟨4, ![4096, 1, 8, 512]⟩
abbrev S4096x512 : Shape := ⟨2, ![4096, 512]⟩
abbrev S4096x8 : Shape := ⟨2, ![4096, 8]⟩
abbrev S4096x520 : Shape := ⟨2, ![4096, 520]⟩
abbrev S4096x1x520 : Shape := ⟨3, ![4096, 1, 520]⟩

abbrev nBuf : Space → Nat
  | .hbm => 91
  | .vmem => 0
  | .smem => 0
  | _ => 0

abbrev bufTy : (tb : Table) → Fin (tcTables nBuf tb) → BufTy
  | .hbm, ⟨0, _⟩ => ⟨S5x32, .i32⟩
  | .hbm, ⟨1, _⟩ => ⟨S4096x1024, .f32⟩
  | .hbm, ⟨2, _⟩ => ⟨S8x1024x512, .f32⟩
  | .hbm, ⟨3, _⟩ => ⟨S8x512, .f32⟩
  | .hbm, ⟨4, _⟩ => ⟨S4096, .i32⟩
  | .hbm, ⟨5, _⟩ => ⟨S1x15, .i32⟩
  | .hbm, ⟨6, _⟩ => ⟨S15, .i32⟩
  | .hbm, ⟨7, _⟩ => ⟨S1x15, .i32⟩
  | .hbm, ⟨8, _⟩ => ⟨S15, .i32⟩
  | .hbm, ⟨9, _⟩ => ⟨S1x15, .i32⟩
  | .hbm, ⟨10, _⟩ => ⟨S15, .i32⟩
  | .hbm, ⟨11, _⟩ => ⟨S1x15, .i32⟩
  | .hbm, ⟨12, _⟩ => ⟨S15, .i32⟩
  | .hbm, ⟨13, _⟩ => ⟨S1x15, .i32⟩
  | .hbm, ⟨14, _⟩ => ⟨S15, .i32⟩
  | .hbm, ⟨15, _⟩ => ⟨S4096, .i32⟩
  | .hbm, ⟨16, _⟩ => ⟨S4096x1, .i32⟩
  | .hbm, ⟨17, _⟩ => ⟨S_, .i32⟩
  | .hbm, ⟨18, _⟩ => ⟨S15, .i32⟩
  | .hbm, ⟨19, _⟩ => ⟨S15, .i32⟩
  | .hbm, ⟨20, _⟩ => ⟨S1x15, .i32⟩
  | .hbm, ⟨21, _⟩ => ⟨S4096x15, .i32⟩
  | .hbm, ⟨22, _⟩ => ⟨S4096x15, .i32⟩
  | .hbm, ⟨23, _⟩ => ⟨S4096x15, .i1⟩
  | .hbm, ⟨24, _⟩ => ⟨S_, .i32⟩
  | .hbm, ⟨25, _⟩ => ⟨S15, .i32⟩
  | .hbm, ⟨26, _⟩ => ⟨S15, .i32⟩
  | .hbm, ⟨27, _⟩ => ⟨S_, .i32⟩
  | .hbm, ⟨28, _⟩ => ⟨S15, .i32⟩
  | .hbm, ⟨29, _⟩ => ⟨S15, .i32⟩
  | .hbm, ⟨30, _⟩ => ⟨S1x15, .i32⟩
  | .hbm, ⟨31, _⟩ => ⟨S4096x15, .i32⟩
  | .hbm, ⟨32, _⟩ => ⟨S4096x15, .i32⟩
  | .hbm, ⟨33, _⟩ => ⟨S4096x15, .i1⟩
  | .hbm, ⟨34, _⟩ => ⟨S4096x15, .i1⟩
  | .hbm, ⟨35, _⟩ => ⟨S_, .i32⟩
  | .hbm, ⟨36, _⟩ => ⟨S15, .i32⟩
  | .hbm, ⟨37, _⟩ => ⟨S15, .i1⟩
  | .hbm, ⟨38, _⟩ => ⟨S1x15, .i1⟩
  | .hbm, ⟨39, _⟩ => ⟨S4096x15, .i1⟩
  | .hbm, ⟨40, _⟩ => ⟨S4096x15, .i1⟩
  | .hbm, ⟨41, _⟩ => ⟨S1x15, .i32⟩
  | .hbm, ⟨42, _⟩ => ⟨S4096x15, .i32⟩
  | .hbm, ⟨43, _⟩ => ⟨S4096x15, .i32⟩
  | .hbm, ⟨44, _⟩ => ⟨S4096x15, .i1⟩
  | .hbm, ⟨45, _⟩ => ⟨S4096x15, .i1⟩
  | .hbm, ⟨46, _⟩ => ⟨S1x15, .i32⟩
  | .hbm, ⟨47, _⟩ => ⟨S4096x15, .i32⟩
  | .hbm, ⟨48, _⟩ => ⟨S4096x15, .i32⟩
  | .hbm, ⟨49, _⟩ => ⟨S4096x15, .i1⟩
  | .hbm, ⟨50, _⟩ => ⟨S4096x15, .i1⟩
  | .hbm, ⟨51, _⟩ => ⟨S4096x15x1, .i1⟩
  | .hbm, ⟨52, _⟩ => ⟨S15x1, .i32⟩
  | .hbm, ⟨53, _⟩ => ⟨S8, .i32⟩
  | .hbm, ⟨54, _⟩ => ⟨S1x8, .i32⟩
  | .hbm, ⟨55, _⟩ => ⟨S15x8, .i32⟩
  | .hbm, ⟨56, _⟩ => ⟨S15x8, .i32⟩
  | .hbm, ⟨57, _⟩ => ⟨S15x8, .i1⟩
  | .hbm, ⟨58, _⟩ => ⟨S1x15x8, .i1⟩
  | .hbm, ⟨59, _⟩ => ⟨S4096x15x8, .i1⟩
  | .hbm, ⟨60, _⟩ => ⟨S4096x15x8, .i1⟩
  | .hbm, ⟨61, _⟩ => ⟨S4096x15x8, .i1⟩
  | .hbm, ⟨62, _⟩ => ⟨S4096x8x512, .f32⟩
  | .hbm, ⟨63, _⟩ => ⟨S1x8x512, .f32⟩
  | .hbm, ⟨64, _⟩ => ⟨S4096x8x512, .f32⟩
  | .hbm, ⟨65, _⟩ => ⟨S4096x8x512, .f32⟩
  | .hbm, ⟨66, _⟩ => ⟨S4096x15x8x1, .i1⟩
  | .hbm, ⟨67, _⟩ => ⟨S4096x15x8x512, .i1⟩
  | .hbm, ⟨68, _⟩ => ⟨S4096x1x8x512, .f32⟩
  | .hbm, ⟨69, _⟩ => ⟨S4096x15x8x512, .f32⟩
  | .hbm, ⟨70, _⟩ => ⟨S_, .f32⟩
  | .hbm, ⟨71, _⟩ => ⟨S4096x15x8x512, .f32⟩
  | .hbm, ⟨72, _⟩ => ⟨S4096x15x8x512, .f32⟩
  | .hbm, ⟨73, _⟩ => ⟨S_, .f32⟩
  | .hbm, ⟨74, _⟩ => ⟨S4096x8x512, .f32⟩
  | .hbm, ⟨75, _⟩ => ⟨S_, .f32⟩
  | .hbm, ⟨76, _⟩ => ⟨S4096x512, .f32⟩
  | .hbm, ⟨77, _⟩ => ⟨S4096x15x8, .f32⟩
  | .hbm, ⟨78, _⟩ => ⟨S_, .f32⟩
  | .hbm, ⟨79, _⟩ => ⟨S4096x8, .f32⟩
  | .hbm, ⟨80, _⟩ => ⟨S4096x520, .f32⟩
  | .hbm, ⟨81, _⟩ => ⟨S4096x1x520, .f32⟩
  | .hbm, ⟨82, _⟩ => ⟨S_, .i32⟩
  | .hbm, ⟨83, _⟩ => ⟨S4096, .i32⟩
  | .hbm, ⟨84, _⟩ => ⟨S4096, .i1⟩
  | .hbm, ⟨85, _⟩ => ⟨S_, .i32⟩
  | .hbm, ⟨86, _⟩ => ⟨S4096, .i32⟩
  | .hbm, ⟨87, _⟩ => ⟨S4096, .i32⟩
  | .hbm, ⟨88, _⟩ => ⟨S4096, .i32⟩
  | .hbm, ⟨89, _⟩ => ⟨S4096x1, .i32⟩
  | .hbm, ⟨90, _⟩ => ⟨S4096x1x520, .f32⟩
  | _, _ => ⟨S5x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst : Ref sig .tc := ⟨.hbm, 70, rfl⟩
abbrev main_v61 : Ref sig .tc := ⟨.hbm, 71, rfl⟩
abbrev main_v62 : Ref sig .tc := ⟨.hbm, 72, rfl⟩
abbrev main_cst_3 : Ref sig .tc := ⟨.hbm, 73, rfl⟩
abbrev main_v63 : Ref sig .tc := ⟨.hbm, 74, rfl⟩
abbrev main_cst_4 : Ref sig .tc := ⟨.hbm, 75, rfl⟩
abbrev main_v64 : Ref sig .tc := ⟨.hbm, 76, rfl⟩
abbrev main_v65 : Ref sig .tc := ⟨.hbm, 77, rfl⟩
abbrev main_cst_5 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_c_6 : Ref sig .tc := ⟨.hbm, 82, rfl⟩
abbrev main_v69 : Ref sig .tc := ⟨.hbm, 83, rfl⟩
abbrev main_v70 : Ref sig .tc := ⟨.hbm, 84, rfl⟩
abbrev main_c_7 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩

abbrev nD : Nat := 1
abbrev τ : Topo := Topo.v7x

variable {F : FTy → Type} [FloatOps F]
-- ==== Proof.Setup.lean ====
/-
  The launch set-up of the dispatch kernel: the program as the SparseCore launch theorem sees it, the ghost state, the
  buffers the tiles touch, and the closed forms of a tile's own semaphores and scratch buffers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.ShareLeaves
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Disp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_arg1
abbrev xLoc (d : Dev nD) : Loc nD τ sig := (SparseCore.T d).loc main_v2
abbrev oLoc (d : Dev nD) : Loc nD τ sig := (SparseCore.T d).loc main_v3_0
abbrev rLoc (d : Dev nD) : Loc nD τ sig := (SparseCore.T d).loc main_v3_1
abbrev sLoc (d : Dev nD) : Loc nD τ sig := (SparseCore.T d).loc main_v3_2

section Tile

variable (d : Dev nD) (L : grid0.Coords)

abbrev cV (L : grid0.Coords) : Fin τ.nSC := (L 0).castLE hcore0
abbrev jV (L : grid0.Coords) : Fin τ.nSub := (L 1).castLE hsub0
/-- The thread of the tile at `L`. -/
abbrev thr (d : Dev nD) (L : grid0.Coords) : Thread nD τ := V d (cV L) (jV L)
/-- The tile's number among the thirty-two. -/
abbrev wid (L : grid0.Coords) : ℕ := 2 * (L 1).val + (L 0).val

theorem wid_lt : wid L < 32 := by
  have h0 : (L 0).val < 2 := (L 0).isLt
  have h1 : (L 1).val < 16 := (L 1).isLt
  unfold wid; omega

abbrev cell (d : Dev nD) (c : Fin τ.nSC) (i : Fin τ.nSub) (k : DmaSem sig) : GSem nD τ sig := (V d c i, .dma k)

theorem cell_mem (k : DmaSem sig) (h : (SemLoc.dma k : SemLoc sig).isScoped .scVector = true) :
    cell d (cV L) (jV L) k ∈ ownCells (V d (cV L) (jV L)) := mem_ownCells.mpr ⟨rfl, h⟩

theorem cell_ne {k k' : DmaSem sig} (h : k ≠ k') : cell d (cV L) (jV L) k ≠ cell d (cV L) (jV L) k' :=
  fun e => h (SemLoc.dma.inj (Prod.mk.inj e).2)

/-- What is left of a tile's own cells once its seven transfer semaphores are taken out. -/
abbrev restCells : Finset (GSem nD τ sig) :=
  (((((((ownCells (V d (cV L) (jV L))).erase (cell d (cV L) (jV L) cc0_scratch9.sem)).erase (cell d (cV L) (jV L) cc0_scratch10.sem)).erase
    (cell d (cV L) (jV L) cc0_scratch11.sem)).erase (cell d (cV L) (jV L) cc0_scratch12.sem)).erase (cell d (cV L) (jV L) cc0_scoped0.sem)).erase
    (cell d (cV L) (jV L) cc0_scoped1.sem)).erase (cell d (cV L) (jV L) cc0_scoped2.sem)

theorem ownSems0_V :
    (ownSems0 (V d (cV L) (jV L)) : sProp 𝕄)
      = iprop(semVal (cell d (cV L) (jV L) cc0_scratch9.sem) 0 ∗ semVal (cell d (cV L) (jV L) cc0_scratch10.sem) 0
          ∗ semVal (cell d (cV L) (jV L) cc0_scratch11.sem) 0 ∗ semVal (cell d (cV L) (jV L) cc0_scratch12.sem) 0
          ∗ semVal (cell d (cV L) (jV L) cc0_scoped0.sem) 0 ∗ semVal (cell d (cV L) (jV L) cc0_scoped1.sem) 0
          ∗ semVal (cell d (cV L) (jV L) cc0_scoped2.sem) 0
          ∗ bigSep (restCells d L) fun g => semVal g 0) := by
  unfold SparseCore.Cfg.ownSems0
  have hm : ∀ k : DmaSem sig, (SemLoc.dma k : SemLoc sig).isScoped .scVector = true → cell d (cV L) (jV L) k ∈ ownCells (V d (cV L) (jV L)) :=
    fun k h => cell_mem d L k h
  have hn : ∀ k k' : DmaSem sig, k ≠ k' → cell d (cV L) (jV L) k ≠ cell d (cV L) (jV L) k' := fun k k' h => cell_ne d L h
  rw [SparseCore.bigSep_erase' (i := cell d (cV L) (jV L) cc0_scratch9.sem) (hm _ (by decide)),
    SparseCore.bigSep_erase' (i := cell d (cV L) (jV L) cc0_scratch10.sem) (Finset.mem_erase.mpr ⟨hn _ _ (by decide), hm _ (by decide)⟩),
    SparseCore.bigSep_erase' (i := cell d (cV L) (jV L) cc0_scratch11.sem) (Finset.mem_erase.mpr ⟨hn _ _ (by decide), Finset.mem_erase.mpr ⟨hn _ _ (by decide), hm _ (by decide)⟩⟩),
    SparseCore.bigSep_erase' (i := cell d (cV L) (jV L) cc0_scratch12.sem) (Finset.mem_erase.mpr ⟨hn _ _ (by decide), Finset.mem_erase.mpr ⟨hn _ _ (by decide),
      Finset.mem_erase.mpr ⟨hn _ _ (by decide), hm _ (by decide)⟩⟩⟩),
    SparseCore.bigSep_erase' (i := cell d (cV L) (jV L) cc0_scoped0.sem) (Finset.mem_erase.mpr ⟨hn _ _ (by decide), Finset.mem_erase.mpr ⟨hn _ _ (by decide),
      Finset.mem_erase.mpr ⟨hn _ _ (by decide), Finset.mem_erase.mpr ⟨hn _ _ (by decide), hm _ (by decide)⟩⟩⟩⟩),
    SparseCore.bigSep_erase' (i := cell d (cV L) (jV L) cc0_scoped1.sem) (Finset.mem_erase.mpr ⟨hn _ _ (by decide), Finset.mem_erase.mpr ⟨hn _ _ (by decide),
      Finset.mem_erase.mpr ⟨hn _ _ (by decide), Finset.mem_erase.mpr ⟨hn _ _ (by decide), Finset.mem_erase.mpr ⟨hn _ _ (by decide), hm _ (by decide)⟩⟩⟩⟩⟩),
    SparseCore.bigSep_erase' (i := cell d (cV L) (jV L) cc0_scoped2.sem) (Finset.mem_erase.mpr ⟨hn _ _ (by decide), Finset.mem_erase.mpr ⟨hn _ _ (by decide),
      Finset.mem_erase.mpr ⟨hn _ _ (by decide), Finset.mem_erase.mpr ⟨hn _ _ (by decide), Finset.mem_erase.mpr ⟨hn _ _ (by decide), Finset.mem_erase.mpr ⟨hn _ _ (by decide), hm _ (by decide)⟩⟩⟩⟩⟩⟩)]

/-- A scratch buffer of the tile, at some contents. -/
abbrev scr (b : Ref sig .scVector) : sProp 𝕄 := iprop(∃ f, (V d (cV L) (jV L)).loc b ↦{fullShare} f)

theorem ref_mem (b : Ref sig .scVector) (h : ((Proc.scVector (cV L) (jV L)).devRef b).owner = .proc (Proc.scVector (cV L) (jV L))) :
    (Proc.scVector (cV L) (jV L)).devRef b ∈ ownRefs (τ := τ) (.scVector (cV L) (jV L)) :=
  SparseCore.Cfg.mem_ownRefs_of_owner (p := Proc.scVector (cV L) (jV L)) (b := (Proc.scVector (cV L) (jV L)).devRef b) h

/-- What is left of a tile's own buffers once the ten scratch buffers of the kernel are taken out. -/
abbrev restRefs : Finset (DevRef τ sig) :=
  ([cc0_scratch0, cc0_scratch1, cc0_scratch2, cc0_scratch3, cc0_scratch4, cc0_scratch5, cc0_scratch6, cc0_scratch7, cc0_scratch8,
    cc0_scratch13] : List (Ref sig .scVector)).foldl (fun s b => s.erase ((Proc.scVector (cV L) (jV L)).devRef b)) (ownRefs (τ := τ) (.scVector (cV L) (jV L)))

theorem ownBufs_V :
    (ownBufs (V d (cV L) (jV L)) : sProp 𝕄)
      = iprop(scr d L cc0_scratch0 ∗ scr d L cc0_scratch1 ∗ scr d L cc0_scratch2 ∗ scr d L cc0_scratch3 ∗ scr d L cc0_scratch4
          ∗ scr d L cc0_scratch5 ∗ scr d L cc0_scratch6 ∗ scr d L cc0_scratch7 ∗ scr d L cc0_scratch8 ∗ scr d L cc0_scratch13
          ∗ bigSep (restRefs L) fun b => iprop(∃ f, ((d, b) : Loc nD τ sig) ↦{fullShare} f)) := by
  unfold SparseCore.Cfg.ownBufs restRefs
  simp only [List.foldl]
  have hm : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) := fun b h => ref_mem L b h
  have hn : ∀ b b' : Ref sig .scVector, b ≠ b' → (Proc.scVector (cV L) (jV L)).devRef b ≠ (Proc.scVector (cV L) (jV L)).devRef b' :=
    fun b b' h e => h (Proc.devRef_injective _ e)
  refine (SparseCore.bigSep_erase' (hm cc0_scratch0 rfl)).trans ?_
  rw [SparseCore.bigSep_erase' (i := (Proc.scVector (cV L) (jV L)).devRef cc0_scratch1) (Finset.mem_erase.mpr ⟨hn _ _ (by decide), hm _ rfl⟩),
    SparseCore.bigSep_erase' (i := (Proc.scVector (cV L) (jV L)).devRef cc0_scratch2) (by simp only [Finset.mem_erase]; exact ⟨hn _ _ (by decide), hn _ _ (by decide), hm _ rfl⟩),
    SparseCore.bigSep_erase' (i := (Proc.scVector (cV L) (jV L)).devRef cc0_scratch3) (by simp only [Finset.mem_erase]; exact ⟨hn _ _ (by decide), hn _ _ (by decide), hn _ _ (by decide), hm _ rfl⟩),
    SparseCore.bigSep_erase' (i := (Proc.scVector (cV L) (jV L)).devRef cc0_scratch4) (by simp only [Finset.mem_erase]; exact ⟨hn _ _ (by decide), hn _ _ (by decide), hn _ _ (by decide), hn _ _ (by decide), hm _ rfl⟩),
    SparseCore.bigSep_erase' (i := (Proc.scVector (cV L) (jV L)).devRef cc0_scratch5) (by simp only [Finset.mem_erase]; exact ⟨hn _ _ (by decide), hn _ _ (by decide), hn _ _ (by decide), hn _ _ (by decide), hn _ _ (by decide), hm _ rfl⟩),
    SparseCore.bigSep_erase' (i := (Proc.scVector (cV L) (jV L)).devRef cc0_scratch6) (by simp only [Finset.mem_erase]; exact ⟨hn _ _ (by decide), hn _ _ (by decide), hn _ _ (by decide), hn _ _ (by decide), hn _ _ (by decide), hn _ _ (by decide), hm _ rfl⟩),
    SparseCore.bigSep_erase' (i := (Proc.scVector (cV L) (jV L)).devRef cc0_scratch7) (by simp only [Finset.mem_erase]; exact ⟨hn _ _ (by decide), hn _ _ (by decide), hn _ _ (by decide), hn _ _ (by decide), hn _ _ (by decide), hn _ _ (by decide), hn _ _ (by decide), hm _ rfl⟩),
    SparseCore.bigSep_erase' (i := (Proc.scVector (cV L) (jV L)).devRef cc0_scratch8) (by simp only [Finset.mem_erase]; exact ⟨hn _ _ (by decide), hn _ _ (by decide), hn _ _ (by decide), hn _ _ (by decide), hn _ _ (by decide), hn _ _ (by decide), hn _ _ (by decide), hn _ _ (by decide), hm _ rfl⟩),
    SparseCore.bigSep_erase' (i := (Proc.scVector (cV L) (jV L)).devRef cc0_scratch13) (by simp only [Finset.mem_erase]; exact ⟨hn _ _ (by decide), hn _ _ (by decide), hn _ _ (by decide), hn _ _ (by decide), hn _ _ (by decide), hn _ _ (by decide), hn _ _ (by decide), hn _ _ (by decide), hn _ _ (by decide), hm _ rfl⟩)]

end Tile

end Cert.Proof.Disp

end
-- ==== Proof.Vals.lean ====
/-
  The sixteen-lane words the tiles compute, as functions of the type numbers: the running counts of the first loop, the
  lane vectors of totals, ends and offsets, and each chunk's ranks.
-/
module

public import proofs.«01_k».proof.Proof.Setup

@[expose] public section

set_option maxRecDepth 16384

noncomputable section

namespace Cert.Proof.Disp

open Cert.KernelIdeal Cert.KernelIdeal.Gen
open Idealize.ShloMosaic

/-- A vector of sixteen words. -/
abbrev V16 : Type := IVec S16 32

/-- The type numbers as the kernel holds them. -/
abbrev Ids : Type := S4096.Idx → BitVec 32

def bc (c : BitVec 32) : V16 := broadcast S16 c
def lane : V16 := iota .scVector S16 32 [0] iota_S16_d0_w32_scVector
def atLane (e : BitVec 32) : IVec S16 1 := cmpi .eq lane (bc e)
def last (v : V16) : BitVec 32 := extractAt ![15] v inpos_S16_p15
def isTy (e : BitVec 32) (tv : V16) : IVec S16 1 := cmpi .eq tv (bc e)
def ind (e : BitVec 32) (tv : V16) : V16 := select (isTy e tv) (bc 1#32) (bc 0#32)
def total (v : V16) : BitVec 32 := last (scan .sum v)
/-- The word `x` at lane `e`, zero elsewhere. -/
def put (e x : BitVec 32) : V16 := select (atLane e) (bc x) (bc 0#32)
/-- Lane `e` of `v`, as the kernel reads it: the sum of `v` masked to the lane. -/
def get (e : BitVec 32) (v : V16) : BitVec 32 := total (select (atLane e) v (bc 0#32))

/-- The sixteen type numbers from entry `16 * k` on. -/
def tvAt (ft : Ids) (k : ℕ) : V16 := fun j => if h : 16 * k + (j 0).val < 4096 then ft (fun | 0 => ⟨16 * k + (j 0).val, h⟩) else 0#32

/-- How often type `e` occurs among the first `k` groups of sixteen, lane by lane. -/
def accV (ft : Ids) (e : BitVec 32) : ℕ → V16
  | 0 => bc 0#32
  | k + 1 => addi (accV ft e k) (ind e (tvAt ft k))

/-- The counts snapshot at the tile's first group. -/
def preRow (ft : Ids) (w : ℕ) (e : ℕ) : V16 := accV ft (BitVec.ofNat 32 e) (8 * w)
def pre8 (ft : Ids) (w : ℕ) : S8x16.Idx → BitVec 32 := fun j => preRow ft w (j 0).val (fun | 0 => j 1)

/-- Totals of the eight types, one a lane. -/
def sumLanes (f : BitVec 32 → V16) : ℕ → V16
  | 0 => bc 0#32
  | e + 1 => addi (sumLanes f e) (put (BitVec.ofNat 32 e) (total (f (BitVec.ofNat 32 e))))
def totals (ft : Ids) : V16 := sumLanes (fun e => accV ft e 256) 8
def pres (ft : Ids) (w : ℕ) : V16 := sumLanes (fun e => accV ft e (8 * w)) 8
def ends (ft : Ids) : V16 := scan .sum (totals ft)
def offs (ft : Ids) : V16 := subi (ends ft) (totals ft)
def base0 (ft : Ids) (w : ℕ) : V16 := addi (offs ft) (pres ft w)

def cs (e : BitVec 32) (tv : V16) : V16 := scan .sum (ind e tv)
def cmax (e : BitVec 32) (tv : V16) : BitVec 32 := last (xori (scan .max (xori (cs e tv) (bc 2147483648#32))) (bc 2147483648#32))
def rvStep (e : BitVec 32) (tv base rv : V16) : V16 := select (isTy e tv) (subi (addi (bc (get e base)) (cs e tv)) (bc 1#32)) rv
def baseStep (e : BitVec 32) (tv base : V16) : V16 := addi base (put e (cmax e tv))
/-- The pair (base vector, ranks) after the first `e` types of a chunk. -/
def chunk (tv base : V16) : ℕ → V16 × V16
  | 0 => (base, bc 0#32)
  | e + 1 => (baseStep (BitVec.ofNat 32 e) tv (chunk tv base e).1, rvStep (BitVec.ofNat 32 e) tv (chunk tv base e).1 (chunk tv base e).2)

/-- The base vector before chunk `v` of tile `w`. -/
def baseAt (ft : Ids) (w : ℕ) : ℕ → V16
  | 0 => base0 ft w
  | v + 1 => (chunk (tvAt ft (8 * w + v)) (baseAt ft w v) 8).1
/-- The ranks of chunk `v` of tile `w`. -/
def rankV (ft : Ids) (w v : ℕ) : V16 := (chunk (tvAt ft (8 * w + v)) (baseAt ft w v) 8).2
/-- The list entries of chunk `v` of tile `w` for quarter `j`. -/
def listV (ft : Ids) (w v : ℕ) (j : BitVec 32) : V16 := addi (muli (rankV ft w v) (bc 4#32)) (bc j)

end Cert.Proof.Disp

end
-- ==== Proof.Loop.lean ====
module

public import proofs.«01_k».proof.Proof.Vals

@[expose] public section

set_option maxRecDepth 16384

noncomputable section

namespace Cert.Proof.Disp

open Cert.KernelIdeal Cert.KernelIdeal.Gen
open Idealize.ShloMosaic

variable {F : FTy → Type} [FloatOps F]

/-- The eight rows of counts as stored at the tile's first group: the snapshot. -/
theorem pre8_rows (v : View sig Kind.scVector Space.vmem S8x16 EltTy.i32) (g : v.ty.Contents (Elt F)) (ft : Ids) (w : ℕ) (k : ℕ) (hk : k = 8 * w)
    (i7 : ∀ a, (![7, 0] : Fin 2 → ℕ) a + S1x16.size a ≤ S8x16.size a) (i6 : ∀ a, (![6, 0] : Fin 2 → ℕ) a + S1x16.size a ≤ S8x16.size a)
    (i5 : ∀ a, (![5, 0] : Fin 2 → ℕ) a + S1x16.size a ≤ S8x16.size a) (i4 : ∀ a, (![4, 0] : Fin 2 → ℕ) a + S1x16.size a ≤ S8x16.size a)
    (i3 : ∀ a, (![3, 0] : Fin 2 → ℕ) a + S1x16.size a ≤ S8x16.size a) (i2 : ∀ a, (![2, 0] : Fin 2 → ℕ) a + S1x16.size a ≤ S8x16.size a)
    (i1 : ∀ a, (![1, 0] : Fin 2 → ℕ) a + S1x16.size a ≤ S8x16.size a) (i0 : ∀ a, (![0, 0] : Fin 2 → ℕ) a + S1x16.size a ≤ S8x16.size a)
    (h : S16.ShapeCasts S1x16) :
    v.read (Elt F) (v.writes (Elt F) g
        [⟨Rect.unit ![7, 0] S1x16.size i7, shapeCast S1x16 (accV ft 7#32 k) h⟩,
          ⟨Rect.unit ![6, 0] S1x16.size i6, shapeCast S1x16 (accV ft 6#32 k) h⟩,
          ⟨Rect.unit ![5, 0] S1x16.size i5, shapeCast S1x16 (accV ft 5#32 k) h⟩,
          ⟨Rect.unit ![4, 0] S1x16.size i4, shapeCast S1x16 (accV ft 4#32 k) h⟩,
          ⟨Rect.unit ![3, 0] S1x16.size i3, shapeCast S1x16 (accV ft 3#32 k) h⟩,
          ⟨Rect.unit ![2, 0] S1x16.size i2, shapeCast S1x16 (accV ft 2#32 k) h⟩,
          ⟨Rect.unit ![1, 0] S1x16.size i1, shapeCast S1x16 (accV ft 1#32 k) h⟩,
          ⟨Rect.unit ![0, 0] S1x16.size i0, shapeCast S1x16 (accV ft 0#32 k) h⟩]) = pre8 ft w := by
  subst hk
  have row : ∀ (e : ℕ) (hi : ∀ a, (![e, 0] : Fin 2 → ℕ) a + S1x16.size a ≤ S8x16.size a) (x : (Rect.unit (s := S8x16) ![e, 0] S1x16.size hi).shape.Idx),
      (shapeCast S1x16 (accV ft (BitVec.ofNat 32 e) (8 * w)) h : S1x16.Idx → BitVec 32) x = pre8 ft w ((Rect.unit (s := S8x16) ![e, 0] S1x16.size hi).emb x) := by
    intro e hi x
    show accV ft (BitVec.ofNat 32 e) (8 * w) _ = accV ft (BitVec.ofNat 32 _) (8 * w) _
    have h0 : (x 0).val = 0 := by have := (x 0).isLt; change (x 0).val < 1 at this; omega
    have e1 : (((Rect.unit (s := S8x16) ![e, 0] S1x16.size hi).emb x) 0).val = e := by
      show e + 1 * (x 0).val = e; omega
    rw [e1]
    congr 1
    refine Shape.reshapeEquiv_eq_of_rowMajor _ ?_
    refine (Shape.rowMajor_val_one (d := ![16]) _).trans (Eq.trans ?_ (Shape.rowMajor_val_two (d := ![1, 16]) _).symm)
    show 0 + 1 * (x 1).val = (x 0).val * 16 + (x 1).val
    omega
  funext y
  refine View.read_writes_apply_of_pieces v g (pre8 ft w) _ ?_ y ?_
  · intro p hp x
    simp only [List.mem_cons, List.not_mem_nil, or_false] at hp
    rcases hp with rfl | rfl | rfl | rfl | rfl | rfl | rfl | rfl
    · exact row 7 i7 x
    · exact row 6 i6 x
    · exact row 5 i5 x
    · exact row 4 i4 x
    · exact row 3 i3 x
    · exact row 2 i2 x
    · exact row 1 i1 x
    · exact row 0 i0 x
  · have mem : ∀ (e : ℕ) (hi : ∀ a, (![e, 0] : Fin 2 → ℕ) a + S1x16.size a ≤ S8x16.size a), (y 0).val = e → y ∈ (Rect.unit (s := S8x16) ![e, 0] S1x16.size hi).set := by
      intro e hi he
      rw [Rect.mem_set_unit]
      intro a
      match a with
      | 0 => exact ⟨he.ge, by show (y 0).val < e + 1; omega⟩
      | 1 => exact ⟨Nat.zero_le _, by have := (y 1).isLt; show (y 1).val < 0 + 16; change (y 1).val < 16 at this; omega⟩
    have h8 : (y 0).val < 8 := (y 0).isLt
    have hc : (y 0).val = 7 ∨ (y 0).val = 6 ∨ (y 0).val = 5 ∨ (y 0).val = 4 ∨ (y 0).val = 3 ∨ (y 0).val = 2 ∨ (y 0).val = 1 ∨ (y 0).val = 0 := by omega
    rcases hc with h | h | h | h | h | h | h | h
    · exact ⟨_, .head _, mem 7 i7 h⟩
    · exact ⟨_, .tail _ (.head _), mem 6 i6 h⟩
    · exact ⟨_, .tail _ (.tail _ (.head _)), mem 5 i5 h⟩
    · exact ⟨_, .tail _ (.tail _ (.tail _ (.head _))), mem 4 i4 h⟩
    · exact ⟨_, .tail _ (.tail _ (.tail _ (.tail _ (.head _)))), mem 3 i3 h⟩
    · exact ⟨_, .tail _ (.tail _ (.tail _ (.tail _ (.tail _ (.head _))))), mem 2 i2 h⟩
    · exact ⟨_, .tail _ (.tail _ (.tail _ (.tail _ (.tail _ (.tail _ (.head _)))))), mem 1 i1 h⟩
    · exact ⟨_, .tail _ (.tail _ (.tail _ (.tail _ (.tail _ (.tail _ (.tail _ (.head _))))))), mem 0 i0 h⟩

/-- A guard printed as a widened comparison tested against zero. -/
theorem guard_iff (a b : BitVec 32) : Scalar.cmpi .ne (Scalar.extui (Scalar.cmpi .eq a b) : BitVec 32) 0#32 = 1#1 ↔ a = b := by
  unfold Scalar.cmpi Scalar.extui IntOp.cmpi
  by_cases h : a = b
  · subst h
    simp only [beq_self_eq_true, iff_true]
    rfl
  · have hf : (a == b) = false := beq_eq_false_iff_ne.mpr h
    simp only [hf, h, iff_false]
    decide

/-- The snapshot's guard: the trip is the tile's first group of sixteen. -/
theorem snap_guard (l0 : Fin 2) (l1 : Fin 16) (k : Fin 256) :
    Scalar.cmpi .ne (Scalar.extui (Scalar.cmpi .eq (Scf.iv (0#32) 1#32 k.val)
      (Scalar.muli (Scalar.addi (Scalar.muli (BitVec.ofNat 32 l1.val) 2#32) (BitVec.ofNat 32 l0.val)) 8#32)) : BitVec 32) 0#32 = 1#1 ↔ k.val = 8 * (2 * l1.val + l0.val) := by
  rw [guard_iff]
  have h : ∀ (l0 : Fin 2) (l1 : Fin 16), (Scalar.muli (Scalar.addi (Scalar.muli (BitVec.ofNat 32 l1.val) 2#32) (BitVec.ofNat 32 l0.val)) 8#32) = BitVec.ofNat 32 (8 * (2 * l1.val + l0.val)) := by decide +kernel
  have h' : ∀ (k : Fin 256), Scf.iv (0#32) 1#32 k.val = BitVec.ofNat 32 k.val := by decide +kernel
  rw [h, h']
  constructor
  · intro e
    have := congrArg BitVec.toNat e
    simp only [BitVec.toNat_ofNat] at this
    omega
  · intro e; rw [e]

/-- Sixteen type numbers as the kernel loads them from its copy. -/
theorem tv_load (ft : Ids) (k : ℕ) (hk : k < 256) (off : Fin 1 → ℕ) (hoff : off = ![16 * k]) (inb : ∀ a, off a + S16.size a ≤ S4096.size a) :
    View.readAt (Elt F) (Memref.whole cc0_scratch0).view (Rect.unit (s := S4096) off S16.size inb).toLoadRect ft = tvAt ft k := by
  subst hoff
  funext j
  have hj : (j 0).val < 16 := (j 0).isLt
  unfold tvAt
  rw [dif_pos (by omega)]
  show ft _ = ft _
  congr 1
  funext a
  match a with
  | 0 => exact Fin.ext (show 16 * k + 1 * (j 0).val = 16 * k + (j 0).val by omega)

/-- A row of the snapshot as the kernel loads it. -/
theorem pre_load (ft : Ids) (w e : ℕ) (he : e < 8) (inb : ∀ a, (![e, 0] : Fin 2 → ℕ) a + S1x16.size a ≤ S8x16.size a) (h : S1x16.ShapeCasts S16) :
    shapeCast S16 (View.readAt (Elt F) (Memref.whole cc0_scratch1).view (Rect.unit (s := S8x16) ![e, 0] S1x16.size inb).toLoadRect (pre8 ft w)) h = preRow ft w e := by
  funext j
  show preRow ft w _ _ = preRow ft w e j
  have hr : Shape.reshapeEquiv h j = (fun | 0 => (⟨0, Nat.one_pos⟩ : Fin 1) | 1 => j 0 : S1x16.Idx) := by
    refine Shape.reshapeEquiv_eq_of_rowMajor _ ?_
    refine (Shape.rowMajor_val_two (d := ![1, 16]) _).trans (Eq.trans ?_ (Shape.rowMajor_val_one (d := ![16]) _).symm)
    show 0 * 16 + (j 0).val = (j 0).val
    omega
  rw [hr]
  have e0 : e + 1 * 0 = e := by omega
  show preRow ft w (e + 1 * 0) _ = preRow ft w e j
  rw [e0]
  congr 1
  funext a
  match a with
  | 0 => exact Fin.ext (show 0 + 1 * (j 0).val = (j 0).val by omega)

end Cert.Proof.Disp

end
-- ==== Proof.Lists.lean ====
/-
  The tile's stretch of ranks and its four index lists as whole blocks: what eight stores of sixteen entries leave.
-/
module

public import proofs.«01_k».proof.Proof.Loop

@[expose] public section

set_option maxRecDepth 16384

noncomputable section

namespace Cert.Proof.Disp

open Cert.KernelIdeal Cert.KernelIdeal.Gen
open Idealize.ShloMosaic

variable {F : FTy → Type} [FloatOps F]

/-- The tile's `r`th group of sixteen type numbers as the kernel loads it. -/
theorem tv_at (ft : Ids) (L : grid0.Coords) (r : Fin 8) (inb : ∀ a, k0_off2 L (BitVec.ofNat 32 r.val) a + S16.size a ≤ S4096.size a) :
    View.readAt (Elt F) (Memref.whole cc0_scratch0).view (Rect.unit (s := S4096) (k0_off2 L (BitVec.ofNat 32 r.val)) S16.size inb).toLoadRect ft
      = tvAt ft (8 * wid L + r.val) := by
  have hr : r.val < 8 := r.isLt
  refine tv_load ft (8 * wid L + r.val) (by have := wid_lt L; omega) _ ((k0_off2_eq L r).trans ?_) inb
  refine congrArg (fun n => ![n]) ?_
  show 256 * (L 1).val + 128 * (L 0).val + 16 * r.val = 16 * (8 * (2 * (L 1).val + (L 0).val) + r.val)
  omega

/-- Entry `p` of a vector of sixteen. -/
def ix16 (p : ℕ) (h : p < 16) : S16.Idx := fun | 0 => ⟨p, h⟩

/-- The ranks of tile `w`'s 128 nodes. -/
def rankBlk (ft : Ids) (w : ℕ) : S128.Idx → BitVec 32 := fun p => rankV ft w ((p 0).val / 16) (ix16 ((p 0).val % 16) (Nat.mod_lt _ (by decide)))

/-- The index list of the tile's `c`th scatter: entry `32 * j + q` names quarter `j` of the row of node `32 * c + q`. -/
def listBlk (ft : Ids) (w c : ℕ) : S128.Idx → BitVec 32 := fun p =>
  listV ft w (2 * c + (p 0).val % 32 / 16) (BitVec.ofNat 32 ((p 0).val / 32)) (ix16 ((p 0).val % 16) (Nat.mod_lt _ (by decide)))

/-- Eight stores of sixteen entries that tile a block of 128 leave the function they agree with. -/
theorem pieces16 (v : View sig Kind.scVector Space.vmem S128 EltTy.i32) (g : v.ty.Contents (Elt F)) (f : S128.Idx → BitVec 32)
    (o : Fin 8 → ℕ) (w : Fin 8 → V16) (inb : ∀ i a, (![o i] : Fin 1 → ℕ) a + S16.size a ≤ S128.size a)
    (hw : ∀ i (x : S16.Idx), w i x = f ((Rect.unit (s := S128) ![o i] S16.size (inb i)).emb x))
    (ho : ∀ y : Fin 128, ∃ i, o i ≤ y.val ∧ y.val < o i + 16) :
    v.read (Elt F) (v.writes (Elt F) g
      [⟨Rect.unit ![o 7] S16.size (inb 7), w 7⟩, ⟨Rect.unit ![o 6] S16.size (inb 6), w 6⟩, ⟨Rect.unit ![o 5] S16.size (inb 5), w 5⟩,
        ⟨Rect.unit ![o 4] S16.size (inb 4), w 4⟩, ⟨Rect.unit ![o 3] S16.size (inb 3), w 3⟩, ⟨Rect.unit ![o 2] S16.size (inb 2), w 2⟩,
        ⟨Rect.unit ![o 1] S16.size (inb 1), w 1⟩, ⟨Rect.unit ![o 0] S16.size (inb 0), w 0⟩]) = f := by
  funext y
  refine View.read_writes_apply_of_pieces v g f _ ?_ y ?_
  · intro p hp x
    simp only [List.mem_cons, List.not_mem_nil, or_false] at hp
    rcases hp with rfl | rfl | rfl | rfl | rfl | rfl | rfl | rfl
    · exact hw 7 x
    · exact hw 6 x
    · exact hw 5 x
    · exact hw 4 x
    · exact hw 3 x
    · exact hw 2 x
    · exact hw 1 x
    · exact hw 0 x
  · obtain ⟨i, h1, h2⟩ := ho (y 0)
    have mem : y ∈ (Rect.unit (s := S128) ![o i] S16.size (inb i)).set := by
      rw [Rect.mem_set_unit]
      intro a
      match a with
      | 0 => exact ⟨h1, h2⟩
    match i, mem with
    | 7, m => exact ⟨_, .head _, m⟩
    | 6, m => exact ⟨_, .tail _ (.head _), m⟩
    | 5, m => exact ⟨_, .tail _ (.tail _ (.head _)), m⟩
    | 4, m => exact ⟨_, .tail _ (.tail _ (.tail _ (.head _))), m⟩
    | 3, m => exact ⟨_, .tail _ (.tail _ (.tail _ (.tail _ (.head _)))), m⟩
    | 2, m => exact ⟨_, .tail _ (.tail _ (.tail _ (.tail _ (.tail _ (.head _))))), m⟩
    | 1, m => exact ⟨_, .tail _ (.tail _ (.tail _ (.tail _ (.tail _ (.tail _ (.head _)))))), m⟩
    | 0, m => exact ⟨_, .tail _ (.tail _ (.tail _ (.tail _ (.tail _ (.tail _ (.tail _ (.head _))))))), m⟩

/-- The eight stores of the ranks. -/
theorem rank_pieces (v : View sig Kind.scVector Space.vmem S128 EltTy.i32) (g : v.ty.Contents (Elt F)) (ft : Ids) (n : ℕ)
    (r : Fin 8 → V16) (hr : ∀ i, r i = rankV ft n i.val)
    (i0 : ∀ a, (![0] : Fin 1 → ℕ) a + S16.size a ≤ S128.size a) (i1 : ∀ a, (![16] : Fin 1 → ℕ) a + S16.size a ≤ S128.size a)
    (i2 : ∀ a, (![32] : Fin 1 → ℕ) a + S16.size a ≤ S128.size a) (i3 : ∀ a, (![48] : Fin 1 → ℕ) a + S16.size a ≤ S128.size a)
    (i4 : ∀ a, (![64] : Fin 1 → ℕ) a + S16.size a ≤ S128.size a) (i5 : ∀ a, (![80] : Fin 1 → ℕ) a + S16.size a ≤ S128.size a)
    (i6 : ∀ a, (![96] : Fin 1 → ℕ) a + S16.size a ≤ S128.size a) (i7 : ∀ a, (![112] : Fin 1 → ℕ) a + S16.size a ≤ S128.size a) :
    v.read (Elt F) (v.writes (Elt F) g
      [⟨Rect.unit ![112] S16.size i7, r 7⟩, ⟨Rect.unit ![96] S16.size i6, r 6⟩, ⟨Rect.unit ![80] S16.size i5, r 5⟩,
        ⟨Rect.unit ![64] S16.size i4, r 4⟩, ⟨Rect.unit ![48] S16.size i3, r 3⟩, ⟨Rect.unit ![32] S16.size i2, r 2⟩,
        ⟨Rect.unit ![16] S16.size i1, r 1⟩, ⟨Rect.unit ![0] S16.size i0, r 0⟩]) = rankBlk ft n := by
  refine pieces16 v g (rankBlk ft n) ![0, 16, 32, 48, 64, 80, 96, 112] r
    (fun i => match i with | 0 => i0 | 1 => i1 | 2 => i2 | 3 => i3 | 4 => i4 | 5 => i5 | 6 => i6 | 7 => i7) ?_ (by decide +kernel)
  intro i x
  have hx : (x 0).val < 16 := (x 0).isLt
  have ho : (![0, 16, 32, 48, 64, 80, 96, 112] : Fin 8 → ℕ) i = 16 * i.val := by
    revert i; decide
  rw [hr]
  show _ = rankV ft n ((_ + 1 * (x 0).val) / 16) _
  have e1 : ((![0, 16, 32, 48, 64, 80, 96, 112] : Fin 8 → ℕ) i + 1 * (x 0).val) / 16 = i.val := by rw [ho]; omega
  show _ = rankV ft n (((![0, 16, 32, 48, 64, 80, 96, 112] : Fin 8 → ℕ) i + 1 * (x 0).val) / 16) _
  rw [e1]
  congr 1
  funext a
  match a with
  | 0 => exact Fin.ext (show (x 0).val = ((![0, 16, 32, 48, 64, 80, 96, 112] : Fin 8 → ℕ) i + 1 * (x 0).val) % 16 by rw [ho]; omega)

/-- The eight stores of one index list: two chunks of sixteen nodes, four quarters each. -/
theorem list_pieces (v : View sig Kind.scVector Space.vmem S128 EltTy.i32) (g : v.ty.Contents (Elt F)) (ft : Ids) (n c : ℕ)
    (r : Fin 8 → V16) (hr : ∀ i, r i = listV ft n (2 * c + i.val / 4) (BitVec.ofNat 32 (i.val % 4)))
    (i0 : ∀ a, (![0] : Fin 1 → ℕ) a + S16.size a ≤ S128.size a) (i1 : ∀ a, (![16] : Fin 1 → ℕ) a + S16.size a ≤ S128.size a)
    (i2 : ∀ a, (![32] : Fin 1 → ℕ) a + S16.size a ≤ S128.size a) (i3 : ∀ a, (![48] : Fin 1 → ℕ) a + S16.size a ≤ S128.size a)
    (i4 : ∀ a, (![64] : Fin 1 → ℕ) a + S16.size a ≤ S128.size a) (i5 : ∀ a, (![80] : Fin 1 → ℕ) a + S16.size a ≤ S128.size a)
    (i6 : ∀ a, (![96] : Fin 1 → ℕ) a + S16.size a ≤ S128.size a) (i7 : ∀ a, (![112] : Fin 1 → ℕ) a + S16.size a ≤ S128.size a) :
    v.read (Elt F) (v.writes (Elt F) g
      [⟨Rect.unit ![112] S16.size i7, r 7⟩, ⟨Rect.unit ![80] S16.size i5, r 6⟩, ⟨Rect.unit ![48] S16.size i3, r 5⟩,
        ⟨Rect.unit ![16] S16.size i1, r 4⟩, ⟨Rect.unit ![96] S16.size i6, r 3⟩, ⟨Rect.unit ![64] S16.size i4, r 2⟩,
        ⟨Rect.unit ![32] S16.size i2, r 1⟩, ⟨Rect.unit ![0] S16.size i0, r 0⟩]) = listBlk ft n c := by
  refine pieces16 v g (listBlk ft n c) ![0, 32, 64, 96, 16, 48, 80, 112] r
    (fun i => match i with | 0 => i0 | 1 => i2 | 2 => i4 | 3 => i6 | 4 => i1 | 5 => i3 | 6 => i5 | 7 => i7) ?_ (by decide +kernel)
  intro i x
  have hx : (x 0).val < 16 := (x 0).isLt
  have ho : (![0, 32, 64, 96, 16, 48, 80, 112] : Fin 8 → ℕ) i = 32 * (i.val % 4) + 16 * (i.val / 4) := by
    revert i; decide
  have hi : i.val < 8 := i.isLt
  rw [hr]
  show _ = listV ft n (2 * c + ((![0, 32, 64, 96, 16, 48, 80, 112] : Fin 8 → ℕ) i + 1 * (x 0).val) % 32 / 16)
    (BitVec.ofNat 32 (((![0, 32, 64, 96, 16, 48, 80, 112] : Fin 8 → ℕ) i + 1 * (x 0).val) / 32)) _
  have e1 : ((![0, 32, 64, 96, 16, 48, 80, 112] : Fin 8 → ℕ) i + 1 * (x 0).val) % 32 / 16 = i.val / 4 := by rw [ho]; omega
  have e2 : ((![0, 32, 64, 96, 16, 48, 80, 112] : Fin 8 → ℕ) i + 1 * (x 0).val) / 32 = i.val % 4 := by rw [ho]; omega
  rw [e1, e2]
  congr 1
  funext a
  match a with
  | 0 => exact Fin.ext (show (x 0).val = ((![0, 32, 64, 96, 16, 48, 80, 112] : Fin 8 → ℕ) i + 1 * (x 0).val) % 16 by rw [ho]; omega)

/-- What the tile needs of its index lists: the rows are in range, no two entries name one row, and `own` holds of all. -/
structure ListsOK (ft : Ids) (w : ℕ) (own : ℕ → Prop) : Prop where
  lt : ∀ (c : Fin 4) x, (listBlk ft w c.val x).toNat < 16384
  inj : ∀ c : Fin 4, Function.Injective fun x => (listBlk ft w c.val x).toNat
  ne : ∀ a b : Fin 4, a ≠ b → ∀ x y, (listBlk ft w a.val x).toNat ≠ (listBlk ft w b.val y).toNat
  own : ∀ (c : Fin 4) x, own (listBlk ft w c.val x).toNat

end Cert.Proof.Disp

end
-- ==== Proof.Rows.lean ====
/-
  What the four indirect scatters leave in the sorted array: the row that an entry of a list names holds the entry's row of
  the tile's staging buffer, and the rows that no entry names stay.
-/
module

public import proofs.«01_k».proof.Proof.Lists

@[expose] public section

set_option maxRecDepth 16384

noncomputable section

namespace Cert.Proof.Disp

open Cert.KernelIdeal Cert.KernelIdeal.Gen

open Idealize.ShloMosaic
open Idealize.ShloMosaic.SparseCore (S V T)

variable {F : FTy → Type} [FloatOps F]

local notation "oS" => (Memref.slice (Memref.whole Cert.KernelIdeal.main_v3_0_scv : Memref Cert.KernelIdeal.sig Kind.scVector Space.hbm Cert.KernelIdeal.S16384x2x128 EltTy.f32) (Rect.unit (s := Cert.KernelIdeal.S16384x2x128) ![0, 0, 0] Cert.KernelIdeal.S16384x2x128.size Cert.KernelIdeal.Gen.inb_S16384x2x128_S16384x2x128_0_0_0) (fun _ => rfl))

section

variable (d : Dev nD) (c : Fin τ.nSC) (i : Fin τ.nSub)

theorem idxEquiv_symm_val {n : ℕ} {f g : Fin n → ℕ} (h : (⟨n, f⟩ : Shape) = ⟨n, g⟩) (j : (⟨n, g⟩ : Shape).Idx) (a : Fin n) :
    ((Shape.idxEquiv h).symm j a).val = (j a).val := by
  cases h; rfl

theorem oS_emb (z : S16384x2x128.Idx) : (oS).view.emb z = z := by
  funext a
  exact Fin.ext (show (![0, 0, 0] : Fin 3 → ℕ) a + 1 * (z a).val = (z a).val by
    match a with
    | 0 => show 0 + 1 * _ = _; omega
    | 1 => show 0 + 1 * _ = _; omega
    | 2 => show 0 + 1 * _ = _; omega)

theorem mem_row (k : Fin (S16384x2x128.size 0)) (z : S16384x2x128.Idx) :
    z ∈ ((oS).view.slice (S16384x2x128.rowRect 0 k)).set ↔ z 0 = k := by
  constructor
  · intro h
    obtain ⟨j, -, hj⟩ := Finset.mem_map.mp h
    have e : (oS).view.emb ((S16384x2x128.rowRect 0 k).emb j) = z := hj
    rw [oS_emb] at e
    rw [← e]; exact Shape.rowRect_emb_axis 0 k j
  · rintro rfl
    refine Finset.mem_map.mpr ⟨S16384x2x128.rowProj 0 z, Finset.mem_univ _, ?_⟩
    show (oS).view.emb ((S16384x2x128.rowRect 0 (z 0)).emb (S16384x2x128.rowProj 0 z)) = z
    rw [oS_emb, Shape.rowRect_emb_rowProj]

theorem mem_rows (own : ℕ → Prop) (z : S16384x2x128.Idx) : z ∈ SparseCore.rowsWhere (oS).view 0 own ↔ own (z 0).val := by
  rw [SparseCore.mem_rowsWhere]
  constructor
  · rintro ⟨k, hk, hz⟩
    rw [(mem_row k z).mp hz]; exact hk
  · intro h; exact ⟨z 0, h, (mem_row _ z).mpr rfl⟩

theorem rows_val (l : S128.Idx → BitVec 32) (hn : S128.numel = 128) (h : ∀ x, (l x).toNat < 16384) (p : S128.Idx) (k : Fin 128) (hk : k.val = (p 0).val) :
    (SparseCore.rows (F := F) l hn h k).val = (l p).toNat := by
  have e : S128.rowMajor.symm (k.cast hn.symm) = p := by
    rw [Equiv.symm_apply_eq]
    exact Fin.ext (hk.trans (Shape.rowMajor_val_one p).symm)
  show (l (S128.rowMajor.symm (k.cast hn.symm))).toNat = _
  rw [e]

variable (src : Memref sig .scVector .vmem S128x2x128 .f32) (l : S128.Idx → BitVec 32) (hn : S128.numel = 128)
  (h : ∀ x, (l x).toNat < 16384)
  (fs : Buf (Elt F) (src.view.loc (V d c i : Thread nD τ))) (fd : Buf (Elt F) ((oS).view.loc (V d c i : Thread nD τ)))

/-- The row that entry `p` of the list names holds row `p` of the source. -/
theorem scat_hit (hinj : Function.Injective fun x => (l x).toNat) (y : S128x2x128.Idx) (p : S128.Idx) (hp : (p 0).val = (y 0).val)
    (z : S16384x2x128.Idx) (h0 : (z 0).val = (l p).toNat) (h1 : (z 1).val = (y 1).val) (h2 : (z 2).val = (y 2).val) :
    SparseCore.scatterBuf (V d c i) (oS).view gathers_S16384x2x128_S128x2x128.axis (SparseCore.rows (F := F) l hn h)
      (SparseCore.scatterRowPayload (V d c i) src gathers_S16384x2x128_S128x2x128 fs) fd z = src.view.read (Elt F) fs y := by
  have hk : SparseCore.rows (F := F) l hn h (y 0) = z 0 := Fin.ext ((rows_val l hn h p (y 0) hp.symm).trans h0.symm)
  have hz : z ∈ ((oS).view.slice (S16384x2x128.rowRect 0 (SparseCore.rows (F := F) l hn h (y 0)))).set := (mem_row _ z).mpr hk.symm
  refine (SparseCore.scatterBuf_of_mem (V d c i) (oS).view _ _ (SparseCore.rows_injective hinj) _ fd (k := y 0) hz).trans ?_
  obtain ⟨j, -, hj⟩ := Finset.mem_map.mp hz
  have e : (oS).view.emb ((S16384x2x128.rowRect 0 (SparseCore.rows (F := F) l hn h (y 0))).emb j) = z := hj
  rw [oS_emb] at e
  rw [← hj]
  refine (View.write_emb_of_mem _ _ (Finset.mem_univ j)).trans ?_
  rw [cast_eq]
  show src.view.read (Elt F) fs ((S128x2x128.rowRect 0 (y 0)).emb _) = _
  congr 1
  funext a
  refine Fin.ext ((Shape.rowRect_emb_val 0 (y 0) _ a).trans ?_)
  match a with
  | 0 => rfl
  | 1 =>
    refine Eq.trans ?_ h1
    rw [← e]
    refine Eq.trans ?_ (Shape.rowRect_emb_val (s := S16384x2x128) 0 _ j 1).symm
    exact idxEquiv_symm_val gathers_S16384x2x128_S128x2x128.rowShape_eq j 1
  | 2 =>
    refine Eq.trans ?_ h2
    rw [← e]
    refine Eq.trans ?_ (Shape.rowRect_emb_val (s := S16384x2x128) 0 _ j 2).symm
    exact idxEquiv_symm_val gathers_S16384x2x128_S128x2x128.rowShape_eq j 2

/-- A row that no entry of the list names stays. -/
theorem scat_miss (z : S16384x2x128.Idx) (hz : ∀ p, (l p).toNat ≠ (z 0).val) :
    SparseCore.scatterBuf (V d c i) (oS).view gathers_S16384x2x128_S128x2x128.axis (SparseCore.rows (F := F) l hn h)
      (SparseCore.scatterRowPayload (V d c i) src gathers_S16384x2x128_S128x2x128 fs) fd z = fd z := by
  refine SparseCore.scatterBuf_of_not_mem _ _ _ _ _ _ fun hm => ?_
  obtain ⟨k, -, hk⟩ := Finset.mem_biUnion.mp hm
  have e := congrArg Fin.val ((mem_row _ z).mp hk)
  refine hz (fun | 0 => ⟨k.val, k.isLt⟩) (Eq.trans ?_ e.symm)
  exact (rows_val (F := F) l hn h (fun | 0 => ⟨k.val, k.isLt⟩) k rfl).symm

end

/-- Tile `w`'s rows of the sorted array: entry `p` of list `c` names the row that holds row `512 w + 128 c + p` of the source. -/
def XsOK (ft : Ids) (w : ℕ) (fx f : S16384x2x128.Idx → Elt F .f32) : Prop :=
  ∀ (c : Fin 4) (p : S128.Idx) (z y : S16384x2x128.Idx), (z 0).val = (listBlk ft w c.val p).toNat → (y 0).val = 512 * w + 128 * c.val + (p 0).val →
    (z 1).val = (y 1).val → (z 2).val = (y 2).val → f z = fx y

/-- Tile `w`'s stretch of the rank list. -/
def RankOK (ft : Ids) (w : ℕ) (f : S4096.Idx → BitVec 32) : Prop :=
  ∀ (p : S128.Idx) (n : S4096.Idx), (n 0).val = 128 * w + (p 0).val → f n = rankBlk ft w p

local notation "xV" => (Memref.whole Cert.KernelIdeal.main_v2_scv : Memref Cert.KernelIdeal.sig Kind.scVector Space.hbm Cert.KernelIdeal.S16384x2x128 EltTy.f32)
local notation "rV" => (Memref.whole Cert.KernelIdeal.main_v3_1_scv : Memref Cert.KernelIdeal.sig Kind.scVector Space.hbm Cert.KernelIdeal.S4096 EltTy.i32)

/-- A stretch of 128 rows of the source, as a load reads it. -/
theorem load_rows (off : Fin 3 → ℕ) (inb : ∀ a, off a + S128x2x128.size a ≤ S16384x2x128.size a) (n : ℕ) (ho : off = ![n, 0, 0])
    (fx : (xV).view.ty.Contents (Elt F)) (x : S128x2x128.Idx) (y : S16384x2x128.Idx) (h0 : (y 0).val = n + (x 0).val)
    (h1 : (y 1).val = (x 1).val) (h2 : (y 2).val = (x 2).val) :
    ((xV).slice (Rect.unit (s := S16384x2x128) off S128x2x128.size inb) (fun _ => rfl)).view.read (Elt F) fx x = fx y := by
  subst ho
  show fx _ = fx y
  congr 1
  funext a
  match a with
  | 0 => exact Fin.ext (show n + 1 * (x 0).val = (y 0).val by omega)
  | 1 => exact Fin.ext (show 0 + 1 * (x 1).val = (y 1).val by omega)
  | 2 => exact Fin.ext (show 0 + 1 * (x 2).val = (y 2).val by omega)

/-- The stretch of the rank list that the tile's copy fills. -/
theorem rank_row (off : Fin 1 → ℕ) (inb : ∀ a, off a + S128.size a ≤ S4096.size a) (w : ℕ) (ho : off = ![128 * w]) (ft : Ids)
    (f1 : (rV).view.ty.Contents (Elt F)) :
    RankOK ft w (((rV).slice (Rect.unit (s := S4096) off S128.size inb) (fun _ => rfl)).view.writes (Elt F) f1 [⟨Rect.whole S128, rankBlk ft w⟩]) := by
  subst ho
  intro p n hn
  have e := View.read_writes_cons_emb (Val := Elt F) ((rV).slice (Rect.unit (s := S4096) ![128 * w] S128.size inb) (fun _ => rfl)).view f1
    (Rect.whole S128) (rankBlk ft w) [] p
  have hi : n = ((rV).slice (Rect.unit (s := S4096) ![128 * w] S128.size inb) (fun _ => rfl)).view.emb ((Rect.whole S128).emb p) := by
    funext a
    match a with
    | 0 => exact Fin.ext (show (n 0).val = 128 * w + 1 * (0 + 1 * (p 0).val) by omega)
  rw [hi]
  exact e

section

variable (d : Dev nD) (c : Fin τ.nSC) (i : Fin τ.nSub)

/-- The four scatters one after another. -/
theorem xs_four (w : ℕ) (l : Fin 4 → S128.Idx → BitVec 32) (hlt : ∀ k x, (l k x).toNat < 16384) (hinj : ∀ k, Function.Injective fun x => (l k x).toNat)
    (hne : ∀ k k' : Fin 4, k ≠ k' → ∀ x y, (l k x).toNat ≠ (l k' y).toNat) (fx : S16384x2x128.Idx → Elt F .f32)
    (src : Fin 4 → Memref sig .scVector .vmem S128x2x128 .f32) (fs : (k : Fin 4) → Buf (Elt F) ((src k).view.loc (V d c i : Thread nD τ)))
    (hs : ∀ (k : Fin 4) (x : S128x2x128.Idx) (y : S16384x2x128.Idx), (y 0).val = 512 * w + 128 * k.val + (x 0).val →
      (y 1).val = (x 1).val → (y 2).val = (x 2).val → (src k).view.read (Elt F) (fs k) x = fx y)
    (hn : S128.numel = 128) (fd : Buf (Elt F) ((oS).view.loc (V d c i : Thread nD τ)))
    (sc : (k : Fin 4) → Buf (Elt F) ((oS).view.loc (V d c i : Thread nD τ)) → Buf (Elt F) ((oS).view.loc (V d c i : Thread nD τ)))
    (hsc : sc = fun k => SparseCore.scatterBuf (V d c i) (oS).view gathers_S16384x2x128_S128x2x128.axis (SparseCore.rows (F := F) (l k) hn (hlt k))
      (SparseCore.scatterRowPayload (V d c i) (src k) gathers_S16384x2x128_S128x2x128 (fs k))) :
    ∀ (k : Fin 4) (p : S128.Idx) (z y : S16384x2x128.Idx), (z 0).val = (l k p).toNat → (y 0).val = 512 * w + 128 * k.val + (p 0).val →
      (z 1).val = (y 1).val → (z 2).val = (y 2).val → sc 3 (sc 2 (sc 1 (sc 0 fd))) z = fx y := by
  intro k p z y h0 hy h1 h2
  have hit : ∀ f, sc k f z = fx y := fun f => by
    rw [hsc]
    let x : S128x2x128.Idx := fun | 0 => p 0 | 1 => y 1 | 2 => y 2
    exact (scat_hit d c i (src k) (l k) hn (hlt k) (fs k) f (hinj k) x p rfl z h0 h1 h2).trans (hs k x y hy rfl rfl)
  have miss : ∀ k' : Fin 4, k' ≠ k → ∀ f, sc k' f z = f z := fun k' hk f => by
    rw [hsc]
    exact scat_miss d c i (src k') (l k') hn (hlt k') (fs k') f z fun q e => hne k' k hk q p (e.trans h0)
  match k, hit, miss with
  | 3, hit, _ => exact hit _
  | 2, hit, miss => rw [miss 3 (by decide)]; exact hit _
  | 1, hit, miss => rw [miss 3 (by decide), miss 2 (by decide)]; exact hit _
  | 0, hit, miss => rw [miss 3 (by decide), miss 2 (by decide), miss 1 (by decide)]; exact hit _

end

/-- The guard of the schedule: the first tile. -/
theorem wid_guard (l0 : Fin 2) (l1 : Fin 16) :
    Scalar.cmpi .ne (Scalar.extui (Scalar.cmpi .eq (Scalar.addi (Scalar.muli (BitVec.ofNat 32 l1.val) 2#32) (BitVec.ofNat 32 l0.val)) 0#32) : BitVec 32) 0#32 = 1#1
      ↔ 2 * l1.val + l0.val = 0 := by
  revert l0 l1; decide +kernel

end Cert.Proof.Disp

end
-- ==== Proof.Tile.lean ====
/-
  One tile's task, from what it is given to what it brings back: the type numbers fetched and counted, the lists of target
  rows and the ranks written, the tile's rows fetched and scattered, its ranks copied out, and the schedule at the first
  tile.
-/
module

public import proofs.«01_k».proof.Proof.Rows

@[expose] public section

set_option maxRecDepth 16384

noncomputable section

namespace Cert.Proof.Disp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "tV" => (Memref.whole Cert.KernelIdeal.main_arg1_scv : Memref Cert.KernelIdeal.sig Kind.scVector Space.hbm Cert.KernelIdeal.S4096 EltTy.i32)
local notation "xV" => (Memref.whole Cert.KernelIdeal.main_v2_scv : Memref Cert.KernelIdeal.sig Kind.scVector Space.hbm Cert.KernelIdeal.S16384x2x128 EltTy.f32)
local notation "oV" => (Memref.whole Cert.KernelIdeal.main_v3_0_scv : Memref Cert.KernelIdeal.sig Kind.scVector Space.hbm Cert.KernelIdeal.S16384x2x128 EltTy.f32)
local notation "rV" => (Memref.whole Cert.KernelIdeal.main_v3_1_scv : Memref Cert.KernelIdeal.sig Kind.scVector Space.hbm Cert.KernelIdeal.S4096 EltTy.i32)
local notation "sV" => (Memref.whole Cert.KernelIdeal.main_v3_2_scv : Memref Cert.KernelIdeal.sig Kind.scVector Space.hbm Cert.KernelIdeal.S5x32 EltTy.i32)
local notation "b0V" => (Memref.whole Cert.KernelIdeal.cc0_scratch0 : Memref Cert.KernelIdeal.sig Kind.scVector Space.vmem Cert.KernelIdeal.S4096 EltTy.i32)
local notation "b1V" => (Memref.whole Cert.KernelIdeal.cc0_scratch1 : Memref Cert.KernelIdeal.sig Kind.scVector Space.vmem Cert.KernelIdeal.S8x16 EltTy.i32)
local notation "b2V" => (Memref.whole Cert.KernelIdeal.cc0_scratch2 : Memref Cert.KernelIdeal.sig Kind.scVector Space.vmem Cert.KernelIdeal.S128 EltTy.i32)
local notation "b3V" => (Memref.whole Cert.KernelIdeal.cc0_scratch3 : Memref Cert.KernelIdeal.sig Kind.scVector Space.vmem Cert.KernelIdeal.S128 EltTy.i32)
local notation "b4V" => (Memref.whole Cert.KernelIdeal.cc0_scratch4 : Memref Cert.KernelIdeal.sig Kind.scVector Space.vmem Cert.KernelIdeal.S128 EltTy.i32)
local notation "b5V" => (Memref.whole Cert.KernelIdeal.cc0_scratch5 : Memref Cert.KernelIdeal.sig Kind.scVector Space.vmem Cert.KernelIdeal.S128 EltTy.i32)
local notation "b6V" => (Memref.whole Cert.KernelIdeal.cc0_scratch6 : Memref Cert.KernelIdeal.sig Kind.scVector Space.vmem Cert.KernelIdeal.S128 EltTy.i32)
local notation "b7V" => (Memref.whole Cert.KernelIdeal.cc0_scratch7 : Memref Cert.KernelIdeal.sig Kind.scVector Space.vmem Cert.KernelIdeal.S128x2x128 EltTy.f32)
local notation "b8V" => (Memref.whole Cert.KernelIdeal.cc0_scratch8 : Memref Cert.KernelIdeal.sig Kind.scVector Space.vmem Cert.KernelIdeal.S128x2x128 EltTy.f32)
local notation "b13V" => (Memref.whole Cert.KernelIdeal.cc0_scratch13 : Memref Cert.KernelIdeal.sig Kind.scVector Space.vmem Cert.KernelIdeal.S5x32 EltTy.i32)
local notation "oS" => (Memref.slice (Memref.whole Cert.KernelIdeal.main_v3_0_scv : Memref Cert.KernelIdeal.sig Kind.scVector Space.hbm Cert.KernelIdeal.S16384x2x128 EltTy.f32) (Rect.unit (s := Cert.KernelIdeal.S16384x2x128) ![0, 0, 0] Cert.KernelIdeal.S16384x2x128.size Cert.KernelIdeal.Gen.inb_S16384x2x128_S16384x2x128_0_0_0) (fun _ => rfl))
local notation "𝕄" => MT nD τ sig (HIx 1) (Elt F) ℕ UU ℕ

/-- The tile's own stretch of the rank list, as the kernel slices it. -/
abbrev rRowK (L : grid0.Coords) : Memref sig .scVector .hbm S128 .i32 := (rV).slice (Rect.unit (s := S4096) (k0_off3 L) S128.size (k0_off3_inb L)) (fun _ => rfl)
/-- What the tile writes of the schedule: all of it at tile zero, nothing elsewhere. -/
abbrev sSet (L : grid0.Coords) : Finset (S5x32.Idx) := if wid L = 0 then Finset.univ else ∅

/-- The counting loop's invariant before trip `k`: the type numbers in the tile's memory, the counts so far, and from the
    tile's own first group on the snapshot of them. -/
def inv (d : Dev nD) (L : grid0.Coords) (ft : Ids) (k : ℕ) (a : V16 × V16 × V16 × V16 × V16 × V16 × V16 × V16) : sProp 𝕄 :=
  iprop(⌜a = (accV ft 0#32 k, accV ft 1#32 k, accV ft 2#32 k, accV ft 3#32 k, accV ft 4#32 k, accV ft 5#32 k, accV ft 6#32 k, accV ft 7#32 k)⌝
    ∗ ((b0V).view.loc (thr d L) ↦{fullShare} (show Buf (Elt F) ((b0V).view.loc (thr d L)) from ft))
    ∗ ∃ g, ((b1V).view.loc (thr d L) ↦{fullShare} g) ∗ ⌜8 * wid L < k → g = (show Buf (Elt F) ((b1V).view.loc (thr d L)) from pre8 ft (wid L))⌝)

/-- What the tile is given: read shares of the type numbers and of the source, its rows of the sorted array, its stretch of
    the rank list, and the schedule if it is the first. -/
def tileIn (d : Dev nD) (L : grid0.Coords) (q : PosShare TreeShare) (own : ℕ → Prop)
    (ft : Buf (Elt F) (tLoc d)) (fx : Buf (Elt F) (xLoc d)) (f0 : Buf (Elt F) (oLoc d)) (f1 : Buf (Elt F) (rLoc d)) (f2 : Buf (Elt F) (sLoc d)) : sProp 𝕄 :=
  iprop((tLoc d ↦{q} ft) ∗ (xLoc d ↦{q} fx) ∗ (oLoc d ↦[SparseCore.rowsWhere (oS).view 0 own]{fullShare} f0)
    ∗ (rLoc d ↦[(rRowK L).view.set]{fullShare} f1) ∗ (sLoc d ↦[sSet L]{fullShare} f2))

/-- What it brings back: the shares, and its rows and its stretch as `XsOK` and `RankOK` say. -/
def tileOut (d : Dev nD) (L : grid0.Coords) (q : PosShare TreeShare) (own : ℕ → Prop)
    (ft : Buf (Elt F) (tLoc d)) (fx : Buf (Elt F) (xLoc d)) : sProp 𝕄 :=
  iprop((tLoc d ↦{q} ft) ∗ (xLoc d ↦{q} fx)
    ∗ (∃ f, ⌜XsOK (F := F) ft (wid L) fx f⌝ ∗ oLoc d ↦[SparseCore.rowsWhere (oS).view 0 own]{fullShare} f)
    ∗ (∃ f, ⌜RankOK ft (wid L) f⌝ ∗ rLoc d ↦[(rRowK L).view.set]{fullShare} f)
    ∗ ∃ f, sLoc d ↦[sSet L]{fullShare} f)

set_option maxHeartbeats 2000000 in
theorem tile_body (d : Dev nD) (L : grid0.Coords) (q : PosShare TreeShare) (own : ℕ → Prop)
    (ft : Buf (Elt F) (tLoc d)) (fx : Buf (Elt F) (xLoc d)) (f0 : Buf (Elt F) (oLoc d)) (f1 : Buf (Elt F) (rLoc d)) (f2 : Buf (Elt F) (sLoc d))
    (hF : (K (F := F)).Facts)
    (hL : ListsOK ft (wid L) own)
    (O : CellTallies nD τ sig (HIx 1)) (W : Waits sig (HIx 1)) (hO : ∀ g, O g none = 0) :
    iprop(levAts (K (F := F)).L (K (F := F)).lev ∗ emp
        ∗ tileIn d L q own ft fx f0 f1 f2
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_dispatch_body L tV (Memref.isWhole_whole _) xV (Memref.isWhole_whole _) oV (Memref.isWhole_whole _)
            rV (Memref.isWhole_whole _) sV (Memref.isWhole_whole _)
            b0V (Memref.isWhole_whole _) b1V (Memref.isWhole_whole _) b2V (Memref.isWhole_whole _) b3V (Memref.isWhole_whole _)
            b4V (Memref.isWhole_whole _) b5V (Memref.isWhole_whole _) b6V (Memref.isWhole_whole _) b7V (Memref.isWhole_whole _)
            b8V (Memref.isWhole_whole _) cc0_scratch9 cc0_scratch10 cc0_scratch11 cc0_scratch12 b13V (Memref.isWhole_whole _)
            cc0_scoped0 cc0_scoped1 cc0_scoped2)
          fun _ => iprop(tileOut d L q own ft fx ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_dispatch_body_eq_skeleton]; unfold cc0__sc_dispatch_body_skel
  rw [(K (F := F)).scopedBufs_V hF d (cV L) (jV L), SparseCore.Cfg.scopedSems0_V (Val := Elt F) d (cV L) (jV L), ownSems0_V, ownBufs_V]
  unfold tileIn
  iintro ⟨#Hlv, -, ⟨Ht, Hx, Ho, Hr, Hs⟩, ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g13, H13⟩, Hbufs⟩,
    ⟨S9, S10, S11, S12, C0, C1, C2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht := (Entails.of_eq (show ((tLoc d ↦{q} ft : sProp 𝕄)) = ((tV).view.loc (V d (cV L) (jV L)) ↦{q} ft) from rfl)) $$ Ht
  ihave Hx := (Entails.of_eq (show ((xLoc d ↦{q} fx : sProp 𝕄)) = ((xV).view.loc (V d (cV L) (jV L)) ↦{q} fx) from rfl)) $$ Hx
  ihave Ho := (Entails.of_eq (show ((oLoc d ↦[SparseCore.rowsWhere (oS).view 0 own]{fullShare} f0 : sProp 𝕄)) = ((oS).view.loc (V d (cV L) (jV L)) ↦[SparseCore.rowsWhere (oS).view 0 own]{fullShare} f0) from rfl)) $$ Ho
  ihave Hr := (Entails.of_eq (show ((rLoc d ↦[(rRowK L).view.set]{fullShare} f1 : sProp 𝕄)) = ((rRowK L).view.loc (V d (cV L) (jV L)) ↦[(rRowK L).view.set]{fullShare} f1) from rfl)) $$ Hr
  ihave H0 := (Entails.of_eq (show ((V d (cV L) (jV L)).loc cc0_scratch0 ↦{fullShare} g0 : sProp 𝕄) = ((b0V).view.loc (V d (cV L) (jV L)) ↦{fullShare} g0) from rfl)) $$ H0
  ihave H1 := (Entails.of_eq (show ((V d (cV L) (jV L)).loc cc0_scratch1 ↦{fullShare} g1 : sProp 𝕄) = ((b1V).view.loc (V d (cV L) (jV L)) ↦{fullShare} g1) from rfl)) $$ H1
  ihave H2 := (Entails.of_eq (show ((V d (cV L) (jV L)).loc cc0_scratch2 ↦{fullShare} g2 : sProp 𝕄) = ((b2V).view.loc (V d (cV L) (jV L)) ↦{fullShare} g2) from rfl)) $$ H2
  ihave H3 := (Entails.of_eq (show ((V d (cV L) (jV L)).loc cc0_scratch3 ↦{fullShare} g3 : sProp 𝕄) = ((b3V).view.loc (V d (cV L) (jV L)) ↦{fullShare} g3) from rfl)) $$ H3
  ihave H4 := (Entails.of_eq (show ((V d (cV L) (jV L)).loc cc0_scratch4 ↦{fullShare} g4 : sProp 𝕄) = ((b4V).view.loc (V d (cV L) (jV L)) ↦{fullShare} g4) from rfl)) $$ H4
  ihave H5 := (Entails.of_eq (show ((V d (cV L) (jV L)).loc cc0_scratch5 ↦{fullShare} g5 : sProp 𝕄) = ((b5V).view.loc (V d (cV L) (jV L)) ↦{fullShare} g5) from rfl)) $$ H5
  ihave H6 := (Entails.of_eq (show ((V d (cV L) (jV L)).loc cc0_scratch6 ↦{fullShare} g6 : sProp 𝕄) = ((b6V).view.loc (V d (cV L) (jV L)) ↦{fullShare} g6) from rfl)) $$ H6
  ihave H7 := (Entails.of_eq (show ((V d (cV L) (jV L)).loc cc0_scratch7 ↦{fullShare} g7 : sProp 𝕄) = ((b7V).view.loc (V d (cV L) (jV L)) ↦{fullShare} g7) from rfl)) $$ H7
  ihave H8 := (Entails.of_eq (show ((V d (cV L) (jV L)).loc cc0_scratch8 ↦{fullShare} g8 : sProp 𝕄) = ((b8V).view.loc (V d (cV L) (jV L)) ↦{fullShare} g8) from rfl)) $$ H8
  ihave H13 := (Entails.of_eq (show ((V d (cV L) (jV L)).loc cc0_scratch13 ↦{fullShare} g13 : sProp 𝕄) = ((b13V).view.loc (V d (cV L) (jV L)) ↦{fullShare} g13) from rfl)) $$ H13
  sl_exec
  ihave H0 := (Entails.of_eq (show (((b0V).view.loc (V d (cV L) (jV L)) ↦{fullShare} _ : sProp 𝕄)) = ((b0V).view.loc (V d (cV L) (jV L)) ↦{fullShare} (show Buf (Elt F) ((b0V).view.loc (thr d L)) from ft)) by
      rw [View.write_whole_univ]; rfl)) $$ H0
  sl_for (inv d L ft) $$ [H0 H1]
  case region =>
    intro k a
    unfold inv
    iintro ⟨%ha, H0, %g, H1, %hg⟩
    subst ha
    sl_exec
    have hk : k.val < 256 := k.isLt
    sl_step
    isplitr
    · ipureintro
      sl_unfold_run_names
      rw [tv_load ft k.val hk (k0_off1 k) (k0_off1_eq k) _]
      rfl
    isplitl [H0]; · iexact H0
    iexists _; isplitl [H1]; · iexact H1
    ipureintro
    intro hlt
    sl_unfold_run_names
    by_cases hc : k.val = 8 * wid L
    · rw [dif_pos ((snap_guard (L 0) (L 1) ⟨k.val, hk⟩).mpr hc)]
      exact pre8_rows (b1V).view g ft (wid L) k hc _ _ _ _ _ _ _ _ _
    · rw [dif_neg (fun h => hc ((snap_guard (L 0) (L 1) ⟨k.val, hk⟩).mp h))]
      exact hg (by omega)
  · unfold inv
    isplitr
    · ipureintro; rfl
    isplitl [H0]; · iexact H0
    iexists _; isplitl [H1]; · iexact H1
    ipureintro; intro h; exact absurd h (Nat.not_lt_zero _)
  iintro %a HI
  unfold inv
  icases HI with ⟨%ha, H0, %g, H1, %hg⟩
  subst ha
  have hg := hg (show 8 * wid L < 256 by have := wid_lt L; omega)
  subst hg
  sl_exec
  have htr : Scf.trips k0_t1_loop.lb k0_t1_loop.ub k0_t1_loop.st = 256 := by decide +kernel
  have htot : tile_body.sl.v165 d ft = totals ft := by
    rw [show tile_body.sl.v165 d ft = sumLanes (fun e => accV ft e (Scf.trips k0_t1_loop.lb k0_t1_loop.ub k0_t1_loop.st)) 8 from rfl, htr]; rfl
  have p0 : tile_body.sl.v29 d L ft = preRow ft (wid L) 0 := pre_load ft (wid L) 0 (by decide) _ _
  have p1 : tile_body.sl.v49 d L ft = preRow ft (wid L) 1 := pre_load ft (wid L) 1 (by decide) _ _
  have p2 : tile_body.sl.v69 d L ft = preRow ft (wid L) 2 := pre_load ft (wid L) 2 (by decide) _ _
  have p3 : tile_body.sl.v89 d L ft = preRow ft (wid L) 3 := pre_load ft (wid L) 3 (by decide) _ _
  have p4 : tile_body.sl.v109 d L ft = preRow ft (wid L) 4 := pre_load ft (wid L) 4 (by decide) _ _
  have p5 : tile_body.sl.v129 d L ft = preRow ft (wid L) 5 := pre_load ft (wid L) 5 (by decide) _ _
  have p6 : tile_body.sl.v149 d L ft = preRow ft (wid L) 6 := pre_load ft (wid L) 6 (by decide) _ _
  have p7 : tile_body.sl.v169 d L ft = preRow ft (wid L) 7 := pre_load ft (wid L) 7 (by decide) _ _
  have hpre : tile_body.sl.v176 d L ft = pres ft (wid L) := by
    have h : tile_body.sl.v176 d L ft = sumLanes (fun e => (![tile_body.sl.v29 d L ft, tile_body.sl.v49 d L ft, tile_body.sl.v69 d L ft, tile_body.sl.v89 d L ft, tile_body.sl.v109 d L ft, tile_body.sl.v129 d L ft, tile_body.sl.v149 d L ft, tile_body.sl.v169 d L ft] : Fin 8 → V16) (Fin.ofNat 8 e.toNat)) 8 := rfl
    rw [h, p0, p1, p2, p3, p4, p5, p6, p7]; rfl
  have b0 : tile_body.sl.v180 d L ft = baseAt ft (wid L) 0 := by
    rw [show tile_body.sl.v180 d L ft = addi (subi (scan .sum (tile_body.sl.v165 d ft)) (tile_body.sl.v165 d ft)) (tile_body.sl.v176 d L ft) from rfl, htot, hpre]; rfl
  have t0 : tile_body.sl.r_8 d L ft = tvAt ft (8 * wid L + 0) := tv_at ft L 0 _
  have b1 : tile_body.sl.v441 d L ft = baseAt ft (wid L) 1 := by
    rw [show tile_body.sl.v441 d L ft = (chunk (tile_body.sl.r_8 d L ft) (tile_body.sl.v180 d L ft) 8).1 from rfl, t0, b0]; rfl
  have r0 : tile_body.sl.v435 d L ft = rankV ft (wid L) 0 := by
    rw [show tile_body.sl.v435 d L ft = (chunk (tile_body.sl.r_8 d L ft) (tile_body.sl.v180 d L ft) 8).2 from rfl, t0, b0]; rfl
  have t1 : tile_body.sl.r_9 d L ft = tvAt ft (8 * wid L + 1) := tv_at ft L 1 _
  have b2 : tile_body.sl.v723 d L ft = baseAt ft (wid L) 2 := by
    rw [show tile_body.sl.v723 d L ft = (chunk (tile_body.sl.r_9 d L ft) (tile_body.sl.v441 d L ft) 8).1 from rfl, t1, b1]; rfl
  have r1 : tile_body.sl.v717 d L ft = rankV ft (wid L) 1 := by
    rw [show tile_body.sl.v717 d L ft = (chunk (tile_body.sl.r_9 d L ft) (tile_body.sl.v441 d L ft) 8).2 from rfl, t1, b1]; rfl
  have t2 : tile_body.sl.r_10 d L ft = tvAt ft (8 * wid L + 2) := tv_at ft L 2 _
  have b3 : tile_body.sl.v1005 d L ft = baseAt ft (wid L) 3 := by
    rw [show tile_body.sl.v1005 d L ft = (chunk (tile_body.sl.r_10 d L ft) (tile_body.sl.v723 d L ft) 8).1 from rfl, t2, b2]; rfl
  have r2 : tile_body.sl.v999 d L ft = rankV ft (wid L) 2 := by
    rw [show tile_body.sl.v999 d L ft = (chunk (tile_body.sl.r_10 d L ft) (tile_body.sl.v723 d L ft) 8).2 from rfl, t2, b2]; rfl
  have t3 : tile_body.sl.r_11 d L ft = tvAt ft (8 * wid L + 3) := tv_at ft L 3 _
  have b4 : tile_body.sl.v1287 d L ft = baseAt ft (wid L) 4 := by
    rw [show tile_body.sl.v1287 d L ft = (chunk (tile_body.sl.r_11 d L ft) (tile_body.sl.v1005 d L ft) 8).1 from rfl, t3, b3]; rfl
  have r3 : tile_body.sl.v1281 d L ft = rankV ft (wid L) 3 := by
    rw [show tile_body.sl.v1281 d L ft = (chunk (tile_body.sl.r_11 d L ft) (tile_body.sl.v1005 d L ft) 8).2 from rfl, t3, b3]; rfl
  have t4 : tile_body.sl.r_12 d L ft = tvAt ft (8 * wid L + 4) := tv_at ft L 4 _
  have b5 : tile_body.sl.v1569 d L ft = baseAt ft (wid L) 5 := by
    rw [show tile_body.sl.v1569 d L ft = (chunk (tile_body.sl.r_12 d L ft) (tile_body.sl.v1287 d L ft) 8).1 from rfl, t4, b4]; rfl
  have r4 : tile_body.sl.v1563 d L ft = rankV ft (wid L) 4 := by
    rw [show tile_body.sl.v1563 d L ft = (chunk (tile_body.sl.r_12 d L ft) (tile_body.sl.v1287 d L ft) 8).2 from rfl, t4, b4]; rfl
  have t5 : tile_body.sl.r_13 d L ft = tvAt ft (8 * wid L + 5) := tv_at ft L 5 _
  have b6 : tile_body.sl.v1851 d L ft = baseAt ft (wid L) 6 := by
    rw [show tile_body.sl.v1851 d L ft = (chunk (tile_body.sl.r_13 d L ft) (tile_body.sl.v1569 d L ft) 8).1 from rfl, t5, b5]; rfl
  have r5 : tile_body.sl.v1845 d L ft = rankV ft (wid L) 5 := by
    rw [show tile_body.sl.v1845 d L ft = (chunk (tile_body.sl.r_13 d L ft) (tile_body.sl.v1569 d L ft) 8).2 from rfl, t5, b5]; rfl
  have t6 : tile_body.sl.r_14 d L ft = tvAt ft (8 * wid L + 6) := tv_at ft L 6 _
  have b7 : tile_body.sl.v2133 d L ft = baseAt ft (wid L) 7 := by
    rw [show tile_body.sl.v2133 d L ft = (chunk (tile_body.sl.r_14 d L ft) (tile_body.sl.v1851 d L ft) 8).1 from rfl, t6, b6]; rfl
  have r6 : tile_body.sl.v2127 d L ft = rankV ft (wid L) 6 := by
    rw [show tile_body.sl.v2127 d L ft = (chunk (tile_body.sl.r_14 d L ft) (tile_body.sl.v1851 d L ft) 8).2 from rfl, t6, b6]; rfl
  have t7 : tile_body.sl.r_15 d L ft = tvAt ft (8 * wid L + 7) := tv_at ft L 7 _
  have r7 : tile_body.sl.v2409 d L ft = rankV ft (wid L) 7 := by
    rw [show tile_body.sl.v2409 d L ft = (chunk (tile_body.sl.r_15 d L ft) (tile_body.sl.v2133 d L ft) 8).2 from rfl, t7, b7]; rfl
  have e2 : (b2V).view.writes (Elt F) g2 (tile_body.sl.H2_8 d L ft) = (rankBlk ft (wid L) : Buf (Elt F) ((b2V).view.loc (thr d L))) :=
    rank_pieces (b2V).view g2 ft (wid L) ![tile_body.sl.v435 d L ft, tile_body.sl.v717 d L ft, tile_body.sl.v999 d L ft, tile_body.sl.v1281 d L ft, tile_body.sl.v1563 d L ft, tile_body.sl.v1845 d L ft, tile_body.sl.v2127 d L ft, tile_body.sl.v2409 d L ft]
      (fun i => match i with | 0 => r0 | 1 => r1 | 2 => r2 | 3 => r3 | 4 => r4 | 5 => r5 | 6 => r6 | 7 => r7) _ _ _ _ _ _ _ _
  have e3 : ∀ g, (b3V).view.writes (Elt F) g (tile_body.sl.H3_8 d L ft) = (listBlk ft (wid L) 0 : Buf (Elt F) ((b3V).view.loc (thr d L))) := fun g =>
    list_pieces (b3V).view g ft (wid L) 0 ![tile_body.sl.v445 d L ft, tile_body.sl.v450 d L ft, tile_body.sl.v455 d L ft, tile_body.sl.v460 d L ft, tile_body.sl.v727 d L ft, tile_body.sl.v732 d L ft, tile_body.sl.v737 d L ft, tile_body.sl.v742 d L ft]
      (fun i => match i with | 0 => (congrArg (fun r => addi (muli r (bc 4#32)) (bc 0#32)) r0 : _) | 1 => (congrArg (fun r => addi (muli r (bc 4#32)) (bc 1#32)) r0 : _) | 2 => (congrArg (fun r => addi (muli r (bc 4#32)) (bc 2#32)) r0 : _) | 3 => (congrArg (fun r => addi (muli r (bc 4#32)) (bc 3#32)) r0 : _) | 4 => (congrArg (fun r => addi (muli r (bc 4#32)) (bc 0#32)) r1 : _) | 5 => (congrArg (fun r => addi (muli r (bc 4#32)) (bc 1#32)) r1 : _) | 6 => (congrArg (fun r => addi (muli r (bc 4#32)) (bc 2#32)) r1 : _) | 7 => (congrArg (fun r => addi (muli r (bc 4#32)) (bc 3#32)) r1 : _)) _ _ _ _ _ _ _ _
  have e4 : ∀ g, (b4V).view.writes (Elt F) g ([⟨Rect.unit ![112] S16.size inb_S128_S16_112, tile_body.sl.v1306 d L ft⟩, ⟨Rect.unit ![80] S16.size inb_S128_S16_80, tile_body.sl.v1301 d L ft⟩, ⟨Rect.unit ![48] S16.size inb_S128_S16_48, tile_body.sl.v1296 d L ft⟩, ⟨Rect.unit ![16] S16.size inb_S128_S16_16, tile_body.sl.v1291 d L ft⟩, ⟨Rect.unit ![96] S16.size inb_S128_S16_96, tile_body.sl.v1024 d L ft⟩, ⟨Rect.unit ![64] S16.size inb_S128_S16_64, tile_body.sl.v1019 d L ft⟩, ⟨Rect.unit ![32] S16.size inb_S128_S16_32, tile_body.sl.v1014 d L ft⟩, ⟨Rect.unit ![0] S16.size inb_S128_S16_0, tile_body.sl.v1009 d L ft⟩]) = (listBlk ft (wid L) 1 : Buf (Elt F) ((b4V).view.loc (thr d L))) := fun g =>
    list_pieces (b4V).view g ft (wid L) 1 ![tile_body.sl.v1009 d L ft, tile_body.sl.v1014 d L ft, tile_body.sl.v1019 d L ft, tile_body.sl.v1024 d L ft, tile_body.sl.v1291 d L ft, tile_body.sl.v1296 d L ft, tile_body.sl.v1301 d L ft, tile_body.sl.v1306 d L ft]
      (fun i => match i with | 0 => (congrArg (fun r => addi (muli r (bc 4#32)) (bc 0#32)) r2 : _) | 1 => (congrArg (fun r => addi (muli r (bc 4#32)) (bc 1#32)) r2 : _) | 2 => (congrArg (fun r => addi (muli r (bc 4#32)) (bc 2#32)) r2 : _) | 3 => (congrArg (fun r => addi (muli r (bc 4#32)) (bc 3#32)) r2 : _) | 4 => (congrArg (fun r => addi (muli r (bc 4#32)) (bc 0#32)) r3 : _) | 5 => (congrArg (fun r => addi (muli r (bc 4#32)) (bc 1#32)) r3 : _) | 6 => (congrArg (fun r => addi (muli r (bc 4#32)) (bc 2#32)) r3 : _) | 7 => (congrArg (fun r => addi (muli r (bc 4#32)) (bc 3#32)) r3 : _)) _ _ _ _ _ _ _ _
  have e5 : ∀ g, (b5V).view.writes (Elt F) g ([⟨Rect.unit ![112] S16.size inb_S128_S16_112, tile_body.sl.v1870 d L ft⟩, ⟨Rect.unit ![80] S16.size inb_S128_S16_80, tile_body.sl.v1865 d L ft⟩, ⟨Rect.unit ![48] S16.size inb_S128_S16_48, tile_body.sl.v1860 d L ft⟩, ⟨Rect.unit ![16] S16.size inb_S128_S16_16, tile_body.sl.v1855 d L ft⟩, ⟨Rect.unit ![96] S16.size inb_S128_S16_96, tile_body.sl.v1588 d L ft⟩, ⟨Rect.unit ![64] S16.size inb_S128_S16_64, tile_body.sl.v1583 d L ft⟩, ⟨Rect.unit ![32] S16.size inb_S128_S16_32, tile_body.sl.v1578 d L ft⟩, ⟨Rect.unit ![0] S16.size inb_S128_S16_0, tile_body.sl.v1573 d L ft⟩]) = (listBlk ft (wid L) 2 : Buf (Elt F) ((b5V).view.loc (thr d L))) := fun g =>
    list_pieces (b5V).view g ft (wid L) 2 ![tile_body.sl.v1573 d L ft, tile_body.sl.v1578 d L ft, tile_body.sl.v1583 d L ft, tile_body.sl.v1588 d L ft, tile_body.sl.v1855 d L ft, tile_body.sl.v1860 d L ft, tile_body.sl.v1865 d L ft, tile_body.sl.v1870 d L ft]
      (fun i => match i with | 0 => (congrArg (fun r => addi (muli r (bc 4#32)) (bc 0#32)) r4 : _) | 1 => (congrArg (fun r => addi (muli r (bc 4#32)) (bc 1#32)) r4 : _) | 2 => (congrArg (fun r => addi (muli r (bc 4#32)) (bc 2#32)) r4 : _) | 3 => (congrArg (fun r => addi (muli r (bc 4#32)) (bc 3#32)) r4 : _) | 4 => (congrArg (fun r => addi (muli r (bc 4#32)) (bc 0#32)) r5 : _) | 5 => (congrArg (fun r => addi (muli r (bc 4#32)) (bc 1#32)) r5 : _) | 6 => (congrArg (fun r => addi (muli r (bc 4#32)) (bc 2#32)) r5 : _) | 7 => (congrArg (fun r => addi (muli r (bc 4#32)) (bc 3#32)) r5 : _)) _ _ _ _ _ _ _ _
  have e6 : ∀ g, (b6V).view.writes (Elt F) g ([⟨Rect.unit ![112] S16.size inb_S128_S16_112, tile_body.sl.v2434 d L ft⟩, ⟨Rect.unit ![80] S16.size inb_S128_S16_80, tile_body.sl.v2429 d L ft⟩, ⟨Rect.unit ![48] S16.size inb_S128_S16_48, tile_body.sl.v2424 d L ft⟩, ⟨Rect.unit ![16] S16.size inb_S128_S16_16, tile_body.sl.v2419 d L ft⟩, ⟨Rect.unit ![96] S16.size inb_S128_S16_96, tile_body.sl.v2152 d L ft⟩, ⟨Rect.unit ![64] S16.size inb_S128_S16_64, tile_body.sl.v2147 d L ft⟩, ⟨Rect.unit ![32] S16.size inb_S128_S16_32, tile_body.sl.v2142 d L ft⟩, ⟨Rect.unit ![0] S16.size inb_S128_S16_0, tile_body.sl.v2137 d L ft⟩]) = (listBlk ft (wid L) 3 : Buf (Elt F) ((b6V).view.loc (thr d L))) := fun g =>
    list_pieces (b6V).view g ft (wid L) 3 ![tile_body.sl.v2137 d L ft, tile_body.sl.v2142 d L ft, tile_body.sl.v2147 d L ft, tile_body.sl.v2152 d L ft, tile_body.sl.v2419 d L ft, tile_body.sl.v2424 d L ft, tile_body.sl.v2429 d L ft, tile_body.sl.v2434 d L ft]
      (fun i => match i with | 0 => (congrArg (fun r => addi (muli r (bc 4#32)) (bc 0#32)) r6 : _) | 1 => (congrArg (fun r => addi (muli r (bc 4#32)) (bc 1#32)) r6 : _) | 2 => (congrArg (fun r => addi (muli r (bc 4#32)) (bc 2#32)) r6 : _) | 3 => (congrArg (fun r => addi (muli r (bc 4#32)) (bc 3#32)) r6 : _) | 4 => (congrArg (fun r => addi (muli r (bc 4#32)) (bc 0#32)) r7 : _) | 5 => (congrArg (fun r => addi (muli r (bc 4#32)) (bc 1#32)) r7 : _) | 6 => (congrArg (fun r => addi (muli r (bc 4#32)) (bc 2#32)) r7 : _) | 7 => (congrArg (fun r => addi (muli r (bc 4#32)) (bc 3#32)) r7 : _)) _ _ _ _ _ _ _ _
  ihave H2 := (Entails.of_eq (congrArg (fun f => (((b2V).view.loc (V d (cV L) (jV L)) ↦{fullShare} f : sProp 𝕄))) e2)) $$ H2
  ihave H3 := (Entails.of_eq (congrArg (fun f => (((b3V).view.loc (V d (cV L) (jV L)) ↦{fullShare} f : sProp 𝕄))) (e3 _))) $$ H3
  have hin3 : ∀ x, ((b3V).view.read (Elt F) (listBlk ft (wid L) 0) x).toNat < 16384 := fun x => hL.lt 0 x
  have hinj3 : Function.Injective (fun x => ((b3V).view.read (Elt F) (listBlk ft (wid L) 0) x).toNat) := hL.inj 0
  have hown3 : ∀ x, own ((b3V).view.read (Elt F) (listBlk ft (wid L) 0) x).toNat := fun x => hL.own 0 x
  ihave H4 := (Entails.of_eq (congrArg (fun f => (((b4V).view.loc (V d (cV L) (jV L)) ↦{fullShare} f : sProp 𝕄))) (e4 _))) $$ H4
  have hin4 : ∀ x, ((b4V).view.read (Elt F) (listBlk ft (wid L) 1) x).toNat < 16384 := fun x => hL.lt 1 x
  have hinj4 : Function.Injective (fun x => ((b4V).view.read (Elt F) (listBlk ft (wid L) 1) x).toNat) := hL.inj 1
  have hown4 : ∀ x, own ((b4V).view.read (Elt F) (listBlk ft (wid L) 1) x).toNat := fun x => hL.own 1 x
  ihave H5 := (Entails.of_eq (congrArg (fun f => (((b5V).view.loc (V d (cV L) (jV L)) ↦{fullShare} f : sProp 𝕄))) (e5 _))) $$ H5
  have hin5 : ∀ x, ((b5V).view.read (Elt F) (listBlk ft (wid L) 2) x).toNat < 16384 := fun x => hL.lt 2 x
  have hinj5 : Function.Injective (fun x => ((b5V).view.read (Elt F) (listBlk ft (wid L) 2) x).toNat) := hL.inj 2
  have hown5 : ∀ x, own ((b5V).view.read (Elt F) (listBlk ft (wid L) 2) x).toNat := fun x => hL.own 2 x
  ihave H6 := (Entails.of_eq (congrArg (fun f => (((b6V).view.loc (V d (cV L) (jV L)) ↦{fullShare} f : sProp 𝕄))) (e6 _))) $$ H6
  have hin6 : ∀ x, ((b6V).view.read (Elt F) (listBlk ft (wid L) 3) x).toNat < 16384 := fun x => hL.lt 3 x
  have hinj6 : Function.Injective (fun x => ((b6V).view.read (Elt F) (listBlk ft (wid L) 3) x).toNat) := hL.inj 3
  have hown6 : ∀ x, own ((b6V).view.read (Elt F) (listBlk ft (wid L) 3) x).toNat := fun x => hL.own 3 x
  have hd01 : ∀ x y, ((b3V).view.read (Elt F) (listBlk ft (wid L) 0) x).toNat ≠ ((b4V).view.read (Elt F) (listBlk ft (wid L) 1) y).toNat :=
    fun x y => hL.ne 0 1 (by decide) x y
  have hd02 : ∀ x y, ((b3V).view.read (Elt F) (listBlk ft (wid L) 0) x).toNat ≠ ((b5V).view.read (Elt F) (listBlk ft (wid L) 2) y).toNat :=
    fun x y => hL.ne 0 2 (by decide) x y
  have hd03 : ∀ x y, ((b3V).view.read (Elt F) (listBlk ft (wid L) 0) x).toNat ≠ ((b6V).view.read (Elt F) (listBlk ft (wid L) 3) y).toNat :=
    fun x y => hL.ne 0 3 (by decide) x y
  have hd10 : ∀ x y, ((b4V).view.read (Elt F) (listBlk ft (wid L) 1) x).toNat ≠ ((b3V).view.read (Elt F) (listBlk ft (wid L) 0) y).toNat :=
    fun x y => hL.ne 1 0 (by decide) x y
  have hd12 : ∀ x y, ((b4V).view.read (Elt F) (listBlk ft (wid L) 1) x).toNat ≠ ((b5V).view.read (Elt F) (listBlk ft (wid L) 2) y).toNat :=
    fun x y => hL.ne 1 2 (by decide) x y
  have hd13 : ∀ x y, ((b4V).view.read (Elt F) (listBlk ft (wid L) 1) x).toNat ≠ ((b6V).view.read (Elt F) (listBlk ft (wid L) 3) y).toNat :=
    fun x y => hL.ne 1 3 (by decide) x y
  have hd20 : ∀ x y, ((b5V).view.read (Elt F) (listBlk ft (wid L) 2) x).toNat ≠ ((b3V).view.read (Elt F) (listBlk ft (wid L) 0) y).toNat :=
    fun x y => hL.ne 2 0 (by decide) x y
  have hd21 : ∀ x y, ((b5V).view.read (Elt F) (listBlk ft (wid L) 2) x).toNat ≠ ((b4V).view.read (Elt F) (listBlk ft (wid L) 1) y).toNat :=
    fun x y => hL.ne 2 1 (by decide) x y
  have hd23 : ∀ x y, ((b5V).view.read (Elt F) (listBlk ft (wid L) 2) x).toNat ≠ ((b6V).view.read (Elt F) (listBlk ft (wid L) 3) y).toNat :=
    fun x y => hL.ne 2 3 (by decide) x y
  have hd30 : ∀ x y, ((b6V).view.read (Elt F) (listBlk ft (wid L) 3) x).toNat ≠ ((b3V).view.read (Elt F) (listBlk ft (wid L) 0) y).toNat :=
    fun x y => hL.ne 3 0 (by decide) x y
  have hd31 : ∀ x y, ((b6V).view.read (Elt F) (listBlk ft (wid L) 3) x).toNat ≠ ((b4V).view.read (Elt F) (listBlk ft (wid L) 1) y).toNat :=
    fun x y => hL.ne 3 1 (by decide) x y
  have hd32 : ∀ x y, ((b6V).view.read (Elt F) (listBlk ft (wid L) 3) x).toNat ≠ ((b5V).view.read (Elt F) (listBlk ft (wid L) 2) y).toNat :=
    fun x y => hL.ne 3 2 (by decide) x y
  sl_exec
  have hgi : tile_body.sl.v2470 L = 1#1 ↔ wid L = 0 := wid_guard (L 0) (L 1)
  have hs0 : ∀ (x : S128x2x128.Idx) (y : S16384x2x128.Idx), (y 0).val = 512 * wid L + 128 * 0 + (x 0).val → (y 1).val = (x 1).val → (y 2).val = (x 2).val →
      (b7V).view.read (Elt F) (View.write (Elt F) (b7V).view g7 (tile_body.sl.dma96_1 d L fx) Finset.univ) x = fx y := by
    intro x y h0 h1 h2
    refine (show (b7V).view.read (Elt F) (View.write (Elt F) (b7V).view g7 (tile_body.sl.dma96_1 d L fx) Finset.univ) x = _ by rw [View.write_whole_univ]).trans ?_
    exact load_rows (k0_off4 L) _ (512 * wid L) (by rw [k0_off4_eq]; congr 1; unfold wid; omega) fx x y (by omega) h1 h2
  have hs1 : ∀ (x : S128x2x128.Idx) (y : S16384x2x128.Idx), (y 0).val = 512 * wid L + 128 * 1 + (x 0).val → (y 1).val = (x 1).val → (y 2).val = (x 2).val →
      (b8V).view.read (Elt F) (View.write (Elt F) (b8V).view g8 (tile_body.sl.dma96_2 d L fx) Finset.univ) x = fx y := by
    intro x y h0 h1 h2
    refine (show (b8V).view.read (Elt F) (View.write (Elt F) (b8V).view g8 (tile_body.sl.dma96_2 d L fx) Finset.univ) x = _ by rw [View.write_whole_univ]).trans ?_
    exact load_rows (k0_off5 L 32#32) _ (512 * wid L + 128) (by refine (k0_off5_eq L 0).trans ?_; congr 1; unfold wid; simp only [Fin.val_zero]; omega) fx x y (by omega) h1 h2
  have hs2 : ∀ (x : S128x2x128.Idx) (y : S16384x2x128.Idx), (y 0).val = 512 * wid L + 128 * 2 + (x 0).val → (y 1).val = (x 1).val → (y 2).val = (x 2).val →
      (b7V).view.read (Elt F) (View.write (Elt F) (b7V).view (View.write (Elt F) (b7V).view g7 (tile_body.sl.dma96_1 d L fx) Finset.univ) (tile_body.sl.dma0_1 d L fx) Finset.univ) x = fx y := by
    intro x y h0 h1 h2
    refine (show (b7V).view.read (Elt F) (View.write (Elt F) (b7V).view (View.write (Elt F) (b7V).view g7 (tile_body.sl.dma96_1 d L fx) Finset.univ) (tile_body.sl.dma0_1 d L fx) Finset.univ) x = _ by rw [View.write_whole_univ]).trans ?_
    exact load_rows (k0_off5 L 64#32) _ (512 * wid L + 256) (by refine (k0_off5_eq L 1).trans ?_; congr 1; unfold wid; simp only [Fin.val_one]; omega) fx x y (by omega) h1 h2
  have hs3 : ∀ (x : S128x2x128.Idx) (y : S16384x2x128.Idx), (y 0).val = 512 * wid L + 128 * 3 + (x 0).val → (y 1).val = (x 1).val → (y 2).val = (x 2).val →
      (b8V).view.read (Elt F) (View.write (Elt F) (b8V).view (View.write (Elt F) (b8V).view g8 (tile_body.sl.dma96_2 d L fx) Finset.univ) (tile_body.sl.dma0_2 d L fx) Finset.univ) x = fx y := by
    intro x y h0 h1 h2
    refine (show (b8V).view.read (Elt F) (View.write (Elt F) (b8V).view (View.write (Elt F) (b8V).view g8 (tile_body.sl.dma96_2 d L fx) Finset.univ) (tile_body.sl.dma0_2 d L fx) Finset.univ) x = _ by rw [View.write_whole_univ]).trans ?_
    exact load_rows (k0_off5 L 96#32) _ (512 * wid L + 384) (by refine (k0_off5_eq L 2).trans ?_; congr 1; unfold wid; simp only [Fin.val_two]; omega) fx x y (by omega) h1 h2
  have hX : XsOK (F := F) ft (wid L) fx (tile_body.sl.Ho_sc5 d L ft fx f0 g7 g8 hin3 hin4 hin5 hin6) :=
    xs_four d (cV L) (jV L) (wid L) (fun k => listBlk ft (wid L) k.val) hL.lt hL.inj hL.ne fx
      (fun k => match k with | 0 => b7V | 1 => b8V | 2 => b7V | 3 => b8V)
      (fun k => match k with
        | 0 => View.write (Elt F) (b7V).view g7 (tile_body.sl.dma96_1 d L fx) Finset.univ
        | 1 => View.write (Elt F) (b8V).view g8 (tile_body.sl.dma96_2 d L fx) Finset.univ
        | 2 => View.write (Elt F) (b7V).view (View.write (Elt F) (b7V).view g7 (tile_body.sl.dma96_1 d L fx) Finset.univ) (tile_body.sl.dma0_1 d L fx) Finset.univ
        | 3 => View.write (Elt F) (b8V).view (View.write (Elt F) (b8V).view g8 (tile_body.sl.dma96_2 d L fx) Finset.univ) (tile_body.sl.dma0_2 d L fx) Finset.univ)
      (fun k x y h0 h1 h2 => match k, h0 with
        | 0, h0 => hs0 x y h0 h1 h2
        | 1, h0 => hs1 x y h0 h1 h2
        | 2, h0 => hs2 x y h0 h1 h2
        | 3, h0 => hs3 x y h0 h1 h2)
      rfl f0 _ rfl
  have hR : RankOK ft (wid L) ((rRowK L).view.writes (Elt F) f1 [⟨Rect.whole S128, tile_body.sl.dma96 d L ft g2⟩]) := by
    rw [show tile_body.sl.dma96 d L ft g2 = rankBlk ft (wid L) from e2]
    exact rank_row (k0_off3 L) _ (wid L) (by rw [k0_off3_eq]; congr 1; unfold wid; omega) ft f1
  by_cases hw : wid L = 0
  case' pos =>
    have hg : tile_body.sl.v2470 L = 1#1 := hgi.mpr hw
    ihave Hs := (Entails.of_eq (show ((sLoc d ↦[sSet L]{fullShare} f2 : sProp 𝕄)) = ((sV).view.loc (V d (cV L) (jV L)) ↦{fullShare} f2) from by
      unfold sSet; rw [if_pos hw])) $$ Hs
    sl_exec
    sl_step
    ihave Hs := (Entails.of_eq (show (((sV).view.loc (V d (cV L) (jV L)) ↦{fullShare} _ : sProp 𝕄)) = (sLoc d ↦[sSet L]{fullShare} _) from by
      unfold sSet; rw [if_pos hw])) $$ Hs
  case' neg =>
    have hg : ¬ tile_body.sl.v2470 L = 1#1 := fun h => hw (hgi.mp h)
    sl_exec
    sl_step
  all_goals
    isplitl [Ht Hx Ho Hr Hs]
    · unfold tileOut
      isplitl [Ht]; · iexact Ht
      isplitl [Hx]; · iexact Hx
      isplitl [Ho]
      · iexists _; isplitr
        swap; · iexact Ho
        ipureintro; exact hX
      isplitl [Hr]
      · iexists _; isplitr
        swap; · iexact Hr
        ipureintro; exact hR
      iexists _; iexact Hs
    isplitl [H0 H1 H2 H3 H4 H5 H6 H7 H8 H13 Hbufs]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H13]; · iexists _; iexact H13
      iexact Hbufs
    isplitl [S9 S10 S11 S12 C0 C1 C2 Hsems]
    · isplitl [S9]; · iexact S9
      isplitl [S10]; · iexact S10
      isplitl [S11]; · iexact S11
      isplitl [S12]; · iexact S12
      isplitl [C0]; · iexact C0
      isplitl [C1]; · iexact C1
      isplitl [C2]; · iexact C2
      iexact Hsems
    iexists _; isplitr
    swap; · iexact HO
    ipureintro; intro p hp
    repeat (rcases Finset.mem_insert.mp hp with hp | hp; · exact .inr (congrArg Prod.snd hp))
    exact .inl hp

end Cert.Proof.Disp

end
-- ==== Proof.Rank.lean ====
/-
  The ranks in plain numbers: `rk n` counts the tokens that come before token `n` in the stable order by type. The lane
  vectors the tiles compute hold exactly these numbers, and the rows that the index lists name are the four quarter rows of
  each token's place.
-/
module

public import proofs.«01_k».proof.Proof.Lists

@[expose] public section

set_option maxRecDepth 16384

noncomputable section

namespace Cert.Proof.Disp

open Cert.KernelIdeal Cert.KernelIdeal.Gen
open Idealize.ShloMosaic

/-! ### Lane vectors as functions on numbers -/

/-- Lane `k` of `v` is the number `N k`. -/
def IsV (v : V16) (N : ℕ → ℕ) : Prop := ∀ j : S16.Idx, v j = BitVec.ofNat 32 (N (j 0).val)

theorem lt16 (j : S16.Idx) : (j 0).val < 16 := (j 0).isLt

theorem IsV.congr {v : V16} {N M : ℕ → ℕ} (h : IsV v N) (e : ∀ k, k < 16 → N k = M k) : IsV v M :=
  fun j => (h j).trans (by rw [e _ (lt16 j)])

theorem IsV.addi {v w : V16} {N M : ℕ → ℕ} (h : IsV v N) (k : IsV w M) : IsV (addi v w) (fun n => N n + M n) := fun j => by
  show v j + w j = _
  rw [h j, k j, ← BitVec.ofNat_add]

theorem ofNat_sub_of_le {a b : ℕ} (h : b ≤ a) : BitVec.ofNat 32 a - BitVec.ofNat 32 b = BitVec.ofNat 32 (a - b) := by
  have e : BitVec.ofNat 32 a = BitVec.ofNat 32 (a - b) + BitVec.ofNat 32 b := by
    rw [← BitVec.ofNat_add, Nat.sub_add_cancel h]
  rw [e, BitVec.add_sub_cancel]

theorem IsV.subi {v w : V16} {N M : ℕ → ℕ} (h : IsV v N) (k : IsV w M) (le : ∀ n, n < 16 → M n ≤ N n) :
    IsV (subi v w) (fun n => N n - M n) := fun j => by
  show v j - w j = _
  rw [h j, k j, ofNat_sub_of_le (le _ (lt16 j))]

theorem isV_bc (c : ℕ) : IsV (bc (BitVec.ofNat 32 c)) (fun _ => c) := fun _ => rfl

theorem ofNat_eq_iff {a b : ℕ} (ha : a < 4294967296) (hb : b < 4294967296) : BitVec.ofNat 32 a = BitVec.ofNat 32 b ↔ a = b := by
  constructor
  · intro h
    have e := congrArg BitVec.toNat h
    rwa [BitVec.toNat_ofNat, BitVec.toNat_ofNat, Nat.mod_eq_of_lt ha, Nat.mod_eq_of_lt hb] at e
  · rintro rfl; rfl

theorem sel_eq {α : Type} (x y : BitVec 32) (a b : α) : Scalar.select (IntOp.cmpi .eq x y) a b = if x = y then a else b := by
  by_cases h : x = y
  · subst h; simp [Scalar.select, IntOp.cmpi]
  · have hb : (x == y) = false := by simpa using h
    rw [if_neg h]
    show (if BitVec.ofBool (x == y) = 1 then a else b) = b
    rw [hb]; exact if_neg (by decide)

theorem isV_lane : IsV lane (fun k => k) := fun j => by
  show BitVec.ofNat 32 (0 * 16 + (j 0).val) = _
  rw [Nat.zero_mul, Nat.zero_add]

/-- A choice between two vectors by the lane's own number. -/
theorem isV_atLane {v : V16} {N : ℕ → ℕ} (e : ℕ) (he : e < 16) (h : IsV v N) :
    IsV (select (atLane (BitVec.ofNat 32 e)) v (bc 0#32)) (fun k => if k = e then N k else 0) := fun j => by
  show Scalar.select (IntOp.cmpi .eq (lane j) (BitVec.ofNat 32 e)) (v j) 0#32 = _
  rw [sel_eq, isV_lane j, h j]
  have hj := lt16 j
  show (if BitVec.ofNat 32 (j 0).val = BitVec.ofNat 32 e then BitVec.ofNat 32 (N (j 0).val) else 0#32) = BitVec.ofNat 32 (if (j 0).val = e then N (j 0).val else 0)
  by_cases hk : (j 0).val = e
  · rw [if_pos hk, if_pos (by rw [hk])]
  · rw [if_neg hk, if_neg (by rwa [ofNat_eq_iff (by omega) (by omega)])]

theorem isV_put (e : ℕ) (he : e < 16) (x : ℕ) : IsV (put (BitVec.ofNat 32 e) (BitVec.ofNat 32 x)) (fun k => if k = e then x else 0) :=
  isV_atLane e he (isV_bc x)

/-- A choice by a lane's type. -/
theorem isTy_sel {tv : V16} {T : ℕ → ℕ} (h : IsV tv T) (hT : ∀ k, T k < 8) (e : ℕ) (he : e < 8) (a b : V16) (j : S16.Idx) :
    select (isTy (BitVec.ofNat 32 e) tv) a b j = if T (j 0).val = e then a j else b j := by
  show Scalar.select (IntOp.cmpi .eq (tv j) (BitVec.ofNat 32 e)) (a j) (b j) = _
  rw [sel_eq, h j]
  have ht := hT (j 0).val
  by_cases hk : T (j 0).val = e
  · rw [if_pos hk, if_pos (by rw [hk])]
  · rw [if_neg hk, if_neg (by rwa [ofNat_eq_iff (by omega) (by omega)])]

theorem isV_ind {tv : V16} {T : ℕ → ℕ} (h : IsV tv T) (hT : ∀ k, T k < 8) (e : ℕ) (he : e < 8) :
    IsV (ind (BitVec.ofNat 32 e) tv) (fun k => if T k = e then 1 else 0) := fun j => by
  refine (isTy_sel h hT e he _ _ j).trans ?_
  show (if T (j 0).val = e then 1#32 else 0#32) = BitVec.ofNat 32 (if T (j 0).val = e then 1 else 0)
  by_cases hk : T (j 0).val = e
  · rw [if_pos hk, if_pos hk]
  · rw [if_neg hk, if_neg hk]

/-- The lanes a running sum or maximum adds up to one more lane: those up to the lane before, and that lane. -/
theorem scan_lanes : ∀ n : Fin 15, ((List.finRange 16).filter fun k => decide (0 < k.val ∧ k.val ≤ n.val + 1))
    = ((List.finRange 16).filter fun k => decide (0 < k.val ∧ k.val ≤ n.val)) ++ [⟨n.val + 1, by omega⟩] := by decide +kernel

theorem scan_lanes_zero : ((List.finRange 16).filter fun k => decide (0 < k.val ∧ k.val ≤ 0)) = [] := by decide +kernel

/-- Lane `k` as an index. -/
def ln (k : Fin 16) : S16.Idx := Shape.ofLane k

/-- The running fold of a scan, up to lane `n`. -/
def scanTo (kind : ScanKind) (v : V16) (n : ℕ) : BitVec 32 :=
  ((List.finRange 16).filter fun k => decide (0 < k.val ∧ k.val ≤ n)).foldl
    (fun r k => kind.step r (v (ln k))) (v (ln ⟨0, by decide⟩))

theorem scan_apply (kind : ScanKind) (v : V16) (j : S16.Idx) : scan kind v j = scanTo kind v (j 0).val := rfl

theorem scanTo_zero (kind : ScanKind) (v : V16) : scanTo kind v 0 = v (ln ⟨0, by decide⟩) := by
  unfold scanTo; rw [scan_lanes_zero]; rfl

theorem scanTo_succ (kind : ScanKind) (v : V16) (n : ℕ) (h : n < 15) :
    scanTo kind v (n + 1) = kind.step (scanTo kind v n) (v (ln ⟨n + 1, by omega⟩)) := by
  unfold scanTo
  have e := scan_lanes ⟨n, h⟩
  simp only at e
  rw [e, List.foldl_append]; rfl

theorem isV_scan {v : V16} {N : ℕ → ℕ} (h : IsV v N) : IsV (scan .sum v) (fun n => ∑ k ∈ Finset.range (n + 1), N k) := fun j => by
  rw [scan_apply]
  have key : ∀ n, n < 16 → scanTo .sum v n = BitVec.ofNat 32 (∑ k ∈ Finset.range (n + 1), N k) := by
    intro n
    induction n with
    | zero =>
      intro _
      rw [scanTo_zero, h, Finset.sum_range_one]; rfl
    | succ n ih =>
      intro hn
      rw [scanTo_succ _ _ _ (by omega), ih (by omega), Finset.sum_range_succ _ (n + 1), BitVec.ofNat_add]
      exact congrArg _ (h _)
  exact key _ (lt16 j)

theorem last_eq {v : V16} {N : ℕ → ℕ} (h : IsV v N) : last v = BitVec.ofNat 32 (N 15) := h _

theorem total_eq {v : V16} {N : ℕ → ℕ} (h : IsV v N) : total v = BitVec.ofNat 32 (∑ k ∈ Finset.range 16, N k) := by
  have e := last_eq (isV_scan h)
  simp only [Nat.reduceAdd] at e
  unfold total; exact e

theorem get_eq {v : V16} {N : ℕ → ℕ} (h : IsV v N) (e : ℕ) (he : e < 16) : get (BitVec.ofNat 32 e) v = BitVec.ofNat 32 (N e) := by
  refine (total_eq (isV_atLane e he h)).trans ?_
  rw [Finset.sum_ite_eq' (Finset.range 16) e N, if_pos (Finset.mem_range.mpr he)]

/-- The last lane of a running maximum of counts that never fall, the sign bit turned over on the way in and back. -/
theorem cmax_eq {tv : V16} {e : BitVec 32} {C : ℕ → ℕ} (h : IsV (cs e tv) C) (mono : Monotone C) (b : ∀ n, n < 16 → C n < 2147483648) :
    cmax e tv = BitVec.ofNat 32 (C 15) := by
  have fl : ∀ a, a < 2147483648 → (BitVec.ofNat 32 a ^^^ 2147483648#32).toNat = a + 2147483648 := by
    intro a ha
    rw [BitVec.toNat_xor, BitVec.toNat_ofNat, BitVec.toNat_ofNat, Nat.mod_eq_of_lt (by omega), Nat.mod_eq_of_lt (by omega)]
    rw [Nat.xor_comm]
    have e2 : (2147483648 : ℕ) ^^^ a = 2147483648 ||| a := by
      apply Nat.eq_of_testBit_eq
      intro i
      rw [Nat.testBit_xor, Nat.testBit_or, show (2147483648 : ℕ) = 2 ^ 31 from rfl, Nat.testBit_two_pow]
      by_cases hi : 31 = i
      · subst hi
        rw [Nat.testBit_lt_two_pow (by omega)]; rfl
      · simp [hi]
    have e3 : 2147483648 + a = 2147483648 ||| a := by
      have := Nat.two_pow_add_eq_or_of_lt (i := 31) (b := a) (by omega) 1
      simpa using this
    exact e2.trans (e3.symm.trans (Nat.add_comm _ _))
  have key : ∀ n, n < 16 → scanTo .max (xori (cs e tv) (bc 2147483648#32)) n = BitVec.ofNat 32 (C n) ^^^ 2147483648#32 := by
    intro n
    induction n with
    | zero =>
      intro _
      rw [scanTo_zero]
      show cs e tv _ ^^^ 2147483648#32 = _
      rw [h]; rfl
    | succ n ih =>
      intro hn
      rw [scanTo_succ _ _ _ (by omega), ih (by omega)]
      show IntOp.maxui _ (cs e tv _ ^^^ 2147483648#32) = _
      rw [h]
      show (if (BitVec.ofNat 32 (C (n + 1)) ^^^ 2147483648#32).ult (BitVec.ofNat 32 (C n) ^^^ 2147483648#32) then _ else _) = _
      refine if_neg ?_
      rw [BitVec.ult, fl _ (b _ (by omega)), fl _ (b _ (by omega))]
      have := mono (Nat.le_succ n)
      simp only [decide_eq_true_eq]
      show ¬ (C (n + 1) + _ < C n + _)
      have : C n ≤ C (n + 1) := this
      omega
  show scanTo .max (xori (cs e tv) (bc 2147483648#32)) 15 ^^^ 2147483648#32 = _
  rw [key 15 (by omega), BitVec.xor_assoc, BitVec.xor_self, BitVec.xor_zero]

/-! ### The ranks as numbers -/

/-- Token `n`'s type. -/
def ty (ft : Ids) (n : ℕ) : ℕ := if h : n < 4096 then (ft (fun | 0 => ⟨n, h⟩)).toNat else 0

/-- How many of the first `k` tokens have type `e`. -/
def cnt (ft : Ids) (e k : ℕ) : ℕ := ∑ i ∈ Finset.range k, if ty ft i = e then 1 else 0

/-- How many tokens have a type below `e`. -/
def start (ft : Ids) (e : ℕ) : ℕ := ∑ k ∈ Finset.range e, if k < 8 then cnt ft k 4096 else 0

/-- Token `n`'s place in the stable order by type. -/
def rk (ft : Ids) (n : ℕ) : ℕ := start ft (ty ft n) + cnt ft (ty ft n) n

/-- All the types are among the eight. -/
def Ok8 (ft : Ids) : Prop := ∀ n, (ft n).toNat < 8

section

variable {ft : Ids} (ok : Ok8 ft)

include ok in
theorem ty_lt (n : ℕ) : ty ft n < 8 := by
  unfold ty; split
  · exact ok _
  · decide

theorem isV_tvAt (k : ℕ) : IsV (tvAt ft k) (fun j => ty ft (16 * k + j)) := fun j => by
  by_cases h : 16 * k + (j 0).val < 4096
  · show (if h : 16 * k + (j 0).val < 4096 then ft (fun | 0 => ⟨16 * k + (j 0).val, h⟩) else 0#32)
      = BitVec.ofNat 32 (if h : 16 * k + (j 0).val < 4096 then (ft (fun | 0 => ⟨16 * k + (j 0).val, h⟩)).toNat else 0)
    rw [dif_pos h, dif_pos h, BitVec.ofNat_toNat, BitVec.setWidth_eq]
  · show (if h : 16 * k + (j 0).val < 4096 then ft (fun | 0 => ⟨16 * k + (j 0).val, h⟩) else 0#32)
      = BitVec.ofNat 32 (if h : 16 * k + (j 0).val < 4096 then (ft (fun | 0 => ⟨16 * k + (j 0).val, h⟩)).toNat else 0)
    rw [dif_neg h, dif_neg h]

include ok in
theorem isV_acc (e : ℕ) (he : e < 8) (k : ℕ) :
    IsV (accV ft (BitVec.ofNat 32 e) k) (fun j => ∑ i ∈ Finset.range k, if ty ft (16 * i + j) = e then 1 else 0) := by
  induction k with
  | zero => exact (isV_bc 0).congr fun _ _ => rfl
  | succ k ih =>
    refine (IsV.addi ih (isV_ind (isV_tvAt k) (fun j => ty_lt ok _) e he)).congr fun j _ => ?_
    exact (Finset.sum_range_succ _ _).symm

attribute [local irreducible] accV

theorem sum_groups (f : ℕ → ℕ) (k : ℕ) :
    ∑ j ∈ Finset.range 16, ∑ i ∈ Finset.range k, f (16 * i + j) = ∑ n ∈ Finset.range (16 * k), f n := by
  rw [Finset.sum_comm]
  induction k with
  | zero => simp only [Finset.range_zero, Nat.mul_zero, Finset.sum_empty]
  | succ k ih => rw [Finset.sum_range_succ, ih, Nat.mul_succ, Finset.sum_range_add]

include ok in
theorem total_acc (e : ℕ) (he : e < 8) (k : ℕ) : total (accV ft (BitVec.ofNat 32 e) k) = BitVec.ofNat 32 (cnt ft e (16 * k)) := by
  rw [total_eq (isV_acc ok e he k), sum_groups (fun n => if ty ft n = e then 1 else 0)]; rfl

theorem isV_sumLanes (f : BitVec 32 → V16) (X : ℕ → ℕ) (h : ∀ e, e < 8 → total (f (BitVec.ofNat 32 e)) = BitVec.ofNat 32 (X e)) (m : ℕ)
    (hm : m ≤ 8) : IsV (sumLanes f m) (fun k => if k < m then X k else 0) := by
  induction m with
  | zero => exact (isV_bc 0).congr fun _ _ => rfl
  | succ m ih =>
    have hp : IsV (put (BitVec.ofNat 32 m) (total (f (BitVec.ofNat 32 m)))) (fun k => if k = m then X m else 0) := by
      rw [h m (by omega)]; exact isV_put m (by omega) _
    refine (IsV.addi (ih (by omega)) hp).congr fun k _ => ?_
    by_cases h1 : k < m
    · rw [if_pos h1, if_neg (by omega), if_pos (by omega)]; rfl
    · by_cases h2 : k = m
      · subst h2; rw [if_neg h1, if_pos rfl, if_pos (by omega), Nat.zero_add]
      · rw [if_neg h1, if_neg h2, if_neg (by omega)]

attribute [local irreducible] sumLanes

include ok in
theorem isV_totals : IsV (totals ft) (fun k => if k < 8 then cnt ft k 4096 else 0) := by
  unfold totals
  refine isV_sumLanes (fun e => accV ft e 256) (fun e => cnt ft e 4096) (fun e he => ?_) 8 le_rfl
  have h := total_acc ok e he 256
  rw [show 16 * 256 = 4096 from rfl] at h
  exact h

include ok in
theorem isV_offs : IsV (offs ft) (start ft) := by
  unfold offs ends
  refine (IsV.subi (isV_scan (isV_totals ok)) (isV_totals ok) fun n _ => ?_).congr fun n _ => ?_
  · rw [Finset.sum_range_succ]; exact Nat.le_add_left _ _
  · rw [Finset.sum_range_succ]; exact Nat.add_sub_cancel _ _

include ok in
theorem isV_base0 (w : ℕ) : IsV (base0 ft w) (fun k => start ft k + if k < 8 then cnt ft k (16 * (8 * w)) else 0) := by
  unfold base0 pres
  exact IsV.addi (isV_offs ok) (isV_sumLanes (fun e => accV ft e (8 * w)) (fun e => cnt ft e (16 * (8 * w))) (fun e he => total_acc ok e he (8 * w)) 8 le_rfl)

/-- A chunk's occurrences of type `e` up to lane `n`. -/
def cc (T : ℕ → ℕ) (e n : ℕ) : ℕ := ∑ k ∈ Finset.range (n + 1), if T k = e then 1 else 0

theorem cc_mono (T : ℕ → ℕ) (e : ℕ) : Monotone (cc T e) := fun _ _ h =>
  Finset.sum_le_sum_of_subset (Finset.range_mono (Nat.succ_le_succ h))

theorem cc_le (T : ℕ → ℕ) (e n : ℕ) : cc T e n ≤ n + 1 :=
  (Finset.sum_le_sum fun k _ => (by split <;> omega : (if T k = e then 1 else 0) ≤ 1)).trans (by simp)

theorem isV_cs {tv : V16} {T : ℕ → ℕ} (ht : IsV tv T) (hT : ∀ k, T k < 8) (m : ℕ) (hm : m < 8) :
    IsV (cs (BitVec.ofNat 32 m) tv) (cc T m) := isV_scan (isV_ind ht hT m hm)

attribute [local irreducible] get cs cmax put total last

theorem chunk_eq {tv base : V16} {T B : ℕ → ℕ} (ht : IsV tv T) (hT : ∀ k, T k < 8) (hb : IsV base B) (m : ℕ) (hm : m ≤ 8) :
    IsV (chunk tv base m).1 (fun k => B k + if k < m then cc T k 15 else 0)
      ∧ ∀ j : S16.Idx, T (j 0).val < m → (chunk tv base m).2 j = BitVec.ofNat 32 (B (T (j 0).val) + cc T (T (j 0).val) (j 0).val - 1) := by
  induction m with
  | zero => exact ⟨hb.congr fun _ _ => rfl, fun j h => absurd h (Nat.not_lt_zero _)⟩
  | succ m ih =>
    obtain ⟨i1, i2⟩ := ih (by omega)
    have hc : IsV (cs (BitVec.ofNat 32 m) tv) (cc T m) := isV_cs ht hT m (by omega)
    refine ⟨?_, ?_⟩
    · have hp : IsV (put (BitVec.ofNat 32 m) (cmax (BitVec.ofNat 32 m) tv)) (fun k => if k = m then cc T m 15 else 0) := by
        rw [cmax_eq hc (cc_mono T m) fun n hn => by have := cc_le T m n; omega]; exact isV_put m (by omega) _
      refine (IsV.addi i1 hp).congr fun k _ => ?_
      show (B k + if k < m then cc T k 15 else 0) + (if k = m then cc T m 15 else 0) = B k + if k < m + 1 then cc T k 15 else 0
      by_cases h1 : k < m
      · rw [if_pos h1, if_neg (by omega), if_pos (by omega), Nat.add_zero]
      · by_cases h2 : k = m
        · subst h2; rw [if_neg h1, if_pos rfl, if_pos (by omega), Nat.add_zero]
        · rw [if_neg h1, if_neg h2, if_neg (by omega)]
    · intro j hj
      refine (isTy_sel ht hT m (by omega) _ _ j).trans ?_
      by_cases h : T (j 0).val = m
      · rw [if_pos h, h]
        have hg : get (BitVec.ofNat 32 m) (chunk tv base m).1 = BitVec.ofNat 32 (B m) := by
          rw [get_eq i1 m (by omega), if_neg (Nat.lt_irrefl m), Nat.add_zero]
        show get (BitVec.ofNat 32 m) (chunk tv base m).1 + cs (BitVec.ofNat 32 m) tv j - BitVec.ofNat 32 1 = _
        rw [hg, hc j, ← BitVec.ofNat_add, ofNat_sub_of_le]
        have : 1 ≤ cc T m (j 0).val := by
          unfold cc; rw [Finset.sum_range_succ, if_pos h]; omega
        omega
      · rw [if_neg h]; exact i2 j (by omega)

attribute [local irreducible] chunk

theorem cnt_add (e k n : ℕ) : cnt ft e (k + n) = cnt ft e k + ∑ i ∈ Finset.range n, if ty ft (k + i) = e then 1 else 0 :=
  Finset.sum_range_add _ _ _

include ok in
theorem isV_baseAt (w v : ℕ) : IsV (baseAt ft w v) (fun k => start ft k + if k < 8 then cnt ft k (16 * (8 * w + v)) else 0) := by
  induction v with
  | zero => exact isV_base0 ok w
  | succ v ih =>
    refine (chunk_eq (isV_tvAt (8 * w + v)) (fun k => ty_lt ok _) ih 8 le_rfl).1.congr fun k _ => ?_
    by_cases h : k < 8
    · rw [if_pos h, if_pos h, if_pos h, show 16 * (8 * w + (v + 1)) = 16 * (8 * w + v) + 16 by ring, cnt_add, Nat.add_assoc]; rfl
    · rw [if_neg h, if_neg h, if_neg h]

include ok in
/-- The ranks a chunk computes. -/
theorem rankV_eq (w v : ℕ) (j : S16.Idx) : rankV ft w v j = BitVec.ofNat 32 (rk ft (16 * (8 * w + v) + (j 0).val)) := by
  have ht := ty_lt ok (16 * (8 * w + v) + (j 0).val)
  refine ((chunk_eq (isV_tvAt (8 * w + v)) (fun k => ty_lt ok _) (isV_baseAt ok w v) 8 le_rfl).2 j ht).trans ?_
  rw [if_pos ht]
  unfold rk cc
  rw [cnt_add, Finset.sum_range_succ, if_pos rfl, ← Nat.add_assoc, Nat.add_sub_cancel, Nat.add_assoc]

include ok in
theorem rankBlk_eq (w : ℕ) (p : S128.Idx) : rankBlk ft w p = BitVec.ofNat 32 (rk ft (128 * w + (p 0).val)) := by
  unfold rankBlk
  rw [rankV_eq ok]
  congr 2
  show 16 * (8 * w + (p 0).val / 16) + (p 0).val % 16 = _
  omega

include ok in
theorem listBlk_eq (w c : ℕ) (p : S128.Idx) :
    listBlk ft w c p = BitVec.ofNat 32 (4 * rk ft (128 * w + 32 * c + (p 0).val % 32) + (p 0).val / 32) := by
  show rankV ft w (2 * c + (p 0).val % 32 / 16) _ * BitVec.ofNat 32 4 + BitVec.ofNat 32 ((p 0).val / 32) = _
  rw [rankV_eq ok, ← BitVec.ofNat_mul, ← BitVec.ofNat_add]
  have e : 16 * (8 * w + (2 * c + (p 0).val % 32 / 16)) + (p 0).val % 16 = 128 * w + 32 * c + (p 0).val % 32 := by omega
  show BitVec.ofNat 32 (rk ft (16 * (8 * w + (2 * c + (p 0).val % 32 / 16)) + (p 0).val % 16) * 4 + (p 0).val / 32) = _
  rw [e, Nat.mul_comm]

/-! ### The places are a rearrangement -/

/-- Token `i` comes before token `n` in the stable order by type. -/
def Before (ft : Ids) (i n : ℕ) : Prop := ty ft i < ty ft n ∨ (ty ft i = ty ft n ∧ i < n)

instance (i n : ℕ) : Decidable (Before ft i n) := by unfold Before; infer_instance

/-- The tokens before token `n`. -/
def befores (ft : Ids) (n : ℕ) : Finset ℕ := (Finset.range 4096).filter fun i => Before ft i n

include ok in
/-- A token's place is the number of tokens before it. -/
theorem rk_eq_card (n : ℕ) (hn : n < 4096) : rk ft n = (befores ft n).card := by
  have h8 := ty_lt ok n
  have hs : start ft (ty ft n) = ((Finset.range 4096).filter fun i => ty ft i < ty ft n).card := by
    unfold start
    rw [Finset.sum_congr rfl fun k hk => if_pos (by have := Finset.mem_range.mp hk; omega)]
    unfold cnt
    rw [Finset.sum_comm, Finset.card_filter]
    refine Finset.sum_congr rfl fun i _ => ?_
    rw [Finset.sum_ite_eq]
    simp only [Finset.mem_range]
  have hc : cnt ft (ty ft n) n = ((Finset.range 4096).filter fun i => ty ft i = ty ft n ∧ i < n).card := by
    unfold cnt
    rw [← Finset.card_filter]
    congr 1
    ext i
    simp only [Finset.mem_filter, Finset.mem_range]
    constructor
    · rintro ⟨a, b⟩; exact ⟨by omega, b, a⟩
    · rintro ⟨_, b, a⟩; exact ⟨a, b⟩
  unfold rk
  rw [hs, hc, ← Finset.card_union_of_disjoint, ← Finset.filter_or]
  · rfl
  · rw [Finset.disjoint_filter]
    rintro i _ h ⟨h', _⟩
    omega

include ok in
theorem rk_lt (n : ℕ) (hn : n < 4096) : rk ft n < 4096 := by
  rw [rk_eq_card ok n hn]
  have : befores ft n ⊂ Finset.range 4096 := by
    refine Finset.filter_ssubset.mpr ⟨n, Finset.mem_range.mpr hn, ?_⟩
    unfold Before; omega
  exact (Finset.card_lt_card this).trans_eq (Finset.card_range _)

include ok in
theorem rk_strict {n k : ℕ} (hn : n < 4096) (hk : k < 4096) (h : Before ft n k) : rk ft n < rk ft k := by
  rw [rk_eq_card ok n hn, rk_eq_card ok k hk]
  refine Finset.card_lt_card (Finset.ssubset_iff_of_subset ?_ |>.mpr ⟨n, ?_, ?_⟩)
  · intro i hi
    obtain ⟨hi, hb⟩ := Finset.mem_filter.mp hi
    refine Finset.mem_filter.mpr ⟨hi, ?_⟩
    unfold Before at *; omega
  · exact Finset.mem_filter.mpr ⟨Finset.mem_range.mpr hn, h⟩
  · intro hc
    have := (Finset.mem_filter.mp hc).2
    unfold Before at this; omega

include ok in
theorem rk_inj {n k : ℕ} (hn : n < 4096) (hk : k < 4096) (h : rk ft n = rk ft k) : n = k := by
  by_contra hne
  have : Before ft n k ∨ Before ft k n := by unfold Before; omega
  rcases this with hb | hb
  · have := rk_strict ok hn hk hb; omega
  · have := rk_strict ok hk hn hb; omega

include ok in
theorem rk_surj (r : ℕ) (hr : r < 4096) : ∃ n, n < 4096 ∧ rk ft n = r := by
  have inj : Function.Injective (fun n : Fin 4096 => (⟨rk ft n.val, rk_lt ok n.val n.isLt⟩ : Fin 4096)) := fun a b h =>
    Fin.ext (rk_inj ok a.isLt b.isLt (congrArg Fin.val h))
  obtain ⟨n, hn⟩ := (Finite.injective_iff_surjective.mp inj) ⟨r, hr⟩
  exact ⟨n.val, n.isLt, congrArg Fin.val hn⟩

/-- The quarter rows of the sorted array that tile `w` fills: those at the places of its 128 tokens. -/
def own (ft : Ids) (w r : ℕ) : Prop := ∃ n, n < 4096 ∧ n / 128 = w ∧ r / 4 = rk ft n

include ok in
theorem own_unique {w w' r : ℕ} (h : own ft w r) (h' : own ft w' r) : w = w' := by
  obtain ⟨n, hn, e, hr⟩ := h
  obtain ⟨k, hk, e', hr'⟩ := h'
  have := rk_inj ok hn hk (hr.symm.trans hr')
  subst this; omega

include ok in
theorem own_cover (r : ℕ) (hr : r < 16384) : ∃ w, w < 32 ∧ own ft w r := by
  obtain ⟨n, hn, e⟩ := rk_surj ok (r / 4) (by omega)
  exact ⟨n / 128, by omega, n, hn, rfl, e.symm⟩

include ok in
theorem listBlk_toNat (w : ℕ) (hw : w < 32) (c : Fin 4) (p : S128.Idx) :
    (listBlk ft w c.val p).toNat = 4 * rk ft (128 * w + 32 * c.val + (p 0).val % 32) + (p 0).val / 32 := by
  have hp : (p 0).val < 128 := (p 0).isLt
  have hc : c.val < 4 := c.isLt
  have := rk_lt ok (128 * w + 32 * c.val + (p 0).val % 32) (by omega)
  rw [listBlk_eq ok, BitVec.toNat_ofNat, Nat.mod_eq_of_lt (by omega)]

include ok in
theorem listBlk_inj (w : ℕ) (hw : w < 32) (a b : Fin 4) (x y : S128.Idx)
    (h : (listBlk ft w a.val x).toNat = (listBlk ft w b.val y).toNat) : a = b ∧ x = y := by
  have hx : (x 0).val < 128 := (x 0).isLt
  have hy : (y 0).val < 128 := (y 0).isLt
  have ha : a.val < 4 := a.isLt
  have hb : b.val < 4 := b.isLt
  rw [listBlk_toNat ok w hw, listBlk_toNat ok w hw] at h
  have e := rk_inj ok (n := 128 * w + 32 * a.val + (x 0).val % 32) (k := 128 * w + 32 * b.val + (y 0).val % 32) (by omega) (by omega) (by omega)
  refine ⟨Fin.ext (by omega), funext fun i => ?_⟩
  match i with
  | 0 => exact Fin.ext (show (x 0).val = (y 0).val by rw [e] at h; omega)

include ok in
/-- Every tile's index lists name its own quarter rows, each once. -/
theorem listsOK (w : ℕ) (hw : w < 32) : ListsOK ft w (own ft w) where
  lt c x := by
    have hx : (x 0).val < 128 := (x 0).isLt
    have hc : c.val < 4 := c.isLt
    have := rk_lt ok (128 * w + 32 * c.val + (x 0).val % 32) (by omega)
    rw [listBlk_toNat ok w hw]; omega
  inj c x y h := (listBlk_inj ok w hw c c x y h).2
  ne a b hab x y h := hab (listBlk_inj ok w hw a b x y h).1
  own c x := by
    have hx : (x 0).val < 128 := (x 0).isLt
    have hc : c.val < 4 := c.isLt
    refine ⟨128 * w + 32 * c.val + (x 0).val % 32, by omega, by omega, ?_⟩
    rw [listBlk_toNat ok w hw]; omega

end

end Cert.Proof.Disp

end
-- ==== Proof.Launch.lean ====
/-
  The launch: the arrays dealt out to the thirty-two tiles and put together again, the host's re-layouts before and after
  the call, and the whole run of the program. The sorted array is dealt by the rows a tile's own tokens go to, which the
  ranks settle; the rank list by stretches of 128; the type numbers and the source by shares.
-/
module

public import proofs.«01_k».proof.Proof.Tile
public import proofs.«01_k».proof.Proof.Rank

@[expose] public section

set_option maxRecDepth 16384

noncomputable section

namespace Cert.Proof.Disp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type} [FloatOps F]

local notation "oS" => (Memref.slice (Memref.whole Cert.KernelIdeal.main_v3_0_scv : Memref Cert.KernelIdeal.sig Kind.scVector Space.hbm Cert.KernelIdeal.S16384x2x128 EltTy.f32) (Rect.unit (s := Cert.KernelIdeal.S16384x2x128) ![0, 0, 0] Cert.KernelIdeal.S16384x2x128.size Cert.KernelIdeal.Gen.inb_S16384x2x128_S16384x2x128_0_0_0) (fun _ => rfl))
local notation "𝕄" => MT nD τ sig (HIx 1) (Elt F) ℕ UU ℕ

/-! ## The tiles, by number -/

def coordsV (c : Fin 2) (s : Fin 16) : grid0.Coords :=
  fun | 0 => c | 1 => s | ⟨_ + 2, h⟩ => absurd h (Nat.not_lt.2 (Nat.le_add_left _ _))

/-- Tile `w` is subcore `w / 2` of SparseCore `w % 2`. -/
def pair : Fin 32 ≃ Fin 2 × Fin 16 where
  toFun w := (⟨w.val % 2, by omega⟩, ⟨w.val / 2, by omega⟩)
  invFun p := ⟨2 * p.2.val + p.1.val, by omega⟩
  left_inv w := Fin.ext (by show 2 * (w.val / 2) + w.val % 2 = w.val; omega)
  right_inv p := Prod.ext (Fin.ext (by show (2 * p.2.val + p.1.val) % 2 = p.1.val; omega)) (Fin.ext (by show (2 * p.2.val + p.1.val) / 2 = p.2.val; omega))

def Lw (w : Fin 32) : grid0.Coords := coordsV (pair w).1 (pair w).2

theorem wid_Lw (w : Fin 32) : wid (Lw w) = w.val := by show 2 * (w.val / 2) + w.val % 2 = w.val; omega

def widF (L : grid0.Coords) : Fin 32 := ⟨wid L, wid_lt L⟩

theorem widF_Lw (w : Fin 32) : widF (Lw w) = w := Fin.ext (wid_Lw w)

/-- Over both SparseCores and their subcores is over the thirty-two tiles. -/
theorem bigSep_tiles (Φ : grid0.Coords → sProp 𝕄) :
    (bigSep Finset.univ fun c : Fin 2 => bigSep Finset.univ fun i : Fin 16 => Φ (coordsV c i)) = bigSep Finset.univ fun w : Fin 32 => Φ (Lw w) := by
  rw [← bigSep_univ_prod (fun p : Fin 2 × Fin 16 => Φ (coordsV p.1 p.2)), bigSep_univ_equiv pair]
  rfl

/-! ## The pieces of the arrays -/

section Pieces

variable (ft : Ids) (ok : Ok8 ft)

def oSet (w : Fin 32) : Finset S16384x2x128.Idx := SparseCore.rowsWhere (oS).view 0 (own ft w.val)
theorem oSet_def (w : Fin 32) : oSet ft w = SparseCore.rowsWhere (oS).view 0 (own ft w.val) := rfl
abbrev rSet (w : Fin 32) : Finset S4096.Idx := (rRowK (Lw w)).view.set
abbrev scSet (w : Fin 32) : Finset S5x32.Idx := sSet (Lw w)

theorem mem_rSet (w : Fin 32) (n : S4096.Idx) : n ∈ rSet w ↔ 128 * w.val ≤ (n 0).val ∧ (n 0).val < 128 * w.val + 128 := by
  have e : rSet w = (Rect.unit (s := S4096) (k0_off3 (Lw w)) S128.size (k0_off3_inb (Lw w))).set := by
    show ((View.whole (main_v3_1_scv : Ref sig .scVector)).slice (Rect.unit (s := S4096) (k0_off3 (Lw w)) S128.size (k0_off3_inb (Lw w)))).set = _
    rw [View.set_slice]; exact Finset.map_refl
  have ho : (k0_off3 (Lw w)) 0 = 128 * w.val := by
    rw [k0_off3_eq]
    show 256 * (w.val / 2) + 128 * (w.val % 2) = _
    omega
  rw [e, Rect.mem_set_unit]
  constructor
  · intro h
    have := h 0
    rw [ho] at this
    exact this
  · rintro h a
    match a with
    | 0 => rw [ho]; exact h

theorem mem_oSet (w : Fin 32) (z : S16384x2x128.Idx) : z ∈ oSet ft w ↔ own ft w.val (z 0).val := mem_rows (own ft w.val) z

attribute [irreducible] oSet

include ok in
theorem o_disj : ∀ w ∈ (Finset.univ : Finset (Fin 32)), ∀ w' ∈ (Finset.univ : Finset (Fin 32)), w ≠ w' → Disjoint (oSet ft w) (oSet ft w') := by
  intro w _ w' _ h
  refine Finset.disjoint_left.mpr fun z hz hz' => h (Fin.ext ?_)
  have h1 : own ft w.val (z 0).val := (mem_oSet ft w z).mp hz
  have h2 : own ft w'.val (z 0).val := (mem_oSet ft w' z).mp hz'
  exact own_unique ok h1 h2

include ok in
theorem o_cover : (Finset.univ : Finset (Fin 32)).biUnion (oSet ft) = Finset.univ := by
  refine Finset.eq_univ_iff_forall.mpr fun z => ?_
  have hz : (z 0).val < 16384 := (z 0).isLt
  obtain ⟨w, hw, ho⟩ := own_cover ok (z 0).val hz
  have h : z ∈ oSet ft ⟨w, hw⟩ := (mem_oSet ft ⟨w, hw⟩ z).mpr ho
  exact Finset.mem_biUnion.mpr ⟨⟨w, hw⟩, Finset.mem_univ _, h⟩

theorem r_disj : ∀ w ∈ (Finset.univ : Finset (Fin 32)), ∀ w' ∈ (Finset.univ : Finset (Fin 32)), w ≠ w' → Disjoint (rSet w) (rSet w') :=
  fun w _ w' _ h => Finset.disjoint_left.mpr fun n hn hn' => h (Fin.ext (by
    have h1 := (mem_rSet w n).mp hn
    have h2 := (mem_rSet w' n).mp hn'
    omega))

theorem r_cover : (Finset.univ : Finset (Fin 32)).biUnion rSet = Finset.univ :=
  Finset.eq_univ_iff_forall.mpr fun n => by
    have hn : (n 0).val < 4096 := (n 0).isLt
    exact Finset.mem_biUnion.mpr ⟨⟨(n 0).val / 128, by omega⟩, Finset.mem_univ _, (mem_rSet _ n).mpr ⟨by show 128 * ((n 0).val / 128) ≤ _; omega, by show _ < 128 * ((n 0).val / 128) + 128; omega⟩⟩

theorem s_disj : ∀ w ∈ (Finset.univ : Finset (Fin 32)), ∀ w' ∈ (Finset.univ : Finset (Fin 32)), w ≠ w' → Disjoint (scSet w) (scSet w') := by
  intro w _ w' _ h
  simp only [scSet, sSet, wid_Lw]
  by_cases e : w.val = 0
  · have e' : w'.val ≠ 0 := fun e' => h (Fin.ext (e.trans e'.symm))
    rw [if_neg e']; exact Finset.disjoint_empty_right _
  · rw [if_neg e]; exact Finset.disjoint_empty_left _

theorem s_cover : (Finset.univ : Finset (Fin 32)).biUnion scSet = Finset.univ :=
  Finset.eq_univ_iff_forall.mpr fun n => Finset.mem_biUnion.mpr ⟨0, Finset.mem_univ _, by
    simp only [scSet, sSet, wid_Lw]
    exact Finset.mem_univ n⟩

end Pieces

/-- Pieces at contents of their own are the whole, at contents that agree with each piece's on the piece. -/
theorem join_pieces {ℓ : Loc nD τ sig} (f₀ : Buf (Elt F) ℓ) (A : Fin 32 → Finset (Idx ℓ)) (φ : Fin 32 → Buf (Elt F) ℓ → Prop)
    (hd : ∀ w ∈ (Finset.univ : Finset (Fin 32)), ∀ w' ∈ (Finset.univ : Finset (Fin 32)), w ≠ w' → Disjoint (A w) (A w'))
    (hc : (Finset.univ : Finset (Fin 32)).biUnion A = Finset.univ) :
    (bigSep Finset.univ fun w : Fin 32 => iprop(∃ f, ⌜φ w f⌝ ∗ ℓ ↦[A w]{fullShare} f))
      ⊢ (iprop(∃ g, ⌜∀ w, ∃ f, φ w f ∧ ∀ i ∈ A w, g i = f i⌝ ∗ ℓ ↦{fullShare} g) : sProp 𝕄) := by
  have : Nonempty (Buf (Elt F) ℓ) := ⟨f₀⟩
  refine (bigSep_exists_pi Finset.univ (fun w (f : Buf (Elt F) ℓ) => iprop(⌜φ w f⌝ ∗ ℓ ↦[A w]{fullShare} f))).trans ?_
  iintro ⟨%fs, H⟩
  ihave H' := (bigSep_pure_sep Finset.univ (fun w => φ w (fs w)) (fun w => (ℓ ↦[A w]{fullShare} fs w : sProp 𝕄))) $$ H
  icases H' with ⟨%hφ, H⟩
  ihave H' := (pointsTo_biUnion_join (ℓ := ℓ) (q := fullShare) (Val := Elt F) Finset.univ A fs f₀ hd) $$ H
  icases H' with ⟨%g, %hg, Hg⟩
  rw [hc]
  iexists g
  isplitr
  · ipureintro; exact fun w => ⟨fs w, hφ w (Finset.mem_univ w), hg w (Finset.mem_univ w)⟩
  · iexact Hg

/-! ## What the call takes and brings back -/

abbrev tIn (d : Dev nD) (ft : Buf (Elt F) (tLoc d)) (fx : Buf (Elt F) (xLoc d)) (f0 : Buf (Elt F) (oLoc d)) (f1 : Buf (Elt F) (rLoc d)) (f2 : Buf (Elt F) (sLoc d))
    (L : grid0.Coords) : sProp 𝕄 :=
  tileIn d L (leaf 5 fullShare (widF L)) (own ft (wid L)) ft fx f0 f1 f2
abbrev tOut (d : Dev nD) (ft : Buf (Elt F) (tLoc d)) (fx : Buf (Elt F) (xLoc d)) (L : grid0.Coords) : sProp 𝕄 :=
  tileOut d L (leaf 5 fullShare (widF L)) (own ft (wid L)) ft fx

theorem deal (d : Dev nD) (ft : Buf (Elt F) (tLoc d)) (ok : Ok8 ft) (fx : Buf (Elt F) (xLoc d)) (f0 : Buf (Elt F) (oLoc d)) (f1 : Buf (Elt F) (rLoc d)) (f2 : Buf (Elt F) (sLoc d)) :
    (iprop((tLoc d ↦{fullShare} ft) ∗ (xLoc d ↦{fullShare} fx) ∗ (oLoc d ↦{fullShare} f0) ∗ (rLoc d ↦{fullShare} f1) ∗ (sLoc d ↦{fullShare} f2)) : sProp 𝕄)
      = bigSep Finset.univ fun w : Fin 32 => tIn d ft fx f0 f1 f2 (Lw w) := by
  have h : ∀ w : Fin 32, (tIn d ft fx f0 f1 f2 (Lw w) : sProp 𝕄)
      = iprop((tLoc d ↦{leaf 5 fullShare w} ft) ∗ (xLoc d ↦{leaf 5 fullShare w} fx) ∗ (oLoc d ↦[oSet ft w]{fullShare} f0)
        ∗ (rLoc d ↦[rSet w]{fullShare} f1) ∗ (sLoc d ↦[scSet w]{fullShare} f2)) := by
    intro w
    unfold tIn tileIn
    rw [widF_Lw, wid_Lw, oSet_def]
  rw [bigSep_congr fun w _ => h w, bigSep_sep', bigSep_sep', bigSep_sep', bigSep_sep',
    ← pointsTo_biUnion Finset.univ (ℓ := oLoc d) (oSet ft) (o_disj ft ok), o_cover ft ok,
    ← pointsTo_biUnion Finset.univ (ℓ := rLoc d) rSet r_disj, r_cover,
    ← pointsTo_biUnion Finset.univ (ℓ := sLoc d) scSet s_disj, s_cover]
  congr 1
  · exact pointsTo_leaves Finset.univ ft 5 fullShare
  congr 1
  exact pointsTo_leaves Finset.univ fx 5 fullShare

/-- The sorted array and the rank list as all the tiles leave them. -/
def AllXs (ft : Ids) (fx f : S16384x2x128.Idx → Elt F .f32) : Prop := ∀ w, w < 32 → XsOK (F := F) ft w fx f
def AllRank (ft : Ids) (f : S4096.Idx → BitVec 32) : Prop := ∀ w, w < 32 → RankOK ft w f

theorem gather (d : Dev nD) (ft : Buf (Elt F) (tLoc d)) (ok : Ok8 ft) (fx : Buf (Elt F) (xLoc d)) (f0 : Buf (Elt F) (oLoc d)) (f1 : Buf (Elt F) (rLoc d)) (f2 : Buf (Elt F) (sLoc d)) :
    (bigSep Finset.univ fun w : Fin 32 => tOut d ft fx (Lw w))
      ⊢ (iprop((tLoc d ↦{fullShare} ft) ∗ (xLoc d ↦{fullShare} fx) ∗ (∃ f, ⌜AllXs (F := F) ft fx f⌝ ∗ oLoc d ↦{fullShare} f)
          ∗ (∃ f, ⌜AllRank ft f⌝ ∗ rLoc d ↦{fullShare} f) ∗ ∃ f, sLoc d ↦{fullShare} f) : sProp 𝕄) := by
  have h : ∀ w : Fin 32, (tOut d ft fx (Lw w) : sProp 𝕄)
      = iprop((tLoc d ↦{leaf 5 fullShare w} ft) ∗ (xLoc d ↦{leaf 5 fullShare w} fx)
        ∗ (∃ f, ⌜XsOK (F := F) ft w.val fx f⌝ ∗ oLoc d ↦[oSet ft w]{fullShare} f)
        ∗ (∃ f, ⌜RankOK ft w.val f⌝ ∗ rLoc d ↦[rSet w]{fullShare} f)
        ∗ ∃ f, sLoc d ↦[scSet w]{fullShare} f) := by
    intro w
    unfold tOut tileOut
    rw [widF_Lw, wid_Lw, oSet_def]
  rw [bigSep_congr fun w _ => h w, bigSep_sep', bigSep_sep', bigSep_sep', bigSep_sep']
  iintro ⟨Ht, Hx, Ho, Hr, Hs⟩
  isplitl [Ht]
  · iapply (Entails.of_eq (pointsTo_leaves (ℓ := tLoc d) Finset.univ ft 5 fullShare).symm) $$ Ht
  isplitl [Hx]
  · iapply (Entails.of_eq (pointsTo_leaves (ℓ := xLoc d) Finset.univ fx 5 fullShare).symm) $$ Hx
  isplitl [Ho]
  · ihave H := (join_pieces (ℓ := oLoc d) f0 (oSet ft) (fun w f => XsOK (F := F) ft w.val fx f) (o_disj ft ok) (o_cover ft ok)) $$ Ho
    icases H with ⟨%g, %hg, H⟩
    iexists g
    isplitr
    · ipureintro
      intro w hw c p z y hz hy h1 h2
      obtain ⟨f, hf, hfg⟩ := hg ⟨w, hw⟩
      have ho : own ft w (z 0).val := by rw [hz]; exact (listsOK ok w hw).own c p
      have hm : z ∈ oSet ft ⟨w, hw⟩ := (mem_oSet ft ⟨w, hw⟩ z).mpr ho
      exact (hfg z hm).trans (hf c p z y hz hy h1 h2)
    · iexact H
  isplitl [Hr]
  · ihave H := (join_pieces (ℓ := rLoc d) f1 rSet (fun w f => RankOK ft w.val f) r_disj r_cover) $$ Hr
    icases H with ⟨%g, %hg, H⟩
    iexists g
    isplitr
    · ipureintro
      intro w hw p n hn
      obtain ⟨f, hf, hfg⟩ := hg ⟨w, hw⟩
      refine (hfg n ((mem_rSet _ n).mpr ?_)).trans (hf p n hn)
      have hp : (p 0).val < 128 := (p 0).isLt
      show 128 * w ≤ _ ∧ _ < 128 * w + 128
      omega
    · iexact H
  · have hs : (bigSep Finset.univ fun w : Fin 32 => iprop(∃ f, sLoc d ↦[scSet w]{fullShare} f))
        ⊢ (bigSep Finset.univ fun w : Fin 32 => iprop(∃ f, ⌜True⌝ ∗ sLoc d ↦[scSet w]{fullShare} f) : sProp 𝕄) :=
      bigSep_mono fun w _ => show iprop(∃ f, sLoc d ↦[scSet w]{fullShare} f) ⊢ (iprop(∃ f, ⌜True⌝ ∗ sLoc d ↦[scSet w]{fullShare} f) : sProp 𝕄) by
        iintro ⟨%f, H⟩; iexists f; isplitr
        · ipureintro; trivial
        · iexact H
    ihave Hs' := hs $$ Hs
    ihave H := (join_pieces (ℓ := sLoc d) f2 scSet (fun _ _ => True) s_disj s_cover) $$ Hs'
    icases H with ⟨%g, -, H⟩
    iexists g; iexact H

end Cert.Proof.Disp

end
-- ==== Proof.Run.lean ====
/-
  The run of the whole program: the host's re-layouts, the call between them, and what the memory holds at the end.
-/
module

public import proofs.«01_k».proof.Proof.Launch
public import proofs.«01_k».proof.Proof.Gen.Pre_ids_ok

@[expose] public section

set_option maxRecDepth 16384

noncomputable section

namespace Cert.Proof.Disp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "tV" => (Memref.whole Cert.KernelIdeal.main_arg1_scv : Memref Cert.KernelIdeal.sig Kind.scVector Space.hbm Cert.KernelIdeal.S4096 EltTy.i32)
local notation "xV" => (Memref.whole Cert.KernelIdeal.main_v2_scv : Memref Cert.KernelIdeal.sig Kind.scVector Space.hbm Cert.KernelIdeal.S16384x2x128 EltTy.f32)
local notation "oV" => (Memref.whole Cert.KernelIdeal.main_v3_0_scv : Memref Cert.KernelIdeal.sig Kind.scVector Space.hbm Cert.KernelIdeal.S16384x2x128 EltTy.f32)
local notation "rV" => (Memref.whole Cert.KernelIdeal.main_v3_1_scv : Memref Cert.KernelIdeal.sig Kind.scVector Space.hbm Cert.KernelIdeal.S4096 EltTy.i32)
local notation "sV" => (Memref.whole Cert.KernelIdeal.main_v3_2_scv : Memref Cert.KernelIdeal.sig Kind.scVector Space.hbm Cert.KernelIdeal.S5x32 EltTy.i32)
local notation "b0V" => (Memref.whole Cert.KernelIdeal.cc0_scratch0 : Memref Cert.KernelIdeal.sig Kind.scVector Space.vmem Cert.KernelIdeal.S4096 EltTy.i32)
local notation "b1V" => (Memref.whole Cert.KernelIdeal.cc0_scratch1 : Memref Cert.KernelIdeal.sig Kind.scVector Space.vmem Cert.KernelIdeal.S8x16 EltTy.i32)
local notation "b2V" => (Memref.whole Cert.KernelIdeal.cc0_scratch2 : Memref Cert.KernelIdeal.sig Kind.scVector Space.vmem Cert.KernelIdeal.S128 EltTy.i32)
local notation "b3V" => (Memref.whole Cert.KernelIdeal.cc0_scratch3 : Memref Cert.KernelIdeal.sig Kind.scVector Space.vmem Cert.KernelIdeal.S128 EltTy.i32)
local notation "b4V" => (Memref.whole Cert.KernelIdeal.cc0_scratch4 : Memref Cert.KernelIdeal.sig Kind.scVector Space.vmem Cert.KernelIdeal.S128 EltTy.i32)
local notation "b5V" => (Memref.whole Cert.KernelIdeal.cc0_scratch5 : Memref Cert.KernelIdeal.sig Kind.scVector Space.vmem Cert.KernelIdeal.S128 EltTy.i32)
local notation "b6V" => (Memref.whole Cert.KernelIdeal.cc0_scratch6 : Memref Cert.KernelIdeal.sig Kind.scVector Space.vmem Cert.KernelIdeal.S128 EltTy.i32)
local notation "b7V" => (Memref.whole Cert.KernelIdeal.cc0_scratch7 : Memref Cert.KernelIdeal.sig Kind.scVector Space.vmem Cert.KernelIdeal.S128x2x128 EltTy.f32)
local notation "b8V" => (Memref.whole Cert.KernelIdeal.cc0_scratch8 : Memref Cert.KernelIdeal.sig Kind.scVector Space.vmem Cert.KernelIdeal.S128x2x128 EltTy.f32)
local notation "b13V" => (Memref.whole Cert.KernelIdeal.cc0_scratch13 : Memref Cert.KernelIdeal.sig Kind.scVector Space.vmem Cert.KernelIdeal.S5x32 EltTy.i32)
local notation "𝕄" => MT nD τ sig (HIx 1) (Elt F) ℕ UU ℕ

variable (m : (ℓ : Loc nD τ sig) → Buf (Elt F) ℓ) (ρ : Dev nD → PrngReg)

/-! ## The host's operations -/

abbrev aLoc (d : Dev nD) : Loc nD τ sig := (SparseCore.T d).loc main_arg0
abbrev yLoc (d : Dev nD) : Loc nD τ sig := (SparseCore.T d).loc main_v4

abbrev a0' : DevRef τ sig := Proc.devRef .tc (main_arg0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev o' : DevRef τ sig := Proc.devRef .tc (main_v3_0 : Ref sig .tc)
abbrev y' : DevRef τ sig := Proc.devRef .tc (main_v4 : Ref sig .tc)

abbrev opA : HloOp τ sig (Elt F) := StableHlo.reshape main_arg0 main_v0 (rfl : (.f32 : EltTy) = .f32) shapeCasts_S4096x1024_S128x32x4x2x128
abbrev opB : HloOp τ sig (Elt F) := StableHlo.unary main_v0 main_v1 ((transpose S128x4x32x2x128 [0, 2, 1, 3, 4] · transposes_S128x32x4x2x128_S128x4x32x2x128_0_2_1_3_4) : (⟨S128x32x4x2x128, .f32⟩ : BufTy).Contents (Elt F) → (⟨S128x4x32x2x128, .f32⟩ : BufTy).Contents (Elt F))
abbrev opC : HloOp τ sig (Elt F) := StableHlo.reshape main_v1 main_v2 (rfl : (.f32 : EltTy) = .f32) shapeCasts_S128x4x32x2x128_S16384x2x128
abbrev opY : HloOp τ sig (Elt F) := StableHlo.reshape main_v3_0 main_v4 (rfl : (.f32 : EltTy) = .f32) shapeCasts_S16384x2x128_S4096x1024

abbrev S4 : Finset (DevRef τ sig) := {a0', v0', v1', v2'}
abbrev S2 : Finset (DevRef τ sig) := {o', y'}

theorem held_S4 (d : Dev nD) (W : Valuation τ sig (Elt F)) :
    (held (T d) S4 W : sProp 𝕄) = iprop((aLoc d ↦{fullShare} W a0') ∗ ((SparseCore.T d).loc main_v0 ↦{fullShare} W v0')
      ∗ ((SparseCore.T d).loc main_v1 ↦{fullShare} W v1') ∗ xLoc d ↦{fullShare} W v2') := by
  unfold held S4
  rw [SparseCore.bigSep_insert' (by decide), SparseCore.bigSep_insert' (by decide), SparseCore.bigSep_insert' (by decide), bigSep_singleton]

theorem held_S2 (d : Dev nD) (W : Valuation τ sig (Elt F)) :
    (held (T d) S2 W : sProp 𝕄) = iprop((oLoc d ↦{fullShare} W o') ∗ yLoc d ↦{fullShare} W y') := by
  unfold held S2
  rw [SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1)
      ∗ ((SparseCore.T d).loc main_v0 ↦{fullShare} W main_v0) ∗ ((SparseCore.T d).loc main_v1 ↦{fullShare} W main_v1)
      ∗ (xLoc d ↦{fullShare} W main_v2) ∗ (oLoc d ↦{fullShare} W main_v3_0) ∗ (rLoc d ↦{fullShare} W main_v3_1)
      ∗ (sLoc d ↦{fullShare} W main_v3_2) ∗ yLoc d ↦{fullShare} W main_v4) := by
  unfold unscopedBufs
  rw [show (Finset.univ.filter fun b : Ref sig .tc => ¬ b.isScoped)
      = {main_arg0, main_arg1, main_v0, main_v1, main_v2, main_v3_0, main_v3_1, main_v3_2, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem hA : (opA (F := F)).bufs ⊆ S4 := show ({a0', v0'} : Finset (DevRef τ sig)) ⊆ S4 by decide
theorem hB : (opB (F := F)).bufs ⊆ S4 := show ({v0', v1'} : Finset (DevRef τ sig)) ⊆ S4 by decide
theorem hC : (opC (F := F)).bufs ⊆ S4 := show ({v1', v2'} : Finset (DevRef τ sig)) ⊆ S4 by decide
theorem hY : (opY (F := F)).bufs ⊆ S2 := show ({o', y'} : Finset (DevRef τ sig)) ⊆ S2 by decide

def W0 (d : Dev nD) : Valuation τ sig (Elt F) := fun b => m (d, b)
def W1 (d : Dev nD) : Valuation τ sig (Elt F) := (opA (F := F)).result (W0 m d)
def W2 (d : Dev nD) : Valuation τ sig (Elt F) := (opB (F := F)).result (W1 m d)
def W3 (d : Dev nD) : Valuation τ sig (Elt F) := (opC (F := F)).result (W2 m d)
/-- The source as the call sees it: the tokens, re-laid out. -/
def X (d : Dev nD) : Buf (Elt F) (xLoc d) := W3 m d v2'
/-- What the last re-layout makes of the sorted array. -/
def VY (d : Dev nD) (f : Buf (Elt F) (oLoc d)) : Valuation τ sig (Elt F) := Function.update (W0 m d) o' f
def Y (d : Dev nD) (f : Buf (Elt F) (oLoc d)) : Buf (Elt F) (yLoc d) := (opY (F := F)).result (VY m d f) y'

theorem W3_a0 (d : Dev nD) : W3 m d a0' = m (aLoc d) := by
  unfold W3 W2 W1
  rw [(opC (F := F)).result_of_not_mem _ (b := a0') (show a0' ∉ ({v2'} : Finset (DevRef τ sig)) by decide),
    (opB (F := F)).result_of_not_mem _ (b := a0') (show a0' ∉ ({v1'} : Finset (DevRef τ sig)) by decide),
    (opA (F := F)).result_of_not_mem _ (b := a0') (show a0' ∉ ({v0'} : Finset (DevRef τ sig)) by decide)]
  rfl

theorem held_W3 (d : Dev nD) :
    (held (T d) S4 ((opC (F := F)).result (W2 m d)) : sProp 𝕄) = iprop((aLoc d ↦{fullShare} m (aLoc d)) ∗ ((SparseCore.T d).loc main_v0 ↦{fullShare} W3 m d v0')
      ∗ ((SparseCore.T d).loc main_v1 ↦{fullShare} W3 m d v1') ∗ xLoc d ↦{fullShare} X m d) := by
  rw [show (opC (F := F)).result (W2 m d) = W3 m d from rfl, held_S4, W3_a0]; rfl

theorem VY_o (d : Dev nD) (f : Buf (Elt F) (oLoc d)) : VY m d f o' = f := Function.update_self _ _ _
theorem VY_y (d : Dev nD) (f : Buf (Elt F) (oLoc d)) : VY m d f y' = m (yLoc d) := Function.update_of_ne (show y' ≠ o' by decide) _ _

/-! ## What the handshakes carry -/

abbrev tileI (d : Dev nD) (L : grid0.Coords) : sProp 𝕄 := tIn d (m (tLoc d)) (X m d) (m (oLoc d)) (m (rLoc d)) (m (sLoc d)) L
abbrev tileO (d : Dev nD) (L : grid0.Coords) : sProp 𝕄 := tOut d (m (tLoc d)) (X m d) L

instance tileI_storable (d : Dev nD) (L : grid0.Coords) : BI.Storable (upEmb : UEmb _ 𝕄) (tileI m d L) := by
  unfold tileI tIn tileIn; infer_instance
instance tileO_storable (d : Dev nD) (L : grid0.Coords) : BI.Storable (upEmb : UEmb _ 𝕄) (tileO m d L) := by
  unfold tileO tOut tileOut; infer_instance

def P : (K (F := F)).Pay (nD := nD) (Val := Elt F) (Name := ℕ) (U := UU) where
  st := fun q d c => match q with | 0 => bigSep Finset.univ fun i : Fin 16 => tileI m d (coordsV c i)
  dn := fun q d c => match q with | 0 => bigSep Finset.univ fun i : Fin 16 => tileO m d (coordsV c i)
  go := fun q d c i => match q with | 0 => tileI m d (coordsV c i)
  td := fun q d c i => match q with | 0 => tileO m d (coordsV c i)
  x := fun _ _ => iprop(emp)

instance P_storable : (P (F := F) m).IsStorable where
  st q d c := match q with
    | 0 => (inferInstance : BI.Storable (upEmb : UEmb _ 𝕄) (bigSep Finset.univ fun i : Fin 16 => tileI m d (coordsV c i)))
  dn q d c := match q with
    | 0 => (inferInstance : BI.Storable (upEmb : UEmb _ 𝕄) (bigSep Finset.univ fun i : Fin 16 => tileO m d (coordsV c i)))
  go q d c i := match q with
    | 0 => (inferInstance : BI.Storable (upEmb : UEmb _ 𝕄) (tileI m d (coordsV c i)))
  td q d c i := match q with
    | 0 => (inferInstance : BI.Storable (upEmb : UEmb _ 𝕄) (tileO m d (coordsV c i)))

/-- What the proof asks of the launch memory: every type number is below eight. -/
def PreOK : Prop := ∀ d, Ok8 (m (tLoc d))

/-! ## The tiles' obligation -/

theorem defs₀_vector (c : Fin τ.nSC) (s : Fin τ.nSub) :
    defs₀ (F := F) (.scVector c s) 0 ()
      = SparseCore.onTile hcore0 hsub0 (fun c s => cc0__sc_dispatch_body (coordsV c s) tV (Memref.isWhole_whole _) xV (Memref.isWhole_whole _) oV (Memref.isWhole_whole _)
            rV (Memref.isWhole_whole _) sV (Memref.isWhole_whole _)
            b0V (Memref.isWhole_whole _) b1V (Memref.isWhole_whole _) b2V (Memref.isWhole_whole _) b3V (Memref.isWhole_whole _)
            b4V (Memref.isWhole_whole _) b5V (Memref.isWhole_whole _) b6V (Memref.isWhole_whole _) b7V (Memref.isWhole_whole _)
            b8V (Memref.isWhole_whole _) cc0_scratch9 cc0_scratch10 cc0_scratch11 cc0_scratch12 b13V (Memref.isWhole_whole _)
            cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (ShareLeaves.leaf 5 fullShare (widF (coordsV ⟨_, hci.1⟩ ⟨_, hci.2⟩)))
    (own (m (tLoc d)) (wid (coordsV ⟨_, hci.1⟩ ⟨_, hci.2⟩))) (m (tLoc d)) (X m d) (m (oLoc d)) (m (rLoc d)) (m (sLoc d)) hF
    (listsOK (hpre d) _ (wid_lt _)) O W hO).trans (wp_mono frame _ _ fun _ => obl_post)

theorem vecSplit : (K (F := F)).VecSplit' (P m) 0 := by
  intro d c
  show (bigSep Finset.univ fun i : Fin 16 => tileI m d (coordsV c i)) ⊢ |={Set.univ}=> iprop(
      (bigSep Finset.univ fun i : Fin 16 => tileI m d (coordsV c i))
      ∗ ((bigSep Finset.univ fun i : Fin 16 => tileO m d (coordsV c i)) -∗ bigSep Finset.univ fun i : Fin 16 => tileO m d (coordsV c i)))
  iintro H; imodintro
  isplitl [H]; · iexact H
  iintro H; iexact H

/-! ## The launch element of the ghost state -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The TensorCore's program -/

theorem st0_eq (hpre : PreOK m) (d : Dev nD) : (bigSep Finset.univ fun c : Fin ((K (F := F)).nCore 0) => (P m).st 0 d c)
    = iprop((tLoc d ↦{fullShare} m (tLoc d)) ∗ (xLoc d ↦{fullShare} X m d) ∗ (oLoc d ↦{fullShare} m (oLoc d)) ∗ (rLoc d ↦{fullShare} m (rLoc d)) ∗ (sLoc d ↦{fullShare} m (sLoc d))) := by
  rw [deal d (m (tLoc d)) (hpre d) (X m d)]
  exact bigSep_tiles (fun L => tileI m d L)

theorem dn0_eq (d : Dev nD) : (bigSep Finset.univ fun c : Fin ((K (F := F)).nCore 0) => (P m).dn 0 d c)
    = bigSep Finset.univ fun w : Fin 32 => tOut d (m (tLoc d)) (X m d) (Lw w) :=
  bigSep_tiles (fun L => tileO m d L)

/-- What the program leaves: the two arguments as they were, the sorted tokens and the ranks as the tiles leave them. -/
abbrev FIN (d : Dev nD) : sProp 𝕄 :=
  iprop((aLoc d ↦{fullShare} m (aLoc d)) ∗ (tLoc d ↦{fullShare} m (tLoc d))
    ∗ (∃ f, ⌜AllXs (F := F) (m (tLoc d)) (X m d) f⌝ ∗ yLoc d ↦{fullShare} Y m d f)
    ∗ ∃ f, ⌜AllRank (m (tLoc d)) f⌝ ∗ rLoc d ↦{fullShare} f)

theorem hmain (hpre : PreOK m) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Ht, Hv0, Hv1, Hx, Ho, Hr, Hs, Hy⟩, Hts, -⟩, -⟩
  iapply (wp_hlo_within 𝒱 (SparseCore.T d) none Set.univ (op := opA) (S := S4) hA (V := W0 m d)) $$ [Hb Ha Hv0 Hv1 Hx]
  · isplitl [Hb]; · iexact Hb
    rw [held_S4]
    isplitl [Ha]; · iexact Ha
    isplitl [Hv0]; · iexact Hv0
    isplitl [Hv1]; · iexact Hv1
    iexact Hx
  iintro ⟨Hb, Hheld⟩
  rw [wp_ret]; imodintro
  iapply (wp_hlo_within 𝒱 (SparseCore.T d) none Set.univ (op := opB) (S := S4) hB (V := W1 m d)) $$ [Hb Hheld]
  · isplitl [Hb]; · iexact Hb
    iexact Hheld
  iintro ⟨Hb, Hheld⟩
  rw [wp_ret]; imodintro
  iapply (wp_hlo_within 𝒱 (SparseCore.T d) none Set.univ (op := opC) (S := S4) hC (V := W2 m d)) $$ [Hb Hheld]
  · isplitl [Hb]; · iexact Hb
    iexact Hheld
  iintro ⟨Hb, Hheld⟩
  rw [wp_ret]; imodintro
  ihave Hh := (Entails.of_eq (held_W3 (F := F) m d)) $$ Hheld
  icases Hh with ⟨Ha, -, -, Hx⟩
  iapply ((K (F := F)).wp_run (D (F := F)) 𝒱 (EH := EH) (P := P m) κ d 0) $$ [Hst Ha Ht Hx Ho Hr Hs Hy Hb Hts]
  isplitr; · iexact Hctx
  isplitl [Hst]; · iexact Hst
  isplitl [Ht Hx Ho Hr Hs]
  · rw [st0_eq m hpre]
    isplitl [Ht]; · iexact Ht
    isplitl [Hx]; · iexact Hx
    isplitl [Ho]; · iexact Ho
    isplitl [Hr]; · iexact Hr
    iexact Hs
  iintro ⟨Hst, Hdn⟩
  ihave Hdn := (Entails.of_eq (dn0_eq m d)) $$ Hdn
  ihave Hdn := (gather d (m (tLoc d)) (hpre d) (X m d) (m (oLoc d)) (m (rLoc d)) (m (sLoc d))) $$ Hdn
  icases Hdn with ⟨Ht, -, ⟨%f, %hf, Ho⟩, ⟨%g, %hg, Hr⟩, -⟩
  iapply (wp_hlo_within 𝒱 (SparseCore.T d) none Set.univ (op := opY) (S := S2) hY (V := VY m d f)) $$ [Hb Ho Hy]
  · isplitl [Hb]; · iexact Hb
    rw [held_S2, VY_o, VY_y]
    isplitl [Ho]; · iexact Ho
    iexact Hy
  iintro ⟨Hb, Hheld⟩
  ihave Hh := (Entails.of_eq (held_S2 (F := F) d _)) $$ Hheld
  icases Hh with ⟨-, Hy⟩
  rw [wp_ret]; imodintro; imodintro
  isplitl [Hst]; · iexact Hst
  isplitr [Hb Hts]
  · isplitl [Ha]; · iexact Ha
    isplitl [Ht]; · iexact Ht
    isplitl [Hy]
    · iexists f; isplitr
      · ipureintro; exact hf
      · iexact Hy
    · iexists g; isplitr
      · ipureintro; exact hg
      · iexact Hr
  isplitl [Hb] <;> iassumption

/-- What the memory holds at the end on device `d`. -/
def fq (d : Dev nD) (s' : Phys nD τ sig (Elt F)) : Prop :=
  s'.mem.mem (aLoc d) = m (aLoc d) ∧ s'.mem.mem (tLoc d) = m (tLoc d)
    ∧ (∃ f, AllXs (F := F) (m (tLoc d)) (X m d) f ∧ s'.mem.mem (yLoc d) = Y m d f)
    ∧ AllRank (m (tLoc d)) (s'.mem.mem (rLoc d))

/-- A points-to says what the memory holds. -/
theorem agree {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Ha, Ht, ⟨%f, %hf, Hy⟩, ⟨%g, %hg, Hr⟩⟩, HSI⟩
  ihave H := (agree (m (aLoc d)) s') $$ [Ha HSI]
  · isplitl [Ha] <;> iassumption
  icases H with ⟨%ha, HSI⟩
  ihave H := (agree (m (tLoc d)) s') $$ [Ht HSI]
  · isplitl [Ht] <;> iassumption
  icases H with ⟨%ht, HSI⟩
  ihave H := (agree (Y m d f) s') $$ [Hy HSI]
  · isplitl [Hy] <;> iassumption
  icases H with ⟨%hy, HSI⟩
  ihave H := (agree (ℓ := rLoc d) g s') $$ [Hr HSI]
  · isplitl [Hr] <;> iassumption
  icases H with ⟨%hr, -⟩
  ipureintro
  exact ⟨ha, ht, ⟨f, hf, hy⟩, hr ▸ hg⟩

/-! ## The program's run -/

def QC : PUnit × MemSt nD τ sig (Elt F) → Prop := fun r =>
  (∀ d : Dev nD, r.2.mem (aLoc d) = m (aLoc d) ∧ r.2.mem (tLoc d) = m (tLoc d)
    ∧ (∃ f, AllXs (F := F) (m (tLoc d)) (X m d) f ∧ r.2.mem (yLoc d) = Y m d f)
    ∧ AllRank (m (tLoc d)) (r.2.mem (rLoc d))) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ hpre) (fq m) (hfin m) (QC m) (fun _ h hz => ⟨h, hz⟩)

/-! ## The precondition -/

theorem ofBool_and (p q : Bool) : IntOp.andi (BitVec.ofBool p) (BitVec.ofBool q) = BitVec.ofBool (p && q) := by
  cases p <;> cases q <;> decide

theorem lt_eight (v : BitVec 32) (e : IntOp.andi (IntOp.cmpi .sge v 0#32) (IntOp.cmpi .slt v 8#32) = 1#1) : v.toNat < 8 := by
  have ofBool_eq_one (p : Bool) : (BitVec.ofBool p = 1#1) ↔ p = true := by cases p <;> decide
  simp only [IntOp.cmpi, ofBool_and, ofBool_eq_one, Bool.and_eq_true, BitVec.sle_eq_decide, BitVec.slt_eq_decide,
    decide_eq_true_eq, BitVec.toInt_eq_toNat_cond, BitVec.toNat_ofNat, Nat.reducePow, Nat.reduceMod] at e
  omega

end Cert.Proof.Disp

end
-- ==== Proof.RefRun.lean ====
/-
  The run of the reference: a straight line of host operations, whose results are the operations folded over the launch
  contents.
-/
module

public import proofs.«01_k».proof.Defs
public import Idealize.ShloMosaic.Lib.StableHlo.Run
public import proofs.«01_k».proof.Proof.Gen.ReferenceIdeal

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's operations, in order. -/
abbrev ops : List (HloOp τ sig (Elt F)) :=
  [ nullary main_v0 (iotaInDim S4096 32 0),
    unary main_arg1 main_v1 (broadcastInDim S4096x1 ![0] bcast_S4096_S4096x1_0),
    unary main_arg1 main_v2 (broadcastInDim S1x4096 ![1] bcast_S4096_S1x4096_1),
    unary main_v2 main_v3 (broadcastInDim S4096x4096 ![0, 1] bcast_S1x4096_S4096x4096_0_1),
    unary main_v1 main_v4 (broadcastInDim S4096x4096 ![0, 1] bcast_S4096x1_S4096x4096_0_1),
    binary main_v3 main_v4 main_v5 (cmpi .slt),
    unary main_v2 main_v6 (broadcastInDim S4096x4096 ![0, 1] bcast_S1x4096_S4096x4096_0_1),
    unary main_v1 main_v7 (broadcastInDim S4096x4096 ![0, 1] bcast_S4096x1_S4096x4096_0_1),
    binary main_v6 main_v7 main_v8 (cmpi .eq),
    unary main_v0 main_v9 (broadcastInDim S1x4096 ![1] bcast_S4096_S1x4096_1),
    unary main_v0 main_v10 (broadcastInDim S4096x1 ![0] bcast_S4096_S4096x1_0),
    unary main_v9 main_v11 (broadcastInDim S4096x4096 ![0, 1] bcast_S1x4096_S4096x4096_0_1),
    unary main_v10 main_v12 (broadcastInDim S4096x4096 ![0, 1] bcast_S4096x1_S4096x4096_0_1),
    binary main_v11 main_v12 main_v13 (cmpi .slt),
    binary main_v8 main_v13 main_v14 andi,
    binary main_v5 main_v14 main_v15 ori,
    unary main_v15 main_v16 (extui 32 · natLt_1_32),
    nullary main_c (constantI S_ 32 0#32),
    binary main_v16 main_c main_v17 (fun x v => Host.reduce IntOp.addi x v reducesTo_S4096x4096_S4096_d1 h_S_),
    unary main_v17 main_v18 (broadcastInDim S1x4096 ![1] bcast_S4096_S1x4096_1),
    unary main_v0 main_v19 (broadcastInDim S4096x1 ![0] bcast_S4096_S4096x1_0),
    unary main_v18 main_v20 (broadcastInDim S4096x4096 ![0, 1] bcast_S1x4096_S4096x4096_0_1),
    unary main_v19 main_v21 (broadcastInDim S4096x4096 ![0, 1] bcast_S4096x1_S4096x4096_0_1),
    binary main_v20 main_v21 main_v22 (cmpi .eq),
    unary main_v22 main_v23 (uitofp .f32),
    binary main_v23 main_arg0 main_v24 (fun l r => Host.dotGeneral dot_S4096x4096_S4096x1024_S4096x1024_1_0_0_1_n_n none l r) ]

theorem main_eq (c : Dev nD) : main (F := F) c = seq ops := rfl

/-- Entry [n, i]: token i comes before token n, its type being lower, or the same and its number lower. -/
def before (t : IVec S4096 32) : IVec S4096x4096 1 :=
  ori
    (cmpi .slt (broadcastInDim S4096x4096 ![0, 1] bcast_S1x4096_S4096x4096_0_1 (broadcastInDim S1x4096 ![1] bcast_S4096_S1x4096_1 t))
      (broadcastInDim S4096x4096 ![0, 1] bcast_S4096x1_S4096x4096_0_1 (broadcastInDim S4096x1 ![0] bcast_S4096_S4096x1_0 t)))
    (andi
      (cmpi .eq (broadcastInDim S4096x4096 ![0, 1] bcast_S1x4096_S4096x4096_0_1 (broadcastInDim S1x4096 ![1] bcast_S4096_S1x4096_1 t))
        (broadcastInDim S4096x4096 ![0, 1] bcast_S4096x1_S4096x4096_0_1 (broadcastInDim S4096x1 ![0] bcast_S4096_S4096x1_0 t)))
      (cmpi .slt (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))

/-- How many tokens come before each. -/
def ranks (t : IVec S4096 32) : IVec S4096 32 :=
  Host.reduce IntOp.addi (extui 32 (before t) natLt_1_32) (constantI S_ 32 0#32) reducesTo_S4096x4096_S4096_d1 h_S_

/-- Entry [s, n]: token n's rank is s. -/
def placed (r : IVec S4096 32) : IVec S4096x4096 1 :=
  cmpi .eq (broadcastInDim S4096x4096 ![0, 1] bcast_S1x4096_S4096x4096_0_1 (broadcastInDim S1x4096 ![1] bcast_S4096_S1x4096_1 r))
    (broadcastInDim S4096x4096 ![0, 1] bcast_S4096x1_S4096x4096_0_1 (broadcastInDim S4096x1 ![0] bcast_S4096_S4096x1_0 (iotaInDim S4096 32 0)))

/-- The tokens, each at its rank. -/
def sorted (x : FVec F S4096x1024 .f32) (t : IVec S4096 32) : FVec F S4096x1024 .f32 :=
  Host.dotGeneral dot_S4096x4096_S4096x1024_S4096x1024_1_0_0_1_n_n none (uitofp .f32 (placed (ranks t))) x

theorem v17_eq (V : Valuation τ sig (Elt F)) : after ops V (main_v17 : DevRef τ sig) = ranks (V (main_arg1 : DevRef τ sig)) := by
  after_results
  rfl

theorem v24_eq (V : Valuation τ sig (Elt F)) :
    after ops V (main_v24 : DevRef τ sig) = sorted (V (main_arg0 : DevRef τ sig)) (V (main_arg1 : DevRef τ sig)) := by
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub ..,
    unary_bufs_sub .., unary_bufs_sub .., binary_bufs_sub .., unary_bufs_sub .., unary_bufs_sub .., unary_bufs_sub ..,
    unary_bufs_sub .., binary_bufs_sub .., binary_bufs_sub .., binary_bufs_sub .., unary_bufs_sub .., nullary_bufs_sub ..,
    binary_bufs_sub .., unary_bufs_sub .., unary_bufs_sub .., unary_bufs_sub .., unary_bufs_sub .., binary_bufs_sub ..,
    unary_bufs_sub .., binary_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v24) = sorted (m ((c.tc : Thread nD τ).loc main_arg0)) (m ((c.tc : Thread nD τ).loc main_arg1))
        ∧ r.2.mem ((c.tc : Thread nD τ).loc main_v17) = ranks (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v24).trans (v24_eq _), (h c main_v17).trans (v17_eq _),
      (h c main_arg0).trans (arg0_eq _), (h c main_arg1).trans (arg1_eq _)⟩)
    (run_seq scopedRefs_eq scopedSems_eq defs main (fun _ => ops) main_eq (fun _ => ops_sub) m ρ)

end Cert.Proof.Ref

end
-- ==== Proof.Frames.lean ====
/-
  The programs run: they end, no fault, their arguments unchanged, every counter back at zero.
-/
module

public import proofs.«01_k».proof.Proof.Run
public import proofs.«01_k».proof.Proof.RefRun
public import Idealize.ShloMosaic.Lib.ReduceAll
public import proofs.«01_k».proof.Proof.Gen.Kernel

@[expose] public section

set_option maxRecDepth 16384

noncomputable section

namespace Cert.Proof

open Idealize.ShloMosaic Idealize.SL.Sem

/-- The precondition, read at one token. -/
theorem ids_of_pre {F : FTy → Type} [FloatOps F] (x : FVec F Cert.Pre_ids_ok.S4096x1024 .f32) (t : IVec Cert.Pre_ids_ok.S4096 32)
    (h : Cert.Pre_ids_ok.fn x t = fun _ => 1#1) : Disp.Ok8 t := by
  intro n
  have e := congrFun h (fun a => a.elim0)
  dsimp only [Cert.Pre_ids_ok.fn] at e
  have e' := Host.reduce_andi_all _ _ _ _ _ e n
  exact Disp.lt_eight (t n) e'

theorem ok_kernelIdeal (m : (ℓ : Loc Cert.KernelIdeal.nD Cert.KernelIdeal.τ Cert.KernelIdeal.sig) → Buf (Elt Ideal) ℓ)
    (h : Cert.Pre_KernelIdeal m) : Disp.PreOK m := fun d => ids_of_pre _ _ (h d)

theorem ok_kernel (m : (ℓ : Loc Cert.Kernel.nD Cert.Kernel.τ Cert.Kernel.sig) → Buf (Elt Bits) ℓ)
    (h : Cert.Pre_Kernel m) : Disp.PreOK (F := Bits) m := fun d => ids_of_pre _ _ (h d)

theorem frame_kernelIdeal : Cert.quiescent_KernelIdeal := fun m ρ hpre =>
  (θ_run Cert.KernelIdeal.defs _ _).mono (fun _ h => ⟨fun c => ⟨(h.1 c).1, (h.1 c).2.1⟩, h.2⟩)
    (Disp.run_main (F := Ideal) m ρ (ok_kernelIdeal m hpre))

/-- The program at the machine's own floats has the text of the idealized one, whose run holds at any floats. -/
theorem frame_kernel : Cert.quiescent_Kernel := fun m ρ hpre =>
  (θ_run Cert.KernelIdeal.defs _ _).mono (fun _ h => ⟨fun c => ⟨(h.1 c).1, (h.1 c).2.1⟩, h.2⟩)
    (Disp.run_main (F := Bits) m ρ (ok_kernel m hpre))

theorem frame_reference : Cert.quiescent_ReferenceIdeal := by
  intro m ρ _
  exact (θ_run Cert.ReferenceIdeal.defs _ _).mono (fun r h => ⟨fun c => ⟨(h c).2.2.1, (h c).2.2.2⟩,
      Idealize.ShloMosaic.sem_eq_zero_of_no_sems (by decide) r.2⟩)
    (Ref.run_main (F := Ideal) m ρ)

end Cert.Proof

end
-- ==== Proof.RefValue.lean ====
/-
  What the reference's results hold: each token's rank, and the tokens at their ranks.
-/
module

public import proofs.«01_k».proof.Proof.RefRun
public import proofs.«01_k».proof.Proof.Rank
public import Idealize.ShloMosaic.Lib.Pointwise
public import Idealize.ShloMosaic.Lib.WordSum
public import Idealize.ShloMosaic.PureOps.Ideal

@[expose] public section

set_option maxRecDepth 16384

noncomputable section

namespace Cert.Proof.Ref

open Cert.ReferenceIdeal Cert.ReferenceIdeal.Gen
open Idealize.ShloMosaic
open Cert.Proof.Disp (Ok8 ty rk Before befores)

/-- A bit as a number. -/
abbrev bit (p : Prop) [Decidable p] : BitVec 1 := if p then 1#1 else 0#1

theorem cmpi_slt_bit {a b : BitVec 32} (ha : a.toNat < 2147483648) (hb : b.toNat < 2147483648) :
    IntOp.cmpi .slt a b = bit (a.toNat < b.toNat) := by
  unfold IntOp.cmpi
  have : a.slt b = decide (a.toNat < b.toNat) := by
    rw [BitVec.slt_eq_decide, BitVec.toInt_eq_toNat_of_lt (by omega), BitVec.toInt_eq_toNat_of_lt (by omega)]
    exact decide_eq_decide.mpr Nat.cast_lt
  by_cases h : a.toNat < b.toNat <;> simp [this, h]

theorem cmpi_eq_bit (a b : BitVec 32) : IntOp.cmpi .eq a b = bit (a = b) := by
  unfold IntOp.cmpi
  by_cases h : a = b <;> simp [h, beq_iff_eq, beq_eq_false_iff_ne.mpr]

theorem and_bit (p q : Prop) [Decidable p] [Decidable q] : bit p &&& bit q = bit (p ∧ q) := by
  by_cases p <;> by_cases q <;> simp [*]

theorem or_bit (p q : Prop) [Decidable p] [Decidable q] : bit p ||| bit q = bit (p ∨ q) := by
  by_cases p <;> by_cases q <;> simp [*]

/-- A vector spread over the rows of a matrix. -/
theorem row_apply {α : Type} (t : S4096.Idx → α) (n i : Fin 4096) :
    broadcastInDim S4096x4096 ![0, 1] bcast_S1x4096_S4096x4096_0_1 (broadcastInDim S1x4096 ![1] bcast_S4096_S1x4096_1 t) (ix2 n i) = t (ix1 i) := by
  rw [broadcastInDim_apply _ _ _ _ (ix2 0 i) (fun a => by fin_cases a <;> rfl),
    broadcastInDim_apply _ _ _ _ (ix1 i) (fun a => by fin_cases a; rfl)]

/-- A vector spread over the columns of a matrix. -/
theorem col_apply {α : Type} (t : S4096.Idx → α) (n i : Fin 4096) :
    broadcastInDim S4096x4096 ![0, 1] bcast_S4096x1_S4096x4096_0_1 (broadcastInDim S4096x1 ![0] bcast_S4096_S4096x1_0 t) (ix2 n i) = t (ix1 n) := by
  rw [broadcastInDim_apply _ _ _ _ (ix2 n 0) (fun a => by fin_cases a <;> rfl),
    broadcastInDim_apply _ _ _ _ (ix1 n) (fun a => by fin_cases a; rfl)]

theorem iota_apply (n : Fin 4096) : iotaInDim S4096 32 0 (ix1 n) = BitVec.ofNat 32 n.val := rfl

theorem ty_ix (t : IVec S4096 32) (n : Fin 4096) : ty t n.val = (t (ix1 n)).toNat := by
  unfold ty
  rw [dif_pos n.isLt]
  exact congrArg (fun j => (t j).toNat) (funext fun a => by fin_cases a; rfl)

theorem toNat_ofNat_lt (n : Fin 4096) : (BitVec.ofNat 32 n.val).toNat = n.val := by
  rw [BitVec.toNat_ofNat]; have := n.isLt; omega

theorem before_apply (t : IVec S4096 32) (ok : Ok8 t) (n i : Fin 4096) :
    before t (ix2 n i) = bit (Before t i.val n.val) := by
  have hn := ok (ix1 n)
  have hi := ok (ix1 i)
  show IntOp.ori (IntOp.cmpi .slt (broadcastInDim _ _ _ _ _) (broadcastInDim _ _ _ _ _))
    (IntOp.andi (IntOp.cmpi .eq (broadcastInDim _ _ _ _ _) (broadcastInDim _ _ _ _ _))
      (IntOp.cmpi .slt (broadcastInDim _ _ _ _ _) (broadcastInDim _ _ _ _ _))) = _
  rw [row_apply, col_apply, row_apply, col_apply, iota_apply, iota_apply, cmpi_eq_bit,
    cmpi_slt_bit (by omega) (by omega),
    cmpi_slt_bit (by rw [toNat_ofNat_lt]; omega) (by rw [toNat_ofNat_lt]; omega), toNat_ofNat_lt, toNat_ofNat_lt]
  show bit _ ||| (bit _ &&& bit _) = _
  rw [and_bit, or_bit]
  unfold Before
  simp only [ty_ix, bit, BitVec.toNat_inj]

/-- The reference's ranks are the places in the stable order by type. -/
theorem ranks_apply (t : IVec S4096 32) (ok : Ok8 t) (n : Fin 4096) : ranks t (ix1 n) = BitVec.ofNat 32 (rk t n.val) := by
  have red : S4096x4096.Reduces [1] S4096 := by decide
  unfold ranks
  haveI : Std.Commutative (IntOp.addi : BitVec 32 → BitVec 32 → BitVec 32) := ⟨BitVec.add_comm⟩
  haveI : Std.Associative (IntOp.addi : BitVec 32 → BitVec 32 → BitVec 32) := ⟨BitVec.add_assoc⟩
  rw [Host.reduce_eq_fold_single IntOp.addi _ _ _ red]
  have e : (extui 32 (before t) natLt_1_32 ∘ red.lift (ix1 n))
      = fun i : Fin 4096 => BitVec.ofNat 32 (if Before t i.val n.val then 1 else 0) := by
    funext i
    have hl : red.lift (ix1 n) i = ix2 n i := by
      funext a
      apply Fin.ext
      rw [red.lift_val]
      fin_cases a <;> rfl
    rw [Function.comp_apply, hl]
    show (before t (ix2 n (i : Fin 4096))).setWidth 32 = _
    rw [show before t (ix2 n (i : Fin 4096)) = _ from before_apply t ok n i]
    by_cases h : Before t i.val n.val <;> simp [h]
  rw [e]
  have s : ∀ S : Finset (Fin 4096), S.fold IntOp.addi (0#32) (fun i : Fin 4096 => BitVec.ofNat 32 (if Before t i.val n.val then 1 else 0))
      = BitVec.ofNat 32 (∑ i ∈ S, if Before t i.val n.val then 1 else 0) := by
    intro S
    induction S using Finset.cons_induction with
    | empty => rfl
    | cons a S ha ih =>
      rw [Finset.fold_cons, Finset.sum_cons, ih, BitVec.ofNat_add]; rfl
  rw [show constantI S_ 32 0#32 (Shape.Idx.first h_S_) = 0#32 from rfl]
  refine (s Finset.univ).trans (congrArg _ ?_)
  rw [Disp.rk_eq_card ok n.val n.isLt]
  unfold befores
  rw [Finset.card_filter, Finset.sum_range]

theorem placed_at (r : IVec S4096 32) (s n : Fin 4096) : placed r (ix2 s n) = IntOp.cmpi .eq (r (ix1 n)) (BitVec.ofNat 32 s.val) := by
  show IntOp.cmpi .eq (broadcastInDim _ _ _ _ _) (broadcastInDim _ _ _ _ _) = _
  rw [row_apply, col_apply, iota_apply]

/-- A token sits at its rank. -/
theorem placed_apply (t : IVec S4096 32) (ok : Ok8 t) (s n : Fin 4096) : placed (ranks t) (ix2 s n) = bit (rk t n.val = s.val) := by
  have := Disp.rk_lt ok n.val n.isLt
  rw [placed_at, ranks_apply t ok, cmpi_eq_bit]
  have e : BitVec.ofNat 32 (rk t n.val) = BitVec.ofNat 32 s.val ↔ rk t n.val = s.val :=
    Disp.ofNat_eq_iff (by omega) (by omega)
  simp only [bit, e]

/-- Row `rk n` of the sorted array is token `n`. -/
theorem sorted_apply (x : FVec Ideal S4096x1024 .f32) (t : IVec S4096 32) (ok : Ok8 t) (s n : Fin 4096) (c : Fin 1024) (h : rk t n.val = s.val) :
    sorted x t (ix2 s c) = x (ix2 n c) := by
  have e : sorted x t (ix2 s c) = ∑ k : Fin 4096, uitofp (F := Ideal) .f32 (placed (ranks t)) (ix2 s k) * x (ix2 k c) := by
    unfold sorted
    generalize uitofp (F := Ideal) .f32 (placed (ranks t)) = A
    pointwise
  rw [e, Finset.sum_eq_single n]
  · show (((placed (ranks t) (ix2 s n)).toNat : ℝ) : EReal) * _ = _
    rw [placed_apply t ok, bit, if_pos h]
    simp
  · intro k _ hk
    show (((placed (ranks t) (ix2 s k)).toNat : ℝ) : EReal) * _ = _
    rw [placed_apply t ok, bit, if_neg (fun h' => hk (Fin.ext (Disp.rk_inj ok k.isLt n.isLt (h'.trans h.symm))))]
    simp
  · intro hn; exact absurd (Finset.mem_univ _) hn

end Cert.Proof.Ref

end
-- ==== Proof.KerValue.lean ====
/-
  What the kernel's results hold: the re-layouts before and after the call, read at an index, and the sorted array through
  them.
-/
module

public import proofs.«01_k».proof.Proof.Run
public import Idealize.ShloMosaic.Lib.Pointwise
public import Idealize.ShloMosaic.Lib.Pipeline.Value

@[expose] public section

set_option maxRecDepth 16384

noncomputable section

namespace Cert.Proof.Disp

open Cert.KernelIdeal Cert.KernelIdeal.Gen
open Idealize.ShloMosaic

variable {F : FTy → Type} [FloatOps F]
variable (m : (ℓ : Loc nD τ sig) → Buf (Elt F) ℓ)

/-- The tokens, re-laid out for the call. -/
def relaid {α : Type} (x : S4096x1024.Idx → α) : S16384x2x128.Idx → α :=
  shapeCast S16384x2x128 (transpose S128x4x32x2x128 [0, 2, 1, 3, 4] (shapeCast S128x32x4x2x128 x shapeCasts_S4096x1024_S128x32x4x2x128)
    transposes_S128x32x4x2x128_S128x4x32x2x128_0_2_1_3_4) shapeCasts_S128x4x32x2x128_S16384x2x128

theorem X_eq (d : Dev nD) : X m d = relaid (m (aLoc d)) := by
  unfold X W3 W2 W1 relaid
  have hC : ∀ V : Valuation τ sig (Elt F), (opC (F := F)).result V v2' = shapeCast S16384x2x128 (V v1') shapeCasts_S128x4x32x2x128_S16384x2x128 :=
    fun V => StableHlo.reshape_result ..
  have hB : ∀ V : Valuation τ sig (Elt F), (opB (F := F)).result V v1' = transpose S128x4x32x2x128 [0, 2, 1, 3, 4] (V v0') transposes_S128x32x4x2x128_S128x4x32x2x128_0_2_1_3_4 :=
    fun V => StableHlo.unary_result ..
  have hA : ∀ V : Valuation τ sig (Elt F), (opA (F := F)).result V v0' = shapeCast S128x32x4x2x128 (V a0') shapeCasts_S4096x1024_S128x32x4x2x128 :=
    fun V => StableHlo.reshape_result ..
  rw [hC, hB, hA]
  rfl

theorem Y_eq (d : Dev nD) (f : Buf (Elt F) (oLoc d)) : Y m d f = shapeCast S4096x1024 (f : S16384x2x128.Idx → Elt F .f32) shapeCasts_S16384x2x128_S4096x1024 := by
  have hY : ∀ V : Valuation τ sig (Elt F), (opY (F := F)).result V y' = shapeCast S4096x1024 (V o') shapeCasts_S16384x2x128_S4096x1024 :=
    fun V => StableHlo.reshape_result ..
  unfold Y
  rw [hY, VY_o]

/-- Quarter `j` of token `32 A + k` lies in row `128 A + 32 j + k`. -/
theorem relaid_apply {α : Type} (x : S4096x1024.Idx → α) (A : Fin 128) (k : Fin 32) (j : Fin 4) (a : Fin 2) (b : Fin 128)
    (y : S16384x2x128.Idx) (n : S4096x1024.Idx) (h0 : (y 0).val = 128 * A.val + 32 * j.val + k.val) (h1 : (y 1).val = a.val) (h2 : (y 2).val = b.val)
    (n0 : (n 0).val = 32 * A.val + k.val) (n1 : (n 1).val = 256 * j.val + 128 * a.val + b.val) : relaid x y = x n := by
  unfold relaid
  rw [shapeCast_apply _ _ y (ix5 A j k a b : S128x4x32x2x128.Idx), transpose_apply _ _ _ _ (ix5 A k j a b : S128x32x4x2x128.Idx),
    shapeCast_apply _ _ _ n]
  · rw [rowMajor_val2 n 1024 rfl, rowMajor_val5 _ 32768 1024 256 128 rfl rfl rfl rfl, n0, n1]
    show _ = A.val * 32768 + k.val * 1024 + j.val * 256 + a.val * 128 + b.val
    omega
  · intro c; fin_cases c <;> rfl
  · rw [rowMajor_val3 y 256 128 rfl rfl, rowMajor_val5 _ 32768 8192 256 128 rfl rfl rfl rfl, h0, h1, h2]
    show A.val * 32768 + j.val * 8192 + k.val * 256 + a.val * 128 + b.val = _
    omega

/-- The kernel's first result: row `rk n` is token `n`. -/
theorem Y_apply (d : Dev nD) (f : Buf (Elt F) (oLoc d)) (ok : Ok8 (m (tLoc d))) (hf : AllXs (F := F) (m (tLoc d)) (X m d) f)
    (s n : Fin 4096) (c : Fin 1024) (h : rk (m (tLoc d)) n.val = s.val) :
    (Y m d f : S4096x1024.Idx → Elt F .f32) (ix2 s c) = (m (aLoc d) : S4096x1024.Idx → Elt F .f32) (ix2 n c) := by
  have hn := n.isLt
  have hs := s.isLt
  have hc := c.isLt
  let a : Fin 2 := ⟨c.val % 256 / 128, by omega⟩
  let b : Fin 128 := ⟨c.val % 128, by omega⟩
  let j : Fin 4 := ⟨c.val / 256, by omega⟩
  let k : Fin 32 := ⟨n.val % 32, by omega⟩
  let A : Fin 128 := ⟨n.val / 32, by omega⟩
  let z : S16384x2x128.Idx := ix3 ⟨4 * s.val + j.val, by have := j.isLt; omega⟩ a b
  let y : S16384x2x128.Idx := ix3 ⟨128 * A.val + 32 * j.val + k.val, by have := j.isLt; have := A.isLt; have := k.isLt; omega⟩ a b
  let p : S128.Idx := ix1 ⟨32 * j.val + k.val, by have := j.isLt; have := k.isLt; omega⟩
  let q : Fin 4 := ⟨n.val / 32 % 4, by omega⟩
  rw [Y_eq, shapeCast_apply _ _ _ z]
  · have e := hf (n.val / 128) (by omega) q p z y ?_ ?_ rfl rfl
    · rw [e, X_eq, relaid_apply _ A k j a b y (ix2 n c) rfl rfl rfl]
      · show n.val = 32 * (n.val / 32) + n.val % 32
        omega
      · show c.val = 256 * (c.val / 256) + 128 * (c.val % 256 / 128) + c.val % 128
        omega
    · rw [listBlk_toNat ok _ (by omega) q p]
      show 4 * s.val + c.val / 256 = 4 * rk (m (tLoc d)) (128 * (n.val / 128) + 32 * (n.val / 32 % 4) + (32 * (c.val / 256) + n.val % 32) % 32)
        + (32 * (c.val / 256) + n.val % 32) / 32
      rw [show 128 * (n.val / 128) + 32 * (n.val / 32 % 4) + (32 * (c.val / 256) + n.val % 32) % 32 = n.val by omega, h]
      omega
    · show 128 * (n.val / 32) + 32 * (c.val / 256) + n.val % 32 = 512 * (n.val / 128) + 128 * (n.val / 32 % 4) + (32 * (c.val / 256) + n.val % 32)
      omega
  · rw [rowMajor_val3 z 256 128 rfl rfl, rowMajor_val2 _ 1024 rfl]
    show (4 * s.val + c.val / 256) * 256 + c.val % 256 / 128 * 128 + c.val % 128 = s.val * 1024 + c.val
    omega

/-- The kernel's second result: each token's rank. -/
theorem rank_apply (t : Ids) (ok : Ok8 t) (f : S4096.Idx → BitVec 32) (hf : AllRank t f) (n : Fin 4096) : f (ix1 n) = BitVec.ofNat 32 (rk t n.val) := by
  have hn := n.isLt
  let p : S128.Idx := ix1 ⟨n.val % 128, by omega⟩
  have e0 : n.val = 128 * (n.val / 128) + n.val % 128 := by omega
  rw [hf (n.val / 128) (by omega) p (ix1 n) e0, rankBlk_eq ok]
  exact congrArg (fun k => BitVec.ofNat 32 (rk t k)) e0.symm

end Cert.Proof.Disp

end
-- ==== Proof.GroupedBody.lean ====
/-
  The grouped product's body, run once at a symbolic grid point.
-/
module

public import proofs.«01_k».proof.Proof.Gen.GroupedIdeal.Skeleton
public import proofs.«01_k».proof.Proof.Gen.GroupedIdeal.Launch
public import Idealize.ShloMosaic.Lib.Pipeline.Frame

public import Idealize.ShloMosaic.Lib.Tactic
public import Idealize.ShloMosaic.Lib.Writes
public import Idealize.ShloMosaic.Lib.VecWindow
public import Idealize.ShloMosaic.Lib.Pointwise.Index

@[expose] public section

noncomputable section

namespace Cert.Proof.Grp

open Cert.GroupedIdeal Cert.GroupedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What one run of the body leaves -/

/-- A word of the schedule, at the offsets a table load names. -/
def wAt (T : Vec F S5x32 .i32) (off : Fin 2 → Nat) (h : ∀ a, off a + S1x1.size a ≤ S5x32.size a) : BitVec 32 :=
  T ((Rect.unit (s := S5x32) off S1x1.size h).emb (Shape.Idx.first (Nat.lt_of_lt_of_eq Nat.zero_lt_one numel1_S1x1.symm)))

/-- The step opens a block. -/
def opens (T : Vec F S5x32 .i32) (i : grid0.Coords) : Prop :=
  k0_cond1 i (wAt T (k0_off1 i) (k0_off1_inb i)) (wAt T (k0_off3 i) (k0_off3_inb i)) = 1#1
/-- The step is of another kind than the one before it. -/
def turns (T : Vec F S5x32 .i32) (i : grid0.Coords) : Prop :=
  Scalar.cmpi .ne (Scalar.extui (Scalar.ori (Scalar.cmpi .eq (BitVec.ofNat 32 (i 0).val) 0#32)
    (Scalar.cmpi .ne (wAt T (k0_off4 i) (k0_off4_inb i)) (wAt T (k0_off5 i) (k0_off5_inb i))))) 0#32 = 1#1
/-- The step takes rows. -/
def works (T : Vec F S5x32 .i32) (i : grid0.Coords) : Prop := k0_cond3 (wAt T (k0_off6 i) (k0_off6_inb i)) = 1#1

instance (T : Vec F S5x32 .i32) (i : grid0.Coords) : Decidable (opens T i) := inferInstanceAs (Decidable (k0_cond1 i (wAt T (k0_off1 i) (k0_off1_inb i)) (wAt T (k0_off3 i) (k0_off3_inb i)) = 1#1))
instance (T : Vec F S5x32 .i32) (i : grid0.Coords) : Decidable (turns T i) := inferInstanceAs (Decidable (_ = 1#1))
instance (T : Vec F S5x32 .i32) (i : grid0.Coords) : Decidable (works T i) := inferInstanceAs (Decidable (k0_cond3 (wAt T (k0_off6 i) (k0_off6_inb i)) = 1#1))

/-- The rows' products of a block of the output, and their shares. -/
abbrev lo : Rect S1x512x520 := Rect.unit (s := S1x512x520) ![0, 0, 0] S1x512x512.size inb_S1x512x520_S1x512x512_0_0_0
abbrev hi : Rect S1x512x520 := Rect.unit (s := S1x512x520) ![0, 0, 512] S1x512x8.size inb_S1x512x520_S1x512x8_0_0_512

/-- The scratch matrix after the step. -/
def scr (T : Vec F S5x32 .i32) (i : grid0.Coords) (X3 : Vec F S1x1024x512 .f32) (Z : Vec F S1024x512 .bf16) : Vec F S1024x512 .bf16 :=
  if turns T i then k0_pay2 X3 else Z

/-- The output block as the step accumulates into it. -/
def opened (T : Vec F S5x32 .i32) (i : grid0.Coords) (Y : Vec F S1x512x520 .f32) : Vec F S1x512x520 .f32 :=
  if opens T i then k0_pay1 else Y

/-- The output block after the step. -/
def step (T : Vec F S5x32 .i32) (i : grid0.Coords) (X2 : Vec F S512x1024 .f32) (M : Vec F S1024x512 .bf16) (X4 : Vec F S1x1x512 .f32) (Y : Vec F S1x512x520 .f32) :
    Vec F S1x512x520 .f32 := fun j =>
  if works T i then
    if h : (j 2).val < 512 then
      k0_pay5 (wAt T (k0_off1 i) (k0_off1_inb i)) (wAt T (k0_off8 i) (k0_off8_inb i)) (wAt T (k0_off9 i) (k0_off9_inb i)) X2 M X4
        (fun x => opened T i Y (lo.emb x)) (ix3 (j 0) (j 1) (⟨(j 2).val, h⟩ : Fin 512))
    else
      k0_pay3 (k0_pay4 (F := F) (wAt T (k0_off1 i) (k0_off1_inb i)) (wAt T (k0_off8 i) (k0_off8_inb i)) (wAt T (k0_off9 i) (k0_off9_inb i)))
        (k0_pay6 (wAt T (k0_off7 i) (k0_off7_inb i))) (fun x => opened T i Y (hi.emb x))
        (ix3 (j 0) (j 1) (⟨(j 2).val - 512, by have : (j 2).val < 520 := (j 2).isLt; omega⟩ : Fin 8))
  else opened T i Y j

/-- The output block read back after the step's two stores. -/
theorem read_two (arg5 : Memref sig .tc .vmem S1x512x520 .f32) (f : arg5.view.ty.Contents (Elt F)) (P5 : lo.shape.Idx → Elt F .f32) (P3 : hi.shape.Idx → Elt F .f32)
    (L : List (View.Piece (Elt F) S1x512x520 .f32)) (j : S1x512x520.Idx) :
    arg5.view.read (Elt F) (arg5.view.writes (Elt F) f (⟨hi, P3⟩ :: ⟨lo, P5⟩ :: L)) j
      = if h : (j 2).val < 512 then P5 (ix3 (j 0) (j 1) (⟨(j 2).val, h⟩ : Fin 512))
        else P3 (ix3 (j 0) (j 1) (⟨(j 2).val - 512, by have : (j 2).val < 520 := (j 2).isLt; omega⟩ : Fin 8)) := by
  split
  · next h =>
    rw [View.read_writes_cons_miss_of_axis _ _ _ _ _ (2 : Fin 3) 512 8 rfl rfl rfl (Or.inl h)]
    refine View.read_writes_cons_hit_of_coords _ _ _ _ _ _ _ fun a => ?_
    fin_cases a
    · show (j 0).val = 0 + 1 * (j 0).val; omega
    · show (j 1).val = 0 + 1 * (j 1).val; omega
    · show (j 2).val = 0 + 1 * (j 2).val; omega
  · next h =>
    refine View.read_writes_cons_hit_of_coords _ _ _ _ _ _ _ fun a => ?_
    fin_cases a
    · show (j 0).val = 0 + 1 * (j 0).val; omega
    · show (j 1).val = 0 + 1 * (j 1).val; omega
    · show (j 2).val = 512 + 1 * ((j 2).val - 512); omega

theorem c5 (w1 w8 w9 : BitVec 32) {A A' : Vec F S512x1024 .f32} {M M' : Vec F S1024x512 .bf16} {B B' : Vec F S1x1x512 .f32} {Y Y' : Vec F S1x512x512 .f32}
    (j : S1x512x512.Idx) (hA : A = A') (hM : M = M') (hB : B = B') (hY : Y = Y') : k0_pay5 w1 w8 w9 A M B Y j = k0_pay5 w1 w8 w9 A' M' B' Y' j := by
  subst hA hM hB hY; rfl
theorem c3 (m : IVec S512x1 1) (s : FVec F S512x8 .f32) {Y Y' : Vec F S1x512x8 .f32} (j : S1x512x8.Idx) (hY : Y = Y') : k0_pay3 m s Y j = k0_pay3 m s Y' j := by
  subst hY; rfl

theorem kernelRun (c : Dev nD) (i : grid0.Coords) (arg1 : Memref sig .tc .smem S5x32 .i32) (harg1 : arg1.IsWhole) (arg2 : Memref sig .tc .vmem S512x1024 .f32) (harg2 : arg2.IsWhole) (arg3 : Memref sig .tc .vmem S1x1024x512 .f32) (harg3 : arg3.IsWhole)
    (arg4 : Memref sig .tc .vmem S1x1x512 .f32) (harg4 : arg4.IsWhole) (arg5 : Memref sig .tc .vmem S1x512x520 .f32) (harg5 : arg5.IsWhole) (arg6 : Memref sig .tc .vmem S1024x512 .bf16) (harg6 : arg6.IsWhole)
    (q : PosShare TreeShare) (T : Vec F S5x32 .i32) (X2 : Vec F S512x1024 .f32) (X3 : Vec F S1x1024x512 .f32) (X4 : Vec F S1x1x512 .f32) (Y : Vec F S1x512x520 .f32) (Z : Vec F S1024x512 .bf16)
    (K : PUnit → sProp 𝕄) :
    iprop(owns (c : Thread nD τ) arg1 q T ∗ owns (c : Thread nD τ) arg2 fullShare X2 ∗ owns (c : Thread nD τ) arg3 fullShare X3 ∗ owns (c : Thread nD τ) arg4 fullShare X4
        ∗ owns (c : Thread nD τ) arg5 fullShare Y ∗ owns (c : Thread nD τ) arg6 fullShare Z
        ∗ (iprop(owns (c : Thread nD τ) arg1 q T ∗ owns (c : Thread nD τ) arg2 fullShare X2 ∗ owns (c : Thread nD τ) arg3 fullShare X3 ∗ owns (c : Thread nD τ) arg4 fullShare X4
            ∗ owns (c : Thread nD τ) arg5 fullShare (step T i X2 (scr T i X3 Z) X4 Y) ∗ owns (c : Thread nD τ) arg6 fullShare (scr T i X3 Z)) -∗ K ⟨⟩))
      ⊢ wp frame (wpE (defs₀ (F := F)) Variants.none c none) Set.univ
          (cc0__grouped_body i arg1 harg1 arg2 harg2 arg3 harg3 arg4 harg4 arg5 harg5 arg6 harg6) K := by
  simp only [cc0__grouped_body_eq_skeleton]; unfold cc0__grouped_body_skel
  unfold owns
  iintro ⟨⟨%f1, %e1, HT⟩, ⟨%f2, %e2, H2⟩, ⟨%f3, %e3, H3⟩, ⟨%f4, %e4, H4⟩, ⟨%f5, %e5, H5⟩, ⟨%f6, %e6, H6⟩, Hk⟩
  sl_exec
  sl_step
  iapply Hk
  isplitl [HT]; · iexists f1; isplitr; · ipureintro; exact e1
                  iexact HT
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]
  · iexists _; isplitr; swap; · iexact H5
    ipureintro
    sl_unfold_run_names
    subst e1 e2 e3 e4 e5 e6
    have hw : ∀ off h, View.readAt (Elt F) arg1.view (Rect.unit (s := S5x32) off S1x1.size h).toLoadRect f1 (Shape.Idx.first (Nat.lt_of_lt_of_eq Nat.zero_lt_one numel1_S1x1.symm))
      = wAt (View.read (Elt F) arg1.view f1) off h := fun _ _ => rfl
    have hl : ∀ f, View.readAt (Elt F) arg5.view lo.toLoadRect f = fun x => arg5.view.read (Elt F) f (lo.emb x) := fun _ => rfl
    have hh : ∀ f, View.readAt (Elt F) arg5.view hi.toLoadRect f = fun x => arg5.view.read (Elt F) f (hi.emb x) := fun _ => rfl
    have a2 : View.readAt (Elt F) arg2.view (Rect.unit (s := S512x1024) ![0, 0] ![512, 1024] inb_S512x1024_S512x1024_0_0).toLoadRect f2 = arg2.view.read (Elt F) f2 := View.readAt_full _ _ _
    have a3 : View.readAt (Elt F) arg3.view (Rect.unit (s := S1x1024x512) ![0, 0, 0] ![1, 1024, 512] inb_S1x1024x512_S1x1024x512_0_0_0).toLoadRect f3 = arg3.view.read (Elt F) f3 := View.readAt_full _ _ _
    have a4 : View.readAt (Elt F) arg4.view (Rect.unit (s := S1x1x512) ![0, 0, 0] ![1, 1, 512] inb_S1x1x512_S1x1x512_0_0_0).toLoadRect f4 = arg4.view.read (Elt F) f4 := View.readAt_full _ _ _
    have a6 : ∀ f, View.readAt (Elt F) arg6.view (Rect.unit (s := S1024x512) ![0, 0] ![1024, 512] inb_S1024x512_S1024x512_0_0).toLoadRect f = arg6.view.read (Elt F) f := fun _ => View.readAt_full _ _ _
    have w6 : ∀ w, arg6.view.read (Elt F) (arg6.view.writes (Elt F) f6 [⟨Rect.unit (s := S1024x512) ![0, 0] ![1024, 512] inb_S1024x512_S1024x512_0_0, w⟩]) = w := fun _ => View.read_writes_full _ _ _ _ _
    have w5 : ∀ w L, arg5.view.read (Elt F) (arg5.view.writes (Elt F) f5 (⟨Rect.unit (s := S1x512x520) ![0, 0, 0] ![1, 512, 520] inb_S1x512x520_S1x512x520_0_0_0, w⟩ :: L)) = w := fun _ _ => View.read_writes_full _ _ _ _ _
    have r5 : ∀ (f : arg5.view.ty.Contents (Elt F)) (P5 : lo.shape.Idx → Elt F .f32) (P3 : hi.shape.Idx → Elt F .f32) (L : List (View.Piece (Elt F) S1x512x520 .f32)) (j : S1x512x520.Idx),
        arg5.view.read (Elt F) (arg5.view.writes (Elt F) f (⟨Rect.unit (s := S1x512x520) ![0, 0, 512] ![1, 512, 8] inb_S1x512x520_S1x512x8_0_0_512, P3⟩ :: ⟨Rect.unit (s := S1x512x520) ![0, 0, 0] ![1, 512, 512] inb_S1x512x520_S1x512x512_0_0_0, P5⟩ :: L)) j
          = if h : (j 2).val < 512 then P5 (ix3 (j 0) (j 1) (⟨(j 2).val, h⟩ : Fin 512))
            else P3 (ix3 (j 0) (j 1) (⟨(j 2).val - 512, by have : (j 2).val < 520 := (j 2).isLt; omega⟩ : Fin 8)) := fun f P5 P3 L j => read_two arg5 f P5 P3 L j
    funext j
    unfold step opened scr opens turns works
    simp only [hw]
    by_cases h1 : k0_cond1 i (wAt (View.read (Elt F) arg1.view f1) (k0_off1 i) (k0_off1_inb i)) (wAt (View.read (Elt F) arg1.view f1) (k0_off3 i) (k0_off3_inb i)) = 1#1 <;>
    by_cases h2 : Scalar.cmpi .ne (Scalar.extui (Scalar.ori (Scalar.cmpi .eq (BitVec.ofNat 32 (i 0).val) 0#32)
        (Scalar.cmpi .ne (wAt (View.read (Elt F) arg1.view f1) (k0_off4 i) (k0_off4_inb i)) (wAt (View.read (Elt F) arg1.view f1) (k0_off5 i) (k0_off5_inb i))))) 0#32 = 1#1 <;>
    by_cases h3 : k0_cond3 (wAt (View.read (Elt F) arg1.view f1) (k0_off6 i) (k0_off6_inb i)) = 1#1 <;>
    simp only [h1, h2, h3, ↓reduceIte, ↓reduceDIte, hl, hh, w5]
    all_goals
      refine (r5 _ _ _ _ j).trans ?_
      split
      · refine c5 _ _ _ _ a2 ?_ a4 ?_
        · first | exact a6 _ | exact (a6 _).trans ((w6 _).trans (congrArg k0_pay2 a3))
        · first | rfl | exact funext fun x => congrFun (w5 _ _) _
      · refine c3 _ _ _ ?_
        first | rfl | exact funext fun x => congrFun (w5 _ _) _
  · iexists _; isplitr; swap; · iexact H6
    ipureintro
    sl_unfold_run_names
    subst e1 e2 e3 e4 e5 e6
    have hw : ∀ off h, View.readAt (Elt F) arg1.view (Rect.unit (s := S5x32) off S1x1.size h).toLoadRect f1 (Shape.Idx.first (Nat.lt_of_lt_of_eq Nat.zero_lt_one numel1_S1x1.symm))
      = wAt (View.read (Elt F) arg1.view f1) off h := fun _ _ => rfl
    unfold scr
    simp only [hw]
    by_cases hc : turns (View.read (Elt F) arg1.view f1) i
    · rw [if_pos hc]; unfold turns at hc
      rw [dif_pos hc, View.read_writes_full, View.readAt_full]
    · rw [if_neg hc]; unfold turns at hc
      rw [dif_neg hc]

end Cert.Proof.Grp
-- ==== Proof.GroupedRun.lean ====
/-
  The grouped product's pipeline: what its windows hold at each point, the body's obligation, and @main's run.
-/
module

public import proofs.«01_k».proof.Proof.GroupedBody
public import Idealize.ShloMosaic.Lib.Pipeline.FrameBody
public import Idealize.ShloMosaic.Lib.Pipeline.ArrRel
public import Idealize.ShloMosaic.Lib.Pipeline.FrameSuffix

@[expose] public section

noncomputable section

namespace Cert.Proof.Grp

open Cert.GroupedIdeal Cert.GroupedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ
local notation "Adm₀" => Pipeline.PCfg.Adm (pcfg0 (F := F))

/-- Contents of every TensorCore buffer. -/
abbrev Mem (F : FTy → Type) := (c : Dev nD) → (b : Ref sig .tc) → Buf (Elt F) ((c.tc : Thread nD τ).loc b)

/-! ## The windows' blocks -/

/-- The schedule. -/
abbrev tab (a : Adm₀) : Vec F S5x32 .i32 := a.1 0

/-- The rows', the matrix's and the offsets' blocks at a point. -/
def inX (a : Adm₀) (V : Mem F) (c : Dev nD) (t : Fin (cfg0 a).N) : Vec F S512x1024 .f32 := ((win0 a 0).blk t).view.read (Elt F) (V c main_arg1)
def inW (a : Adm₀) (V : Mem F) (c : Dev nD) (t : Fin (cfg0 a).N) : Vec F S1x1024x512 .f32 := ((win0 a 1).blk t).view.read (Elt F) (V c main_arg2)
def inB (a : Adm₀) (V : Mem F) (c : Dev nD) (t : Fin (cfg0 a).N) : Vec F S1x1x512 .f32 := ((win0 a 2).blk t).view.read (Elt F) (V c main_v0)

/-- The output block after the point, of what was there before. -/
def out (a : Adm₀) (V : Mem F) (c : Dev nD) (t : Fin (cfg0 a).N) (Y : Vec F S1x512x520 .f32) : Vec F S1x512x520 .f32 :=
  step (tab a) (grid0.coords t) (inX a V c t) (k0_pay2 (inW a V c t)) (inB a V c t) Y

/-- The invariant between points: the scratch matrix is the one of the point before. -/
def inv (a : Adm₀) (V : Mem F) (c : Dev nD) (n : Nat) : sProp 𝕄 :=
  iprop((∃ Z : Vec F S1024x512 .bf16, iprop(⌜∀ t : Fin (cfg0 a).N, t.val + 1 = n → Z = k0_pay2 (inW a V c t)⌝ ∗ owns (c : Thread nD τ) (Memref.whole cc0_scratch0) fullShare Z))
    ∗ (∃ r, prngReg c r) ∗ Pipeline.ΦT pre0 a.1 c)

def aft (a : Adm₀) (V : Mem F) (c : Dev nD) : (w : Fin 4) → (t : Fin (cfg0 a).N) → (Y X : ((win0 a) w).block.Idx → Elt F ((win0 a) w).elt) → Prop
  | 0 => fun _ Y X => X = Y
  | 1 => fun _ Y X => X = Y
  | 2 => fun _ Y X => X = Y
  | 3 => fun t Y X => X = out a V c t Y

def rd (a : Adm₀) (V : Mem F) (c : Dev nD) : RDat τ (Elt F) Unit ℕ (UR sig nD τ) ℕ (cfg0 a) c where
  A w := V c (Pipeline.arrRef spec0 w)
  after := aft a V c
  Φ t := inv a V c t.val
  q _ := fullShare
  owed _ := 0

theorem prefT (a : Adm₀) (c : Dev nD) :
    (Pipeline.ΦT pre0 a.1 c : sProp 𝕄) = owns (c : Thread nD τ) (Memref.whole main_arg0) fullShare.right (tab a) := by
  rw [owns_whole]
  unfold Pipeline.ΦT Pipeline.prefHeld
  rw [bigSep_univ_eq_bigSepL [(0 : Fin 1)] (by decide) (by decide)]
  rfl

theorem fill_none {G : Pipeline.Grid} (w : Pipeline.Window sig G) (i : G.Coords) (h : ∀ a, w.clip i a = none) {α : Type} (d : w.block.Idx → α)
    (g : (w.xblock i).Idx → α) (j : w.block.Idx) : ∃ h' : ∀ a, (j a).val < w.xsize i a, w.fill i d g j = g fun a => ⟨(j a).val, h' a⟩ := by
  have hm : w.moved i j = true := (w.moved_iff _ j).mpr fun a => by have := (j a).isLt; unfold Pipeline.Window.xsize; rw [h a]; exact this
  exact ⟨(w.moved_iff i j).mp hm, by unfold Pipeline.Window.fill; rw [dif_pos hm]⟩

theorem finds0 (a : Adm₀) (V : Mem F) (c : Dev nD) (t : Fin (cfg0 a).N) (Y) (h : (rd a V c).Finds 0 t Y) : Y = inX a V c t := by
  obtain ⟨d, e⟩ := (rd a V c).finds_in_eq_fetched 0 rfl (fun _ _ _ => rfl) (fun _ _ _ h => h) t Y h
  rw [e]
  funext j
  exact (fill_none (win0 a 0) (grid0.coords t) (fun _ => rfl) d _ j).2
theorem finds1 (a : Adm₀) (V : Mem F) (c : Dev nD) (t : Fin (cfg0 a).N) (Y) (h : (rd a V c).Finds 1 t Y) : Y = inW a V c t := by
  obtain ⟨d, e⟩ := (rd a V c).finds_in_eq_fetched 1 rfl (fun _ _ _ => rfl) (fun _ _ _ h => h) t Y h
  rw [e]
  funext j
  exact (fill_none (win0 a 1) (grid0.coords t) (fun _ => rfl) d _ j).2
theorem finds2 (a : Adm₀) (V : Mem F) (c : Dev nD) (t : Fin (cfg0 a).N) (Y) (h : (rd a V c).Finds 2 t Y) : Y = inB a V c t := by
  obtain ⟨d, e⟩ := (rd a V c).finds_in_eq_fetched 2 rfl (fun _ _ _ => rfl) (fun _ _ _ h => h) t Y h
  rw [e]
  funext j
  exact (fill_none (win0 a 2) (grid0.coords t) (fun _ => rfl) d _ j).2

/-! ## The schedule's words -/

/-- The word of row `r` at step `n`. -/
def wd (T : Vec F S5x32 .i32) (r : Fin 5) (n : Nat) : BitVec 32 := if h : n < 32 then T (ix2 r ⟨n, h⟩) else 0#32

theorem wAt_eq (T : Vec F S5x32 .i32) (off : Fin 2 → Nat) (h) (r : Fin 5) (n : Nat) (h0 : off 0 = r.val) (h1 : off 1 = n) : wAt T off h = wd T r n := by
  have hn : n < 32 := by have := h 1; rw [h1] at this; exact this
  unfold wAt wd
  rw [dif_pos hn]
  congr 1
  funext a
  fin_cases a
  · exact Fin.ext (by show off 0 + 1 * 0 = r.val; omega)
  · exact Fin.ext (by show off 1 + 1 * 0 = n; omega)

theorem nat15 : ∀ n : Fin 15, (Scalar.indexCast (BitVec.ofNat 32 n.val)).toNat = n.val := by decide
theorem pred15 : ∀ n : Fin 15, (Scalar.indexCast (Scalar.maxsi (Scalar.subi (BitVec.ofNat 32 n.val) 1#32) 0#32)).toNat = n.val - 1 := by decide
theorem zero15 : ∀ n : Fin 15, BitVec.ofNat 32 n.val = 0#32 ↔ n.val = 0 := by decide

theorem w1 (T : Vec F S5x32 .i32) (i : grid0.Coords) : wAt T (k0_off1 i) (k0_off1_inb i) = wd T 0 (i 0).val := wAt_eq T _ _ 0 _ rfl (nat15 (i 0))
theorem w2 (T : Vec F S5x32 .i32) (i : grid0.Coords) : wAt T (k0_off2 i) (k0_off2_inb i) = wd T 1 (i 0).val := wAt_eq T _ _ 1 _ rfl (nat15 (i 0))
theorem w3 (T : Vec F S5x32 .i32) (i : grid0.Coords) : wAt T (k0_off3 i) (k0_off3_inb i) = wd T 0 ((i 0).val - 1) := wAt_eq T _ _ 0 _ rfl (pred15 (i 0))
theorem w4 (T : Vec F S5x32 .i32) (i : grid0.Coords) : wAt T (k0_off4 i) (k0_off4_inb i) = wd T 1 (i 0).val := wAt_eq T _ _ 1 _ rfl (nat15 (i 0))
theorem w5 (T : Vec F S5x32 .i32) (i : grid0.Coords) : wAt T (k0_off5 i) (k0_off5_inb i) = wd T 1 ((i 0).val - 1) := wAt_eq T _ _ 1 _ rfl (pred15 (i 0))
theorem w6 (T : Vec F S5x32 .i32) (i : grid0.Coords) : wAt T (k0_off6 i) (k0_off6_inb i) = wd T 2 (i 0).val := wAt_eq T _ _ 2 _ rfl (nat15 (i 0))
theorem w7 (T : Vec F S5x32 .i32) (i : grid0.Coords) : wAt T (k0_off7 i) (k0_off7_inb i) = wd T 1 (i 0).val := wAt_eq T _ _ 1 _ rfl (nat15 (i 0))
theorem w8 (T : Vec F S5x32 .i32) (i : grid0.Coords) : wAt T (k0_off8 i) (k0_off8_inb i) = wd T 3 (i 0).val := wAt_eq T _ _ 3 _ rfl (nat15 (i 0))
theorem w9 (T : Vec F S5x32 .i32) (i : grid0.Coords) : wAt T (k0_off9 i) (k0_off9_inb i) = wd T 4 (i 0).val := wAt_eq T _ _ 4 _ rfl (nat15 (i 0))

theorem either_iff (x a b : BitVec 32) :
    Scalar.cmpi .ne (Scalar.extui (Scalar.ori (Scalar.cmpi .eq x 0#32) (Scalar.cmpi .ne a b))) 0#32 = 1#1 ↔ x = 0#32 ∨ a ≠ b := by
  have e : ∀ p q : BitVec 1, Scalar.cmpi .ne (Scalar.extui (Scalar.ori p q)) 0#32 = 1#1 ↔ p = 1#1 ∨ q = 1#1 := by decide
  rw [e]
  refine or_congr ?_ ?_
  · show BitVec.ofBool (x == 0#32) = 1#1 ↔ _
    cases h : x == 0#32 <;> simp_all
  · show BitVec.ofBool (a != b) = 1#1 ↔ _
    cases h : a != b <;> simp_all

theorem turns_iff (T : Vec F S5x32 .i32) (i : grid0.Coords) : turns T i ↔ (i 0).val = 0 ∨ wd T 1 (i 0).val ≠ wd T 1 ((i 0).val - 1) := by
  unfold turns; rw [w4, w5, either_iff, zero15 (i 0)]
theorem opens_iff (T : Vec F S5x32 .i32) (i : grid0.Coords) : opens T i ↔ (i 0).val = 0 ∨ wd T 0 (i 0).val ≠ wd T 0 ((i 0).val - 1) := by
  unfold opens k0_cond1; rw [w1, w3]; exact (either_iff _ _ _).trans (or_congr (zero15 (i 0)) Iff.rfl)
theorem works_iff (T : Vec F S5x32 .i32) (i : grid0.Coords) : works T i ↔ wd T 2 (i 0).val = 1#32 := by
  unfold works k0_cond3; rw [w6]
  have e : ∀ p : BitVec 1, Scalar.cmpi .ne (Scalar.extui p) 0#32 = 1#1 ↔ p = 1#1 := by decide
  refine (e _).trans ?_
  show BitVec.ofBool (_ == _) = 1#1 ↔ _
  cases h : wd T 2 (i 0).val == 1#32 <;> simp_all

theorem coords15 : ∀ t : Fin grid0.N, (grid0.coords t 0).val = t.val := by decide

theorem index0 (a : Adm₀) (t : Fin (cfg0 a).N) : (win0 a 0).index t = ![(wd (tab a) 0 t.val).toNat, 0] := by
  have e : (win0 a 0).index t = ![(wAt (tab a) (k0_off1 (grid0.coords t)) (k0_off1_inb _)).toNat, 0] := rfl
  rw [e, w1, coords15 t]
theorem index1 (a : Adm₀) (t : Fin (cfg0 a).N) : (win0 a 1).index t = ![(wd (tab a) 1 t.val).toNat, 0, 0] := by
  have e : (win0 a 1).index t = ![(wAt (tab a) (k0_off2 (grid0.coords t)) (k0_off2_inb _)).toNat, 0, 0] := rfl
  rw [e, w2, coords15 t]
theorem index2 (a : Adm₀) (t : Fin (cfg0 a).N) : (win0 a 2).index t = ![(wd (tab a) 1 t.val).toNat, 0, 0] := by
  have e : (win0 a 2).index t = ![(wAt (tab a) (k0_off2 (grid0.coords t)) (k0_off2_inb _)).toNat, 0, 0] := rfl
  rw [e, w2, coords15 t]
theorem index3 (a : Adm₀) (t : Fin (cfg0 a).N) : (win0 a 3).index t = ![(wd (tab a) 0 t.val).toNat, 0, 0] := by
  have e : (win0 a 3).index t = ![(wAt (tab a) (k0_off1 (grid0.coords t)) (k0_off1_inb _)).toNat, 0, 0] := rfl
  rw [e, w1, coords15 t]

/-- The matrix's block is the same at two points of one kind. -/
theorem inW_congr (a : Adm₀) (V : Mem F) (c : Dev nD) (t t' : Fin (cfg0 a).N) (h : wd (tab a) 1 t.val = wd (tab a) 1 t'.val) : inW a V c t = inW a V c t' := by
  have hx : (win0 a 1).index t = (win0 a 1).index t' := by rw [index1, index1, h]
  have e := (rd a V c).fetched_congr 1 hx rfl (inW a V c t)
  funext j
  exact (fill_none (win0 a 1) (grid0.coords t) (fun _ => rfl) (inW a V c t) _ j).2.symm.trans
    ((congrFun e j).trans (fill_none (win0 a 1) (grid0.coords t') (fun _ => rfl) (inW a V c t) _ j).2)

/-! ## The body's obligation -/

theorem scr_eq (a : Adm₀) (V : Mem F) (c : Dev nD) (t : Fin (cfg0 a).N) (Z : Vec F S1024x512 .bf16)
    (hZ : ∀ t' : Fin (cfg0 a).N, t'.val + 1 = t.val → Z = k0_pay2 (inW a V c t')) : scr (tab a) (grid0.coords t) (inW a V c t) Z = k0_pay2 (inW a V c t) := by
  unfold scr
  split
  · rfl
  · next h =>
    rw [turns_iff, coords15 t] at h
    push Not at h
    have e := hZ ⟨t.val - 1, by have := t.isLt; omega⟩ (by show t.val - 1 + 1 = t.val; omega)
    rw [e, inW_congr a V c t ⟨t.val - 1, by have := t.isLt; omega⟩ h.2]

abbrev stg (a : Adm₀) (t : Fin (cfg0 a).N) (w : Fin 4) := ((cfg0 a).win w).stage ((cfg0 a).slots t w)

theorem sound_body (a : Adm₀) (V : Mem F) (c : Dev nD) (t : Fin (cfg0 a).N) (Y : Vec F S1x512x520 .f32) :
    iprop((rd a V c).Φ t.castSucc ∗ (rd a V c).owesAt () t.castSucc
      ∗ owns (c : Thread nD τ) (stg a t 0) fullShare (inX a V c t) ∗ owns (c : Thread nD τ) (stg a t 1) fullShare (inW a V c t)
      ∗ owns (c : Thread nD τ) (stg a t 2) fullShare (inB a V c t) ∗ owns (c : Thread nD τ) (stg a t 3) fullShare Y)
    ⊢ wp frame (wpE (defs₀ (F := F)) Variants.none c none) Set.univ (defs₀ (F := F) .tc (cfg0 a).body ((cfg0 a).bodyArgs t ((cfg0 a).slots t))) fun _ =>
      iprop((rd a V c).Φ t.succ ∗ (rd a V c).owesAt () t.succ
        ∗ owns (c : Thread nD τ) (stg a t 0) fullShare (inX a V c t) ∗ owns (c : Thread nD τ) (stg a t 1) fullShare (inW a V c t)
        ∗ owns (c : Thread nD τ) (stg a t 2) fullShare (inB a V c t) ∗ owns (c : Thread nD τ) (stg a t 3) fullShare (out a V c t Y)) := by
  rw [show defs₀ (F := F) .tc (cfg0 a).body ((cfg0 a).bodyArgs t ((cfg0 a).slots t))
    = cc0__grouped_body (grid0.coords t) (Memref.whole main_arg0) (Memref.isWhole_whole _) (stg a t 0) (hstage0_0 (((cfg0 a).slots t 0).cast nbuf0_0))
        (stg a t 1) (hstage0_1 (((cfg0 a).slots t 1).cast nbuf0_1)) (stg a t 2) (hstage0_2 (((cfg0 a).slots t 2).cast nbuf0_2))
        (stg a t 3) (hstage0_3 (((cfg0 a).slots t 3).cast nbuf0_3)) (Memref.whole cc0_scratch0) (Memref.isWhole_whole _) from by unfold defs₀; rw [Defs.onTc_tc]]
  rw [show (rd a V c).Φ t.castSucc = inv a V c t.val from rfl, show (rd a V c).Φ t.succ = inv a V c (t.val + 1) from rfl,
    show (rd a V c).owesAt () t.succ = (rd a V c).owesAt () t.castSucc from rfl]
  unfold inv
  rw [prefT]
  iintro ⟨⟨⟨%Z, %hZ, HS⟩, Hg, HT⟩, HO, H0, H1, H2, H3⟩
  iapply (kernelRun c (grid0.coords t) _ _ _ _ _ _ _ _ _ _ _ _ fullShare.right (tab a) (inX a V c t) (inW a V c t) (inB a V c t) Y Z _)
  isplitl [HT]; · iexact HT
  isplitl [H0]; · iexact H0
  isplitl [H1]; · iexact H1
  isplitl [H2]; · iexact H2
  isplitl [H3]; · iexact H3
  isplitl [HS]; · iexact HS
  rw [scr_eq a V c t Z hZ]
  iintro ⟨HT, H0, H1, H2, H3, HS⟩
  isplitl [HT HS Hg]
  · isplitl [HS]
    · iexists _
      isplitr; swap; · iexact HS
      ipureintro
      intro t' ht'
      obtain rfl : t' = t := Fin.ext (by omega)
      rfl
    isplitl [Hg]; · iexact Hg
    iexact HT
  isplitl [HO]; · iexact HO
  isplitl [H0]; · iexact H0
  isplitl [H1]; · iexact H1
  isplitl [H2]; · iexact H2
  iexact H3

theorem body_obligation (a : Adm₀) (V : Mem F) (c : Dev nD) : (rd a V c).BodyObligation (defs₀ (F := F)) Variants.none () Set.univ := fun t Y hY => by
  have e0 := finds0 a V c t _ (hY 0)
  have e1 := finds1 a V c t _ (hY 1)
  have e2 := finds2 a V c t _ (hY 2)
  rw [bigSep_W0, bigSep_W0, e0, e1, e2]
  refine triple_restated (sound_body a V c t (Y 3)) rfl .rfl fun _ => ?_
  iintro ⟨HΦ, HO, H0, H1, H2, H3⟩
  isplitl [HΦ]; · iexact HΦ
  isplitl [HO]; · iexact HO
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  iexists _; isplitr; swap; · iexact H3
  ipureintro; rfl

/-! ## The lines after the call -/

theorem within {op : HloOp τ sig (Elt F)} (S : Finset (DevRef τ sig)) (h : S ⊆ Pipeline.tailRefs sig pre0 spec0) (e : op.bufs = S := by rfl) :
    op.bufs ⊆ Pipeline.tailRefs sig pre0 spec0 := e ▸ h

theorem apart {op : HloOp τ sig (Elt F)} (b : Ref sig .tc) (h : ∀ w, Pipeline.arrRef spec0 w ≠ b) (e : op.writes = {Proc.devRef .tc b} := by rfl) :
    ∀ w, Proc.devRef .tc (Pipeline.arrRef spec0 w) ∉ op.writes := fun w hw => by
  rw [e, Finset.mem_singleton] at hw
  exact h w (Proc.devRef_injective _ hw)

theorem later_sub : ∀ ops ∈ [(hostOps1 : List (HloOp τ sig (Elt F)))], ∀ op ∈ ops, op.bufs ⊆ Pipeline.tailRefs sig pre0 spec0 := by
  have h : ∀ op ∈ (hostOps1 : List (HloOp τ sig (Elt F))), op.bufs ⊆ Pipeline.tailRefs sig pre0 spec0 := by
    rw [← List.forall_iff_forall_mem]
    exact ⟨within {Proc.devRef .tc main_v1, Proc.devRef .tc main_v2} (by decide),
      within {Proc.devRef .tc main_c} (by decide),
      within {Proc.devRef .tc main_c, Proc.devRef .tc main_v3} (by decide),
      within {Proc.devRef .tc main_arg4, Proc.devRef .tc main_v3, Proc.devRef .tc main_v4} (by decide),
      within {Proc.devRef .tc main_c_0} (by decide),
      within {Proc.devRef .tc main_c_0, Proc.devRef .tc main_v5} (by decide),
      within {Proc.devRef .tc main_arg4, Proc.devRef .tc main_v5, Proc.devRef .tc main_v6} (by decide),
      within {Proc.devRef .tc main_v4, Proc.devRef .tc main_v6, Proc.devRef .tc main_arg4, Proc.devRef .tc main_v7} (by decide),
      within {Proc.devRef .tc main_v7, Proc.devRef .tc main_v8} (by decide),
      within {Proc.devRef .tc main_v2, Proc.devRef .tc main_v8, Proc.devRef .tc main_v9} (by decide)⟩
  intro ops ho
  rw [List.mem_singleton] at ho
  subst ho
  exact h

theorem later_fresh : ∀ ops ∈ [(hostOps1 : List (HloOp τ sig (Elt F)))], ∀ op ∈ ops, op.fresh = ∅ := by
  have h : ∀ op ∈ (hostOps1 : List (HloOp τ sig (Elt F))), op.fresh = ∅ := by
    rw [← List.forall_iff_forall_mem]
    exact ⟨rfl, rfl, rfl, rfl, rfl, rfl, rfl, rfl, rfl, rfl⟩
  intro ops ho
  rw [List.mem_singleton] at ho
  subst ho
  exact h

theorem later_keep (a : Adm₀) : ∀ ops ∈ [(hostOps1 : List (HloOp τ sig (Elt F)))], ∀ op ∈ ops, ∀ w, Proc.devRef .tc (Pipeline.arrRef (cfg0 a).spec w) ∉ op.writes := by
  have h : ∀ op ∈ (hostOps1 : List (HloOp τ sig (Elt F))), ∀ w, Proc.devRef .tc (Pipeline.arrRef spec0 w) ∉ op.writes := by
    rw [← List.forall_iff_forall_mem]
    exact ⟨apart main_v2 (by decide),
      apart main_c (by decide),
      apart main_v3 (by decide),
      apart main_v4 (by decide),
      apart main_c_0 (by decide),
      apart main_v5 (by decide),
      apart main_v6 (by decide),
      apart main_v7 (by decide),
      apart main_v8 (by decide),
      apart main_v9 (by decide)⟩
  intro ops ho
  rw [List.mem_singleton] at ho
  subst ho
  exact h

/-! ## The launch -/

variable (m : (ℓ : Loc nD τ sig) → Buf (Elt F) ℓ) (ρ : Dev nD → PrngReg)

/-- The contents at the call: the offsets reshaped. -/
abbrev entryV : Mem F := fun c b => StableHlo.after hostOps0 (fun b => m (c, b)) b

/-- The contents at the end: the host's later lines, from the arrays `A` and the contents at the call. -/
abbrev exitV (a : Adm₀) (c : Dev nD) (A : (w : Fin 4) → Buf (Elt F) (((win0 a w).arr.view.loc (c.tc : Thread nD τ)))) : Valuation τ sig (Elt F) :=
  StableHlo.after hostOps1 (Pipeline.withArrays (cfg0 a).spec c (StableHlo.after hostOps0 fun b => m (c, b)) A)

/-- What a run ends with: the arrays hold what the pipeline may leave in them, the schedule is as it was, and all else is
    what the later lines make of such arrays. -/
def Ends (a : Adm₀) (c : Dev nD) (s : MemSt nD τ sig (Elt F)) : Prop :=
  (∀ w, (rd a (entryV m) c).ArrAt w (cfg0 a).N (s.mem (((cfg0 a).spec w).arr.view.loc (c.tc : Thread nD τ))))
    ∧ s.mem ((c.tc : Thread nD τ).loc main_arg0) = a.1 0
    ∧ ∃ A, (∀ w, (rd a (entryV m) c).ArrAt w (cfg0 a).N (A w))
      ∧ ∀ b ∈ Pipeline.restRefsP sig pre0 (cfg0 a).spec, s.mem ((c.tc : Thread nD τ).loc b) = exitV m a c A (Proc.devRef .tc b)

/-- The arrays at some contents that the pipeline may leave in them. -/
theorem arrays_open (a : Adm₀) (V : Mem F) (c : Dev nD) : ((rd a V c).arraysAt (cfg0 a).N : sProp 𝕄)
    ⊢ iprop(∃ A, ⌜∀ w, (rd a V c).ArrAt w (cfg0 a).N (A w)⌝ ∗ (rd a V c).arrays A) := by
  unfold RDat.arraysAt RDat.arrays
  iintro H
  ihave H := (BI.bigSep_exists_pi Finset.univ (fun w B => iprop(⌜(rd a V c).ArrAt w (cfg0 a).N B⌝
    ∗ ((cfg0 a).win w).arr.view.loc (c.tc : Thread nD τ) ↦[((cfg0 a).win w).arr.view.set]{(rd a V c).share w} B))) $$ H
  icases H with ⟨%A, H⟩
  ihave H := (BI.bigSep_pure_sep Finset.univ (fun w => (rd a V c).ArrAt w (cfg0 a).N (A w))
    (fun w => ((cfg0 a).win w).arr.view.loc (c.tc : Thread nD τ) ↦[((cfg0 a).win w).arr.view.set]{(rd a V c).share w} A w)) $$ H
  icases H with ⟨%hA, H⟩
  iexists A
  isplitr
  · ipureintro; exact fun w => hA w (Finset.mem_univ w)
  iexact H

theorem arrays_close (a : Adm₀) (V : Mem F) (c : Dev nD) (A) (hA : ∀ w, (rd a V c).ArrAt w (cfg0 a).N (A w)) :
    ((rd a V c).arrays A : sProp 𝕄) ⊢ (rd a V c).arraysAt (cfg0 a).N := by
  unfold RDat.arraysAt RDat.arrays
  refine BI.bigSep_mono fun w _ => ?_
  show (((cfg0 a).win w).arr.view.loc (c.tc : Thread nD τ) ↦[((cfg0 a).win w).arr.view.set]{(rd a V c).share w} A w : sProp 𝕄)
    ⊢ iprop(∃ B, ⌜(rd a V c).ArrAt w (cfg0 a).N B⌝ ∗ ((cfg0 a).win w).arr.view.loc (c.tc : Thread nD τ) ↦[((cfg0 a).win w).arr.view.set]{(rd a V c).share w} B)
  iintro H
  iexists (A w)
  isplitr
  · ipureintro; exact hA w
  iexact H

theorem pcfg_pin (a : Adm₀) (c : Dev nD) : Pipeline.RDat.familyOf (pcfgs (F := F)) (fun _ => a) 0 (rd a (entryV m)) 0 c = rd a (entryV m) c := by
  rw [Pipeline.RDat.familyOf_self]

set_option backward.isDefEq.respectTransparency.types false in
theorem run_main (a : Adm₀) (ha : ∀ c : Dev nD, m ((c.tc : Thread nD τ).loc main_arg0) = a.1 0) :
    θ_run defs (onTc (τ := τ) (main (F := F))) (s₀ m ρ) (fun r => (∀ c, Ends m a c r.2) ∧ r.2.sem = fun _ => 0) := by
  classical
  have kit := (launch0 (F := F)).to₀
  have hq : ∀ (c : Dev nD) (w : Fin 4), ((cfg0 a).spec w).isOut = false → (rd a (entryV m) c).q w = Pipeline.shareOf (cfg0 a).spec w := fun c w hw =>
    (rd a (entryV m) c).q_eq_shareOf_of_share_full (launch0 (F := F)).win.arr_inj (fun w => by unfold RDat.share; split <;> rfl) w hw
  have hA : ∀ (c : Dev nD) (w : Fin 4), (rd a (entryV m) c).A w = entryV m c (Pipeline.arrRef (cfg0 a).spec w) := fun _ _ => rfl
  exact Pipeline.RDat.θ_run_region_pf_tail_quiescent (pcfgs (F := F)) (fun _ => a) (Pipeline.RDat.familyOf (pcfgs (F := F)) (fun _ => a) 0 (rd a (entryV m)))
    () (kit.cellOf_inj fun _ => a) 0 kit.win (Pipeline.OwnSemFacts.none _) kit.pre emb₁ defs₀ Variants.none m ρ main
    (fun _ => Pipeline.chain ([hostOps1].map StableHlo.seq))
    (fun c => by rw [pcfg_pin]; exact body_obligation a (entryV m) c)
    kit.block_pos kit.arr_whole kit.stage_whole (fun c t => by rw [pcfg_pin]; rfl)
    (G := fun _ => iprop(emp)) (u₀ := Rounds.initOf (Pipeline.cells (Pipeline.pin (pcfgs (F := F)) fun _ => a) (kit.cellOf_inj fun _ => a))
      (Pipeline.launchToks (Pipeline.pin (pcfgs (F := F)) fun _ => a) (kit.cellOf_inj fun _ => a)))
    (hu₀ := by
      iintro Hu
      imodintro
      isplitl [Hu]
      · iapply (show (ownU _ : sProp 𝕄) ⊢ BI.own (emb₁ (Rounds.initOf (Pipeline.cells (Pipeline.pin (pcfgs (F := F)) fun _ => a) (kit.cellOf_inj fun _ => a))
            (Pipeline.launchToks (Pipeline.pin (pcfgs (F := F)) fun _ => a) (kit.cellOf_inj fun _ => a)))) from .rfl)
        iexact Hu
      iapply (show (BI.emp : sProp 𝕄) ⊢ bigSep Finset.univ (fun _ : Dev nD => (BI.emp : sProp 𝕄)) from by rw [BI.bigSep_emp_const])
      iempintro)
    (V := entryV m)
    (hmain := Pipeline.hmainP_around (pcfgs (F := F)) 0 defs₀ Variants.none m main [hostOps0] [hostOps1] hostOps0_sub rfl (fun c => main_chain c))
    (hsplit := fun c => by rw [pcfg_pin]; exact (rd a (entryV m) c).arrays_split_shared kit.sharedIn kit.arr_whole (hq c) (entryV m c) _ (hA c))
    (hpf := fun c k => by
      obtain rfl : k = 0 := Subsingleton.elim _ _
      exact ha c)
    (X := fun c => iprop(∃ r, prngReg c r)) (Y := fun c => iprop(∃ r, prngReg c r))
    (Z := fun c => Pipeline.unscopedRestP pre0 (cfg0 a).spec c (entryV m c))
    (Z' := fun c => iprop(∃ A, ⌜∀ w, (rd a (entryV m) c).ArrAt w (cfg0 a).N (A w)⌝
      ∗ Pipeline.unscopedRestP pre0 (cfg0 a).spec c fun b => exitV m a c A (Proc.devRef .tc b)))
    (hX := fun c => by
      iintro ⟨HU, -, -, Hp, -⟩
      imodintro
      isplitl [Hp]
      · iexists _; iexact Hp
      iexact HU)
    (hin := fun c => by
      rw [pcfg_pin, show (rd a (entryV m) c).Φ 0 = inv a (entryV m) c 0 from rfl]
      unfold inv
      rw [show Pipeline.scopedRest (Pipeline.pin (pcfgs (F := F)) (fun _ => a) 0).spec c = Pipeline.scopedRest spec0 c from rfl, scopedRest0_eq]
      iintro ⟨Hg, HT, ⟨%f, HS⟩⟩
      isplitl [HS]
      · iexists f
        isplitr
        · ipureintro; intro t ht; exact absurd ht (Nat.succ_ne_zero _)
        rw [owns_whole]
        iexact HS
      isplitl [Hg]; · iexact Hg
      iexact HT)
    (hout := fun c => by
      rw [pcfg_pin, show (rd a (entryV m) c).Φ (Fin.last _) = inv a (entryV m) c (cfg0 a).N from rfl, Pipeline.ownSems0_none]
      unfold inv
      rw [show Pipeline.scopedRest (Pipeline.pin (pcfgs (F := F)) (fun _ => a) 0).spec c = Pipeline.scopedRest spec0 c from rfl, scopedRest0_eq]
      simp only [owns_whole]
      iintro ⟨⟨%Z, -, HS⟩, Hg, HT⟩
      isplitl [Hg]; · iexact Hg
      isplitr; · iempintro
      iexists Z
      iexact HS)
    (htail := fun c Q' => by
      rw [pcfg_pin]
      iintro ⟨Hk, Hb, Ha, HZ⟩
      ihave Ha := (arrays_open a (entryV m) c) $$ Ha
      icases Ha with ⟨%A, %hAA, Ha⟩
      have hB : (rd a (entryV m) c).arrays A = Pipeline.arrBufs (cfg0 a).spec c (fun b => Pipeline.withArrays (cfg0 a).spec c (StableHlo.after hostOps0 fun b => m (c, b)) A (Proc.devRef .tc b)) :=
        ((rd a (entryV m) c).arrBufs_eq_arrays kit.sharedIn kit.arr_whole (hq c) _ A fun w =>
          (Pipeline.withArrays_arr (cfg0 a).spec (launch0 (F := F)).win.arr_inj c _ A w).symm).symm
      iapply (Pipeline.tail_seqs_bufs_b (pcfgs (F := F)) defs₀ Variants.none pre0 (cfg0 a).spec c (StableHlo.after hostOps0 fun b => m (c, b)) A [hostOps1]
        later_sub later_fresh (later_keep a) Q')
      isplitl [Hk]
      · iintro ⟨Hb, Ha, Hu⟩
        iapply Hk
        isplitl [Hb]; · iexact Hb
        isplitl [Ha]
        · iapply (arrays_close a (entryV m) c A hAA)
          iapply (Entails.of_eq hB.symm)
          iexact Ha
        iexists A
        isplitr
        · ipureintro; exact hAA
        iexact Hu
      isplitl [Hb]; · iexact Hb
      isplitl [Ha]
      · iapply (Entails.of_eq hB); iexact Ha
      iexact HZ)
    (QY := fun c s => ∃ A, (∀ w, (rd a (entryV m) c).ArrAt w (cfg0 a).N (A w))
      ∧ ∀ b ∈ Pipeline.restRefsP sig pre0 (cfg0 a).spec, s.mem ((c.tc : Thread nD τ).loc b) = exitV m a c A (Proc.devRef .tc b))
    (hY := fun c s' => by
      iintro ⟨-, ⟨%A, %hAA, HZ⟩, HS⟩
      unfold Pipeline.unscopedRestP
      ihave H := (pointsTo_read_all (Pipeline.restRefsP sig pre0 (cfg0 a).spec) (fun b => (c.tc : Thread nD τ).loc b) (fun b => exitV m a c A (Proc.devRef .tc b)) s') $$ [HZ HS]
      · isplitl [HZ] <;> iassumption
      icases H with ⟨%h, HS⟩
      imodintro
      isplitr
      · ipureintro; exact ⟨A, hAA, h⟩
      iexact HS)
    (hQ := fun s h hz => ⟨fun c => ⟨fun w => by simpa only [pcfg_pin] using (h c).1 w, (h c).2.1 0, (h c).2.2⟩, hz⟩)

end Cert.Proof.Grp
-- ==== Proof.GroupedFrames.lean ====
/-
  The grouped product runs: what the precondition says of the schedule, the blocks it admits, and the frames.
-/
module

public import proofs.«01_k».proof.Proof.GroupedRun
public import proofs.«01_k».proof.Proof.Run
public import proofs.«01_k».proof.Proof.Gen.Grouped
public import proofs.«01_k».proof.Proof.Gen.Pre_sched_ok
public import Idealize.ShloMosaic.Lib.ReduceAll
public import Idealize.ShloMosaic.Lib.Pipeline.Value

@[expose] public section

noncomputable section

namespace Cert.Proof.Grp

open Cert.GroupedIdeal Cert.GroupedIdeal.Gen
open Idealize.ShloMosaic Idealize.ShloMosaic.TcCoe
open Idealize.SL.Sem
open Idealize.ShloMosaic.Pipeline (RDat)

variable {F : FTy → Type} [FloatOps F]

local notation "Adm₀" => Pipeline.PCfg.Adm (pcfg0 (F := F))

/-- What is asked of a schedule: the blocks and kinds of its steps exist, and the blocks are visited in order, none left out. -/
structure Sched (T : Vec F S5x32 .i32) : Prop where
  blk : ∀ n, n < 15 → (wd T 0 n).toNat < 8
  knd : ∀ n, n < 15 → (wd T 1 n).toNat < 8
  first : wd T 0 0 = 0#32
  last : wd T 0 14 = 7#32
  mono : ∀ n, n < 14 → (wd T 0 n).toNat ≤ (wd T 0 (n + 1)).toNat
  one : ∀ n, n < 14 → (wd T 0 (n + 1)).toNat ≤ (wd T 0 n).toNat + 1

theorem and_one {x y : BitVec 1} (h : IntOp.andi x y = 1#1) : x = 1#1 ∧ y = 1#1 := by
  revert x y; decide

theorem sle_one {a b : BitVec 32} (ha : a.toNat < 8) (hb : b.toNat < 8) (h : IntOp.cmpi .sle a b = 1#1) : a.toNat ≤ b.toNat := by
  have ofBool_eq_one (p : Bool) : (BitVec.ofBool p = 1#1) ↔ p = true := by cases p <;> decide
  simp only [IntOp.cmpi, ofBool_eq_one, BitVec.sle_eq_decide, decide_eq_true_eq, BitVec.toInt_eq_toNat_cond, Nat.reducePow] at h
  omega

theorem sub_sle_one {a b : BitVec 32} (ha : a.toNat < 8) (hb : b.toNat < 8) (h : IntOp.cmpi .sle (IntOp.subi b a) 1#32 = 1#1) : b.toNat ≤ a.toNat + 1 := by
  have ofBool_eq_one (p : Bool) : (BitVec.ofBool p = 1#1) ↔ p = true := by cases p <;> decide
  simp only [IntOp.cmpi, IntOp.subi, ofBool_eq_one, BitVec.sle_eq_decide, decide_eq_true_eq, BitVec.toInt_eq_toNat_cond, BitVec.toNat_sub, BitVec.toNat_ofNat, Nat.reducePow, Nat.reduceMod] at h
  omega

theorem eq_one {a b : BitVec 32} (h : IntOp.cmpi .eq a b = 1#1) : a = b := by
  have ofBool_eq_one (p : Bool) : (BitVec.ofBool p = 1#1) ↔ p = true := by cases p <;> decide
  simpa only [IntOp.cmpi, ofBool_eq_one, beq_iff_eq] using h

section Pre
open Cert.Pre_sched_ok.Gen

/-- A row of the schedule cut out, at a step. -/
theorem row_at (T : IVec Cert.Pre_sched_ok.S5x32 32) (r : Fin 5) (h : Cert.Pre_sched_ok.S5x32.Slices ![r.val, 0] Cert.Pre_sched_ok.S1x15)
    (hc : Cert.Pre_sched_ok.S1x15.ShapeCasts Cert.Pre_sched_ok.S15) (n : Fin 15) :
    shapeCast Cert.Pre_sched_ok.S15 (extractStridedSlice Cert.Pre_sched_ok.S1x15 ![r.val, 0] T h) hc (ix1 n) = wd (F := F) T r n.val := by
  rw [shapeCast_apply _ _ _ (ix2 (0 : Fin 1) n) (by rw [Shape.rowMajor_val_two, Shape.rowMajor_val_one]; show 0 * 15 + n.val = n.val; omega)]
  rw [extractStridedSlice_apply _ _ _ _ (ix2 r ⟨n.val, by omega⟩) (fun a => by fin_cases a <;> first | rfl | (show n.val = 0 + n.val; omega))]
  unfold wd
  rw [dif_pos (by omega : n.val < 32)]

theorem sched_of_pre (T : IVec Cert.Pre_sched_ok.S5x32 32) (x : FVec F Cert.Pre_sched_ok.S4096x1024 .f32) (W : FVec F Cert.Pre_sched_ok.S8x1024x512 .f32)
    (b : FVec F Cert.Pre_sched_ok.S8x512 .f32) (k : IVec Cert.Pre_sched_ok.S4096 32) (h : Cert.Pre_sched_ok.fn T x W b k = fun _ => 1#1) : Sched (F := F) T := by
  have e := congrFun h (fun a => a.elim0)
  dsimp only [Cert.Pre_sched_ok.fn, Cert.Pre_sched_ok.fn_part1] at e
  obtain ⟨e, hone⟩ := and_one e
  obtain ⟨e, hlast⟩ := and_one e
  obtain ⟨e, hfirst⟩ := and_one e
  obtain ⟨e, hmono⟩ := and_one e
  obtain ⟨hblk, hknd⟩ := and_one e
  have blk : ∀ n, n < 15 → (wd (F := F) T 0 n).toNat < 8 := fun n hn => by
    have q := Host.reduce_andi_all _ _ _ _ _ hblk (ix1 ⟨n, hn⟩)
    rw [← row_at (F := F) T 0 Cert.Pre_sched_ok.Gen.facts.slices_S5x32_S1x15_0_0 Cert.Pre_sched_ok.Gen.facts.shapeCasts_S1x15_S15 ⟨n, hn⟩]
    exact Disp.lt_eight _ q
  have knd : ∀ n, n < 15 → (wd (F := F) T 1 n).toNat < 8 := fun n hn => by
    have q := Host.reduce_andi_all _ _ _ _ _ hknd (ix1 ⟨n, hn⟩)
    rw [← row_at (F := F) T 1 Cert.Pre_sched_ok.Gen.facts.slices_S5x32_S1x15_1_0 Cert.Pre_sched_ok.Gen.facts.shapeCasts_S1x15_S15 ⟨n, hn⟩]
    exact Disp.lt_eight _ q
  have cut0 : ∀ (n : Nat) (hn : n < 14) (hs : Cert.Pre_sched_ok.S15.Slices ![0] Cert.Pre_sched_ok.S14), extractStridedSlice Cert.Pre_sched_ok.S14 ![0]
      (shapeCast Cert.Pre_sched_ok.S15 (extractStridedSlice Cert.Pre_sched_ok.S1x15 ![0, 0] T Cert.Pre_sched_ok.Gen.facts.slices_S5x32_S1x15_0_0) Cert.Pre_sched_ok.Gen.facts.shapeCasts_S1x15_S15)
      hs (ix1 ⟨n, hn⟩) = wd (F := F) T 0 n := fun n hn hs => by
    rw [extractStridedSlice_apply _ _ _ _ (ix1 (⟨n, by omega⟩ : Fin 15)) (fun a => by fin_cases a; show n = 0 + n; omega)]
    exact row_at T 0 _ _ ⟨n, _⟩
  have cut1 : ∀ (n : Nat) (hn : n < 14) (hs : Cert.Pre_sched_ok.S15.Slices ![1] Cert.Pre_sched_ok.S14), extractStridedSlice Cert.Pre_sched_ok.S14 ![1]
      (shapeCast Cert.Pre_sched_ok.S15 (extractStridedSlice Cert.Pre_sched_ok.S1x15 ![0, 0] T Cert.Pre_sched_ok.Gen.facts.slices_S5x32_S1x15_0_0) Cert.Pre_sched_ok.Gen.facts.shapeCasts_S1x15_S15)
      hs (ix1 ⟨n, hn⟩) = wd (F := F) T 0 (n + 1) := fun n hn hs => by
    rw [extractStridedSlice_apply _ _ _ _ (ix1 (⟨n + 1, by omega⟩ : Fin 15)) (fun a => by fin_cases a; show n + 1 = 1 + n; omega)]
    exact row_at T 0 _ _ ⟨n + 1, _⟩
  have cutE : ∀ (k : Fin 15) (hs : Cert.Pre_sched_ok.S15.Slices ![k.val] Cert.Pre_sched_ok.S1) (hc : Cert.Pre_sched_ok.S1.ShapeCasts Cert.Pre_sched_ok.S_),
      shapeCast Cert.Pre_sched_ok.S_ (extractStridedSlice Cert.Pre_sched_ok.S1 ![k.val]
      (shapeCast Cert.Pre_sched_ok.S15 (extractStridedSlice Cert.Pre_sched_ok.S1x15 ![0, 0] T Cert.Pre_sched_ok.Gen.facts.slices_S5x32_S1x15_0_0) Cert.Pre_sched_ok.Gen.facts.shapeCasts_S1x15_S15)
      hs) hc (fun a => a.elim0) = wd (F := F) T 0 k.val := fun k hs hc => by
    rw [shapeCast_apply _ _ _ (ix1 (0 : Fin 1)) (by rfl),
      extractStridedSlice_apply _ _ _ _ (ix1 k) (fun a => by fin_cases a; show k.val = k.val + 0; omega)]
    exact row_at T 0 _ _ k
  refine ⟨blk, knd, ?_, ?_, fun n hn => ?_, fun n hn => ?_⟩
  · exact (cutE 0 _ _).symm.trans (eq_one hfirst)
  · exact (cutE 14 _ _).symm.trans (eq_one hlast)
  · have q := Host.reduce_andi_all _ _ _ _ _ hmono (ix1 ⟨n, hn⟩)
    have a0 := cut0 n hn Cert.Pre_sched_ok.Gen.facts.slices_S15_S14_0
    have a1 := cut1 n hn Cert.Pre_sched_ok.Gen.facts.slices_S15_S14_1
    rw [← a0, ← a1]
    exact sle_one (by rw [a0]; exact blk n (by omega)) (by rw [a1]; exact blk _ (by omega)) q
  · have q := Host.reduce_andi_all _ _ _ _ _ hone (ix1 ⟨n, hn⟩)
    have a0 := cut0 n hn Cert.Pre_sched_ok.Gen.facts.slices_S15_S14_0
    have a1 := cut1 n hn Cert.Pre_sched_ok.Gen.facts.slices_S15_S14_1
    rw [← a0, ← a1]
    exact sub_sle_one (by rw [a0]; exact blk n (by omega)) (by rw [a1]; exact blk _ (by omega)) q

end Pre

/-! ## The tables a schedule makes -/

/-- The tables holding the schedule. -/
def tabs (T : Vec F S5x32 .i32) : pre0.Contents (Elt F) := fun k => match k with | 0 => T

theorem tabs_ok (T : Vec F S5x32 .i32) (hT : Sched T) : ok0 (tabs T) := by
  have hb : ∀ i : grid0.Coords, (wAt T (k0_off1 i) (k0_off1_inb i)).toNat < 8 := fun i => by rw [w1]; exact hT.blk _ (i 0).isLt
  have hk : ∀ i : grid0.Coords, (wAt T (k0_off2 i) (k0_off2_inb i)).toNat < 8 := fun i => by rw [w2]; exact hT.knd _ (i 0).isLt
  refine ⟨fun i => ⟨fun a => ?_, .inl rfl⟩, fun i => ⟨fun a => ?_, .inl rfl⟩, fun i => ⟨fun a => ?_, .inl rfl⟩, fun i => ⟨fun a => ?_, .inl rfl⟩⟩
  · have := hb i
    fin_cases a
    · show ((wAt T (k0_off1 i) (k0_off1_inb i)).toNat + 1) * 512 ≤ 4096; omega
    · show (0 + 1) * 1024 ≤ 1024; omega
  · have := hk i
    fin_cases a
    · show ((wAt T (k0_off2 i) (k0_off2_inb i)).toNat + 1) * 1 ≤ 8; omega
    · show (0 + 1) * 1024 ≤ 1024; omega
    · show (0 + 1) * 512 ≤ 512; omega
  · have := hk i
    fin_cases a
    · show ((wAt T (k0_off2 i) (k0_off2_inb i)).toNat + 1) * 1 ≤ 8; omega
    · show (0 + 1) * 1 ≤ 1; omega
    · show (0 + 1) * 512 ≤ 512; omega
  · have := hb i
    fin_cases a
    · show ((wAt T (k0_off1 i) (k0_off1_inb i)).toNat + 1) * 1 ≤ 8; omega
    · show (0 + 1) * 512 ≤ 512; omega
    · show (0 + 1) * 520 ≤ 520; omega

/-- The admitted tables. -/
def adm (T : Vec F S5x32 .i32) (hT : Sched T) : Adm₀ := ⟨tabs T, tabs_ok T hT⟩

/-! ## The frame -/

variable (m : (ℓ : Loc nD τ sig) → Buf (Elt F) ℓ) (ρ : Dev nD → PrngReg)

theorem dev_one (c : Dev nD) : c = 0 := Subsingleton.elim _ _

/-- The schedule at the launch. -/
abbrev T₀ : Vec F S5x32 .i32 := m (((0 : Dev nD).tc : Thread nD τ).loc main_arg0)

theorem entry_arg0 (c : Dev nD) : entryV m c main_arg0 = m ((c.tc : Thread nD τ).loc main_arg0) := by
  unfold entryV; after_results
theorem entry_arg1 (c : Dev nD) : entryV m c main_arg1 = m ((c.tc : Thread nD τ).loc main_arg1) := by
  unfold entryV; after_results
theorem entry_arg2 (c : Dev nD) : entryV m c main_arg2 = m ((c.tc : Thread nD τ).loc main_arg2) := by
  unfold entryV; after_results
theorem entry_arg3 (c : Dev nD) : entryV m c main_arg3 = m ((c.tc : Thread nD τ).loc main_arg3) := by
  unfold entryV; after_results

theorem entry_arg4 (c : Dev nD) : entryV m c main_arg4 = m ((c.tc : Thread nD τ).loc main_arg4) := by
  unfold entryV; after_results

/-- The rows that `r` names, as rows to take; a negative one counts from the end. -/
def place (r : IVec S4096 32) : IVec S4096x1 32 :=
  broadcastInDim S4096x1 ![0] bcast_S4096_S4096x1_0 (select (cmpi .slt r (broadcastInDim S4096 ![] bcast_S_S4096 (constantI S_ 32 0#32)))
    (addi r (broadcastInDim S4096 ![] bcast_S_S4096 (constantI S_ 32 4096#32))) r)

/-- The rows of `Z` that `r` names. -/
def taken (Z : FVec F S4096x1x520 .f32) (r : IVec S4096 32) : FVec F S4096x1x520 .f32 :=
  Host.gather gather_S4096x1x520_S4096x1_S4096x1x520_12_0_n_n_0_1_11520 Z (place r)

/-- The rows of the blocks `G`, one after the other. -/
abbrev flat (G : FVec F S8x512x520 .f32) : FVec F S4096x1x520 .f32 := shapeCast S4096x1x520 G shapeCasts_S8x512x520_S4096x1x520

theorem later_v9 (V : Valuation τ sig (Elt F)) : StableHlo.after hostOps1 V (Proc.devRef .tc main_v9)
    = taken (flat (V (Proc.devRef .tc main_v1))) (V (Proc.devRef .tc main_arg4)) := by
  after_results
  rfl
theorem later_arg3 (V : Valuation τ sig (Elt F)) : StableHlo.after hostOps1 V (Proc.devRef .tc main_arg3) = V (Proc.devRef .tc main_arg3) := by
  after_results
theorem later_arg4 (V : Valuation τ sig (Elt F)) : StableHlo.after hostOps1 V (Proc.devRef .tc main_arg4) = V (Proc.devRef .tc main_arg4) := by
  after_results

section Exit
variable (a : Pipeline.PCfg.Adm (pcfg0 (F := F))) (c : Dev nD) (A : (w : Fin 4) → Buf (Elt F) (((win0 a w).arr.view.loc (c.tc : Thread nD τ))))

theorem exit_v9 : exitV m a c A (Proc.devRef .tc main_v9) = taken (flat (A 3)) (m ((c.tc : Thread nD τ).loc main_arg4)) := by
  refine (later_v9 _).trans (congrArg₂ (fun G r => taken (flat G) r) (Pipeline.withArrays_arr (cfg0 a).spec (launch0 (F := F)).win.arr_inj c _ A 3) ?_)
  exact (Pipeline.withArrays_of_ne (cfg0 a).spec c _ A main_arg4 (by decide : ∀ w, Pipeline.arrRef spec0 w ≠ main_arg4)).trans (entry_arg4 m c)
theorem exit_arg3 : exitV m a c A (Proc.devRef .tc main_arg3) = m ((c.tc : Thread nD τ).loc main_arg3) :=
  (later_arg3 _).trans ((Pipeline.withArrays_of_ne (cfg0 a).spec c _ A main_arg3 (by decide : ∀ w, Pipeline.arrRef spec0 w ≠ main_arg3)).trans (entry_arg3 m c))
theorem exit_arg4 : exitV m a c A (Proc.devRef .tc main_arg4) = m ((c.tc : Thread nD τ).loc main_arg4) :=
  (later_arg4 _).trans ((Pipeline.withArrays_of_ne (cfg0 a).spec c _ A main_arg4 (by decide : ∀ w, Pipeline.arrRef spec0 w ≠ main_arg4)).trans (entry_arg4 m c))

end Exit

theorem run (hT : Sched (T₀ m)) : θ_run defs (onTc (τ := τ) (main (F := F))) (s₀ m ρ)
    (fun r => (∀ c : Dev nD, (∃ G : Buf (Elt F) ((c.tc : Thread nD τ).loc main_v1), (rd (adm (T₀ m) hT) (entryV m) c).ArrAt 3 (cfg0 (adm (T₀ m) hT)).N G
          ∧ r.2.mem ((c.tc : Thread nD τ).loc main_v9) = taken (flat G) (m ((c.tc : Thread nD τ).loc main_arg4)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) := by
  refine (θ_run defs _ _).mono (fun r h => ⟨fun c => ?_, h.2⟩) (run_main m ρ (adm (T₀ m) hT) (fun c => by obtain rfl := dev_one c; rfl))
  obtain ⟨hw, h0, A, hA, hr⟩ := h.1 c
  have h3 := hr main_arg3 (by decide : main_arg3 ∈ Pipeline.restRefsP sig pre0 spec0)
  have h4 := hr main_arg4 (by decide : main_arg4 ∈ Pipeline.restRefsP sig pre0 spec0)
  have h9 := hr main_v9 (by decide : main_v9 ∈ Pipeline.restRefsP sig pre0 spec0)
  have h1 := hw 0
  rw [RDat.ArrAt_in _ 0 rfl] at h1
  have h2 := hw 1
  rw [RDat.ArrAt_in _ 1 rfl] at h2
  obtain rfl := dev_one c
  exact ⟨⟨A 3, hA 3, h9.trans (exit_v9 m _ _ A)⟩, h0, h1.trans (entry_arg1 m _), h2.trans (entry_arg2 m _), h3.trans (exit_arg3 m _ _ A), h4.trans (exit_arg4 m _ _ A)⟩

end Cert.Proof.Grp

namespace Cert.Proof

open Idealize.ShloMosaic Idealize.SL.Sem

theorem sched_groupedIdeal (m : (ℓ : Loc Cert.GroupedIdeal.nD Cert.GroupedIdeal.τ Cert.GroupedIdeal.sig) → Buf (Elt Ideal) ℓ)
    (h : Cert.Pre_GroupedIdeal m) : Grp.Sched (Grp.T₀ m) := Grp.sched_of_pre _ _ _ _ _ (h 0)

theorem frame_groupedIdeal : Cert.quiescent_GroupedIdeal := fun m ρ hpre =>
  (θ_run Cert.GroupedIdeal.defs _ _).mono (fun _ h => ⟨fun c => (h.1 c).2, h.2⟩)
    (Grp.run (F := Ideal) m ρ (sched_groupedIdeal m hpre))

end Cert.Proof

end
-- ==== Proof.GroupedValue.lean ====
/-
  What the grouped product's result holds, over the extended reals: each row's sum over the steps that take it.
-/
module

public import proofs.«01_k».proof.Proof.GroupedFrames
public import Idealize.ShloMosaic.Lib.Pointwise
public import Idealize.ShloMosaic.PureOps.Ideal

@[expose] public section

set_option maxRecDepth 16384

noncomputable section

namespace Cert.Proof.Grp

open Cert.GroupedIdeal Cert.GroupedIdeal.Gen
open Idealize.ShloMosaic Idealize.ShloMosaic.TcCoe
open Idealize.SL.Sem
open Idealize.ShloMosaic.Pipeline (RDat)

/-! ## The sum a row comes to -/

/-- Step `s` takes row `r` if the row lies in its block. -/
def Hit (T : IVec S5x32 32) (s r : Nat) : Prop :=
  wd (F := Ideal) T 2 s = 1#32 ∧ (wd (F := Ideal) T 3 s).sle (BitVec.ofNat 32 r) = true ∧ (BitVec.ofNat 32 r).slt (wd (F := Ideal) T 4 s) = true

instance (T : IVec S5x32 32) (s r : Nat) : Decidable (Hit T s r) := inferInstanceAs (Decidable (_ ∧ _ ∧ _))

/-- The block and the kind of step `s`. -/
abbrev bk (T : IVec S5x32 32) (s : Nat) : Nat := (wd (F := Ideal) T 0 s).toNat
def kd (T : IVec S5x32 32) (s : Nat) : Fin 8 := ⟨(wd (F := Ideal) T 1 s).toNat % 8, Nat.mod_lt _ (by decide)⟩

/-- What step `s` adds to row `r`, in column `o`. -/
def term (T : IVec S5x32 32) (x : FVec Ideal S4096x1024 .f32) (W : FVec Ideal S8x1024x512 .f32) (b : FVec Ideal S8x512 .f32)
    (s : Nat) (r : Fin 4096) (o : Fin 520) : EReal :=
  if Hit T s r.val then
    if h : o.val < 512 then (∑ d : Fin 1024, x (ix2 r d) * W (ix3 (kd T s) d ⟨o.val, h⟩)) + b (ix2 (kd T s) ⟨o.val, h⟩)
    else if (kd T s).val = o.val - 512 then 1 else 0
  else 0

/-! ## The body's values at an index -/

theorem pay5_apply (w1 w8 w9 : BitVec 32) (X : FVec Ideal S512x1024 .f32) (M : FVec Ideal S1024x512 .bf16) (B : FVec Ideal S1x1x512 .f32) (Y : FVec Ideal S1x512x512 .f32)
    (i o : Fin 512) : k0_pay5 (F := Ideal) w1 w8 w9 X M B Y (ix3 0 i o)
      = Y (ix3 0 i o) + if k0_pay4 (F := Ideal) w1 w8 w9 (ix2 i 0) = 1#1 then (∑ d : Fin 1024, X (ix2 i d) * M (ix2 d o)) + B (ix3 0 0 o) else (0 : EReal) := by
  unfold k0_pay5
  generalize k0_pay4 (F := Ideal) w1 w8 w9 = A
  pointwise
  rfl

theorem pay3_apply (A : IVec S512x1 1) (s : FVec Ideal S512x8 .f32) (Y : FVec Ideal S1x512x8 .f32) (i : Fin 512) (o : Fin 8) :
    k0_pay3 (F := Ideal) A s Y (ix3 0 i o) = Y (ix3 0 i o) + if A (ix2 i 0) = 1#1 then s (ix2 i o) else (0 : EReal) := by
  unfold k0_pay3
  pointwise
  rfl

theorem pay2_apply (X : FVec Ideal S1x1024x512 .f32) (d : Fin 1024) (o : Fin 512) : k0_pay2 (F := Ideal) X (ix2 d o) = X (ix3 0 d o) := by
  unfold k0_pay2
  pointwise

theorem pay1_apply (j : S1x512x520.Idx) : k0_pay1 (F := Ideal) j = (0 : EReal) := Ideal.ofBits_zero_f32

theorem pay4_apply (w1 w8 w9 : BitVec 32) (i : Fin 512) (h1 : w1.toNat < 8) :
    k0_pay4 (F := Ideal) w1 w8 w9 (ix2 i 0) = 1#1 ↔ w8.sle (BitVec.ofNat 32 (512 * w1.toNat + i.val)) = true ∧ (BitVec.ofNat 32 (512 * w1.toNat + i.val)).slt w9 = true := by
  have e : k0_pay4 (F := Ideal) w1 w8 w9 (ix2 i 0) = IntOp.andi (IntOp.cmpi .sge (BitVec.ofNat 32 (512 * w1.toNat + i.val)) w8) (IntOp.cmpi .slt (BitVec.ofNat 32 (512 * w1.toNat + i.val)) w9) := by
    have q : BitVec.ofNat 32 (512 * w1.toNat + i.val) = IntOp.addi (Scalar.muli w1 512#32) (BitVec.ofNat 32 i.val) := by
      apply BitVec.eq_of_toNat_eq
      show _ = (w1 * 512#32 + BitVec.ofNat 32 i.val).toNat
      have := i.isLt
      simp only [BitVec.toNat_add, BitVec.toNat_mul, BitVec.toNat_ofNat]
      omega
    rw [q]
    unfold k0_pay4
    pointwise
  rw [e]
  have a : ∀ p q : Bool, IntOp.andi (BitVec.ofBool p) (BitVec.ofBool q) = 1#1 ↔ p = true ∧ q = true := by decide
  exact a _ _

theorem pay6_apply (w7 : BitVec 32) (i : Fin 512) (o : Fin 8) (h7 : w7.toNat < 8) : k0_pay6 (F := Ideal) w7 (ix2 i o) = if w7.toNat = o.val then (1 : EReal) else 0 := by
  have e : k0_pay6 (F := Ideal) w7 (ix2 i o) = ((((IntOp.cmpi .eq (BitVec.ofNat 32 o.val) w7).setWidth 32).toInt : ℝ) : EReal) := by
    unfold k0_pay6
    pointwise
    rfl
  rw [e]
  have q : (BitVec.ofNat 32 o.val == w7) = decide (w7.toNat = o.val) := by
    rw [Bool.eq_iff_iff, beq_iff_eq, decide_eq_true_eq, ← BitVec.toNat_inj, BitVec.toNat_ofNat]
    have := o.isLt
    omega
  show ((((BitVec.ofBool (BitVec.ofNat 32 o.val == w7)).setWidth 32).toInt : ℝ) : EReal) = _
  rw [q]
  by_cases h : w7.toNat = o.val <;> simp [h]

/-! ## The blocks at an index -/

section Blocks

variable (a : Pipeline.PCfg.Adm (pcfg0 (F := Ideal))) (V : Mem Ideal) (c : Dev nD) (t : Fin (cfg0 a).N)

/-- Row `i` of block `k`. -/
def row (k : Fin 8) (i : Fin 512) : Fin 4096 := ⟨512 * k.val + i.val, by omega⟩

theorem inX_apply (k : Fin 8) (hk : bk (tab a) t.val = k.val) (i : Fin 512) (d : Fin 1024) :
    inX a V c t (ix2 i d) = V c main_arg1 (ix2 (row k i) d) := by
  show V c main_arg1 (((win0 a 0).rect t).emb (ix2 i d)) = _
  refine congrArg (V c main_arg1) (funext fun x => Fin.ext ?_)
  refine ((win0 a 0).rect_emb_val t (ix2 i d) x).trans ?_
  rw [index0 a t]
  fin_cases x
  · show bk (tab a) t.val * 512 + i.val = 512 * k.val + i.val
    rw [hk]; omega
  · show 0 * 1024 + d.val = d.val
    omega

theorem inW_apply (hk : (wd (tab a) 1 t.val).toNat < 8) (d : Fin 1024) (o : Fin 512) :
    inW a V c t (ix3 0 d o) = V c main_arg2 (ix3 (kd (tab a) t.val) d o) := by
  show V c main_arg2 (((win0 a 1).rect t).emb (ix3 0 d o)) = _
  refine congrArg (V c main_arg2) (funext fun x => Fin.ext ?_)
  refine ((win0 a 1).rect_emb_val t (ix3 0 d o) x).trans ?_
  rw [index1 a t]
  fin_cases x
  · show (wd (tab a) 1 t.val).toNat * 1 + 0 = (wd (tab a) 1 t.val).toNat % 8
    omega
  · show 0 * 1024 + d.val = d.val
    omega
  · show 0 * 512 + o.val = o.val
    omega

theorem inB_apply (hk : (wd (tab a) 1 t.val).toNat < 8) (o : Fin 512) :
    inB a V c t (ix3 0 0 o) = V c main_v0 (ix3 (kd (tab a) t.val) 0 o) := by
  show V c main_v0 (((win0 a 2).rect t).emb (ix3 0 0 o)) = _
  refine congrArg (V c main_v0) (funext fun x => Fin.ext ?_)
  refine ((win0 a 2).rect_emb_val t (ix3 0 0 o) x).trans ?_
  rw [index2 a t]
  fin_cases x
  · show (wd (tab a) 1 t.val).toNat * 1 + 0 = (wd (tab a) 1 t.val).toNat % 8
    omega
  · show 0 * 1 + 0 = 0
    omega
  · show 0 * 512 + o.val = o.val
    omega

/-- One step adds its term to what it found. -/
theorem out_apply (hT : Sched (tab a)) (b : FVec Ideal S8x512 .f32) (hb : ∀ e o, V c main_v0 (ix3 e 0 o) = b (ix2 e o))
    (k : Fin 8) (hk : bk (tab a) t.val = k.val) (Y : Vec Ideal S1x512x520 .f32) (i : Fin 512) (o : Fin 520) :
    out a V c t Y (ix3 0 i o) = opened (tab a) (grid0.coords t) Y (ix3 0 i o)
      + term (tab a) (V c main_arg1) (V c main_arg2) b t.val (row k i) o := by
  have h1 := hT.blk t.val t.isLt
  have h7 := hT.knd t.val t.isLt
  have hkd : (kd (tab a) t.val).val = (wd (tab a) 1 t.val).toNat := Nat.mod_eq_of_lt h7
  have hm : k0_pay4 (F := Ideal) (wd (tab a) 0 t.val) (wd (tab a) 3 t.val) (wd (tab a) 4 t.val) (ix2 i 0) = 1#1
      ↔ (wd (F := Ideal) (tab a) 3 t.val).sle (BitVec.ofNat 32 (row k i).val) = true ∧ (BitVec.ofNat 32 (row k i).val).slt (wd (F := Ideal) (tab a) 4 t.val) = true := by
    rw [pay4_apply _ _ _ i h1]
    unfold row
    rw [show (wd (F := Ideal) (tab a) 0 t.val).toNat = k.val from hk]
  unfold out step term Hit
  simp only [works_iff, w1, w7, w8, w9, coords15 t]
  by_cases hw : wd (F := Ideal) (tab a) 2 t.val = 1#32
  · rw [if_pos hw]
    simp only [hw, true_and, ← hm]
    by_cases ho : o.val < 512
    · rw [dif_pos (show ((ix3 (0 : Fin 1) i o : S1x512x520.Idx) 2).val < 512 from ho)]
      refine (pay5_apply _ _ _ _ _ _ _ i ⟨o.val, ho⟩).trans ?_
      refine congrArg₂ (· + ·) (congrArg _ (funext fun x => Fin.ext ?_)) ?_
      · fin_cases x
        · show 0 + 1 * 0 = 0; rfl
        · show 0 + 1 * i.val = i.val; omega
        · show 0 + 1 * o.val = o.val; omega
      · refine if_congr Iff.rfl ?_ rfl
        rw [dif_pos ho]
        refine congrArg₂ (· + ·) (Finset.sum_congr rfl fun d _ => ?_) ?_
        · rw [inX_apply a V c t k hk, pay2_apply, inW_apply a V c t h7]
        · rw [inB_apply a V c t h7, hb]
    · rw [dif_neg (show ¬((ix3 (0 : Fin 1) i o : S1x512x520.Idx) 2).val < 512 from ho)]
      refine (pay3_apply _ _ _ i ⟨o.val - 512, by omega⟩).trans ?_
      refine congrArg₂ (· + ·) (congrArg _ (funext fun x => Fin.ext ?_)) ?_
      · fin_cases x
        · show 0 + 1 * 0 = 0; rfl
        · show 0 + 1 * i.val = i.val; omega
        · show 512 + 1 * (o.val - 512) = o.val; omega
      · refine if_congr Iff.rfl ?_ rfl
        rw [dif_neg ho, pay6_apply _ _ _ h7, hkd]
  · rw [if_neg hw]
    simp only [hw, false_and, ↓reduceIte, add_zero]

/-! ## The sum over the steps -/

theorem bk_mono (hT : Sched (tab a)) (s s' : Nat) (h : s ≤ s') (h' : s' < 15) : bk (tab a) s ≤ bk (tab a) s' := by
  induction s', h using Nat.le_induction with
  | base => exact Nat.le_refl _
  | succ n _ ih => exact (ih (by omega)).trans (hT.mono n (by omega))

/-- What a step may leave of its block: the sums over the steps of the block so far. -/
theorem leaves_sum (hT : Sched (tab a)) (b : FVec Ideal S8x512 .f32) (hb : ∀ e o, V c main_v0 (ix3 e 0 o) = b (ix2 e o)) (n : Nat) :
    ∀ t : Fin (cfg0 a).N, t.val = n → ∀ X : Vec Ideal S1x512x520 .f32, (rd a V c).Leaves 3 t X → ∀ k : Fin 8, bk (tab a) t.val = k.val → ∀ (i : Fin 512) (o : Fin 520),
      X (ix3 0 i o) = ∑ s ∈ Finset.range (n + 1), if bk (tab a) s = k.val then term (tab a) (V c main_arg1) (V c main_arg2) b s (row k i) o else (0 : EReal) := by
  induction n with
  | zero =>
    intro t ht X hX k hk i o
    have hX' : ∃ Y : Vec Ideal S1x512x520 .f32, (rd a V c).Finds 3 t Y ∧ X = out a V c t Y := hX
    obtain ⟨Y, hY, e'⟩ := hX'
    rw [e', out_apply a V c t hT b hb k hk, Finset.sum_range_one, ht, if_pos (by rw [← ht]; exact hk)]
    unfold opened
    rw [if_pos ((opens_iff _ _).mpr (Or.inl (by rw [coords15 t, ht]))), pay1_apply, zero_add]
  | succ n ih =>
    intro t ht X hX k hk i o
    have hX' : ∃ Y : Vec Ideal S1x512x520 .f32, (rd a V c).Finds 3 t Y ∧ X = out a V c t Y := hX
    obtain ⟨Y, hY, e'⟩ := hX'
    have htl : t.val < 15 := t.isLt
    rw [e', out_apply a V c t hT b hb k hk, Finset.sum_range_succ, ← ht, if_pos hk]
    congr 1
    unfold opened
    by_cases ho : opens (tab a) (grid0.coords t)
    · rw [if_pos ho, pay1_apply]
      rw [opens_iff, coords15 t] at ho
      have hne := ho.resolve_left (by omega)
      rw [Finset.sum_eq_zero]
      intro s hs
      rw [Finset.mem_range] at hs
      refine if_neg fun hs' => hne (BitVec.eq_of_toNat_eq ?_)
      have m1 := bk_mono a hT s (t.val - 1) (by omega) (by omega)
      have m2 := bk_mono a hT (t.val - 1) t.val (by omega) (by omega)
      show bk (tab a) t.val = bk (tab a) (t.val - 1)
      omega
    · rw [if_neg ho]
      rw [opens_iff, coords15 t] at ho
      push Not at ho
      have hp : (t.val - 1) < (cfg0 a).N := by show t.val - 1 < 15; omega
      have hY' := (RDat.finds_of_pos (rd a V c) (Pipeline.Window.fetch_out (win0 a 3) rfl t) (by omega) Y).mp hY
      have hf : ¬(win0 a 3).flush ⟨t.val - 1, hp⟩ = true := by
        rw [Pipeline.Window.flush_out _ rfl]
        rintro (h | ⟨h, h'⟩)
        · have : t.val - 1 + 1 = 15 := h
          omega
        · refine h' ?_
          rw [index3, index3]
          show ![(wd (tab a) 0 (t.val - 1 + 1)).toNat, 0, 0] = _
          rw [show t.val - 1 + 1 = t.val from by omega, ho.2]
      have hL := hY'.resolve_left hf
      have := ih ⟨t.val - 1, hp⟩ (by show t.val - 1 = n; omega) Y hL k (by show bk (tab a) (t.val - 1) = k.val; rw [← hk]; exact congrArg BitVec.toNat ho.2.symm) i o
      rw [this, ht]

/-- The sum a place of the result comes to. -/
def total (T : IVec S5x32 32) (x : FVec Ideal S4096x1024 .f32) (W : FVec Ideal S8x1024x512 .f32) (b : FVec Ideal S8x512 .f32) (k : Fin 8) (i : Fin 512) (o : Fin 520) : EReal :=
  ∑ s ∈ Finset.range 15, if bk T s = k.val then term T x W b s (row k i) o else 0

theorem flush3 (hT : Sched (tab a)) : (win0 a 3).flush t = true ↔ t.val = 14 ∨ bk (tab a) (t.val + 1) ≠ bk (tab a) t.val := by
  have htl : t.val < 15 := t.isLt
  rw [Pipeline.Window.flush_out _ rfl]
  refine ⟨?_, ?_⟩
  · rintro (h | ⟨h, h'⟩)
    · left
      have : t.val + 1 = 15 := h
      omega
    · right
      intro he
      refine h' ?_
      rw [index3, index3]
      exact congrArg (fun v : Nat => ![v, 0, 0]) he
  · rintro (h | h)
    · left
      show t.val + 1 = 15
      omega
    · by_cases h14 : t.val = 14
      · left
        show t.val + 1 = 15
        omega
      · right
        refine ⟨by show t.val + 1 < 15; omega, fun he => h ?_⟩
        rw [index3, index3] at he
        exact congrFun he 0

/-- At a point that writes its block back, the sum is over all the steps. -/
theorem leaves_total (hT : Sched (tab a)) (b : FVec Ideal S8x512 .f32) (hb : ∀ e o, V c main_v0 (ix3 e 0 o) = b (ix2 e o)) (hf : (win0 a 3).flush t = true)
    (X : Vec Ideal S1x512x520 .f32) (hX : (rd a V c).Leaves 3 t X) (k : Fin 8) (hk : bk (tab a) t.val = k.val) (i : Fin 512) (o : Fin 520) :
    X (ix3 0 i o) = total (tab a) (V c main_arg1) (V c main_arg2) b k i o := by
  have htl : t.val < 15 := t.isLt
  rw [leaves_sum a V c hT b hb t.val t rfl X hX k hk i o]
  unfold total
  refine Finset.sum_subset (Finset.range_mono (by omega)) fun s hs hs' => if_neg fun he => ?_
  rw [Finset.mem_range] at hs hs'
  have h14 : t.val ≠ 14 := by omega
  have hne := ((flush3 a t hT).mp hf).resolve_left h14
  have m1 := bk_mono a hT (t.val + 1) s (by omega) (by omega)
  have m2 := bk_mono a hT t.val (t.val + 1) (by omega) (by omega)
  omega

/-- Every block is written back. -/
theorem flushed_at (hT : Sched (tab a)) (k : Fin 8) : ∃ t : Fin (cfg0 a).N, (win0 a 3).flush t = true ∧ bk (tab a) t.val = k.val := by
  have h0 : bk (tab a) 0 ≤ k.val := by rw [show bk (tab a) 0 = (0#32).toNat from congrArg BitVec.toNat hT.first]; exact Nat.zero_le _
  have h14 : bk (tab a) 14 = 7 := congrArg BitVec.toNat hT.last
  have hg := Nat.findGreatest_spec (P := fun s => bk (tab a) s ≤ k.val) (Nat.zero_le 14) h0
  have hle := Nat.findGreatest_le (P := fun s => bk (tab a) s ≤ k.val) 14
  have hgt := fun (s : Nat) (h : Nat.findGreatest (fun s => bk (tab a) s ≤ k.val) 14 < s) (h' : s ≤ 14) => Nat.findGreatest_is_greatest h h'
  generalize Nat.findGreatest (fun s => bk (tab a) s ≤ k.val) 14 = g at hg hle hgt
  have hk := k.isLt
  by_cases hg14 : g = 14
  · exact ⟨⟨14, by show 14 < 15; omega⟩, (flush3 a _ hT).mpr (Or.inl rfl), by show bk (tab a) 14 = k.val; rw [hg14] at hg; omega⟩
  · have h1 := hgt (g + 1) (by omega) (by omega)
    have h2 : bk (tab a) (g + 1) ≤ bk (tab a) g + 1 := hT.one g (by omega)
    exact ⟨⟨g, by show g < 15; omega⟩, (flush3 a _ hT).mpr (Or.inr (by show bk (tab a) (g + 1) ≠ bk (tab a) g; omega)), by show bk (tab a) g = k.val; omega⟩

/-- The whole result. -/
def totals (T : IVec S5x32 32) (x : FVec Ideal S4096x1024 .f32) (W : FVec Ideal S8x1024x512 .f32) (b : FVec Ideal S8x512 .f32) : FVec Ideal S8x512x520 .f32 :=
  fun j => total T x W b (j 0) (j 1) (j 2)

theorem arr_eq (hT : Sched (tab a)) (b : FVec Ideal S8x512 .f32) (hb : ∀ e o, V c main_v0 (ix3 e 0 o) = b (ix2 e o))
    (G : Buf (Elt Ideal) ((c.tc : Thread nD τ).loc main_v1)) (hG : (rd a V c).ArrAt 3 (cfg0 a).N G) :
    G = totals (tab a) (V c main_arg1) (V c main_arg2) b := by
  obtain ⟨X, hX, hA⟩ := hG.exists_exact
  obtain ⟨after, ha⟩ : ∃ after : (w' : Fin (cfg0 a).W) → Fin (cfg0 a).N → ((cfg0 a).win w').block.Idx → Elt Ideal ((cfg0 a).win w').elt, after 3 = X :=
    ⟨Function.update (fun _ _ _ => Classical.arbitrary _) 3 X, Function.update_self ..⟩
  have e := hA after fun u _ _ => by rw [ha]
  refine e.trans (((rd a V c).withAfter after).arrAt_eq_of_cover 3 (totals (tab a) (V c main_arg1) (V c main_arg2) b) (fun t hf => ?_) fun (j : S8x512x520.Idx) => ?_)
  · have hk := hT.blk t.val t.isLt
    have hl := leaves_total a V c t hT b hb hf (X t) (hX t t.isLt hf) ⟨bk (tab a) t.val, hk⟩ rfl
    funext y
    have hy : ∀ z : S1x512x520.Idx, X t z = totals (tab a) (V c main_arg1) (V c main_arg2) b (((win0 a 3).rect t).emb z) := fun z => by
      have hz : z = ix3 0 (z 1) (z 2) := by
        funext x
        fin_cases x
        · exact Subsingleton.elim (α := Fin 1) _ _
        · rfl
        · rfl
      have ez : ((win0 a 3).rect t).emb z = (ix3 (⟨bk (tab a) t.val, hk⟩ : Fin 8) (z 1) (z 2) : S8x512x520.Idx) := by
        have z0 : (z 0).val = 0 := by have : (z 0).val < 1 := (z 0).isLt; omega
        refine funext fun x => Fin.ext ?_
        refine ((win0 a 3).rect_emb_val t z x).trans ?_
        rw [index3 a t]
        fin_cases x
        · show (wd (tab a) 0 t.val).toNat * 1 + (z 0).val = (wd (F := Ideal) (tab a) 0 t.val).toNat
          omega
        · show 0 * 512 + (z 1).val = (z 1).val
          omega
        · show 0 * 520 + (z 2).val = (z 2).val
          omega
      rw [ez]
      exact (congrArg (X t) hz).trans (hl (z 1) (z 2))
    exact (congrFun (congrFun ha t) y).trans (hy y)
  · obtain ⟨t, hf, hk⟩ := flushed_at a hT (j 0)
    refine ⟨t, hf, ((win0 a 3).emb_mem_blk_iff t j rfl).mpr fun x => ?_⟩
    rw [index3 a t]
    fin_cases x
    · show (wd (tab a) 0 t.val).toNat * 1 ≤ (j 0).val ∧ (j 0).val < (wd (tab a) 0 t.val).toNat * 1 + 1
      have : (wd (tab a) 0 t.val).toNat = (j 0).val := hk
      omega
    · show 0 * 512 ≤ (j 1).val ∧ (j 1).val < 0 * 512 + 512
      have : (j 1).val < 512 := (j 1).isLt
      omega
    · show 0 * 520 ≤ (j 2).val ∧ (j 2).val < 0 * 520 + 520
      have : (j 2).val < 520 := (j 2).isLt
      omega

end Blocks

/-! ## The run -/

variable (m : (ℓ : Loc nD τ sig) → Buf (Elt Ideal) ℓ) (ρ : Dev nD → PrngReg)

theorem entry_v0 (c : Dev nD) (e : Fin 8) (o : Fin 512) : entryV m c main_v0 (ix3 e 0 o) = m ((c.tc : Thread nD τ).loc main_arg3) (ix2 e o) := by
  have h : entryV m c main_v0 = shapeCast S8x1x512 (m ((c.tc : Thread nD τ).loc main_arg3)) shapeCasts_S8x512_S8x1x512 := by
    unfold entryV
    after_results
    rfl
  rw [h]
  exact shapeCast_apply _ _ _ (ix2 e o) (by rw [Shape.rowMajor_val_two, Shape.rowMajor_val_three]; show e.val * 512 + o.val = (e.val * 1 + 0) * 512 + o.val; omega)

theorem run_total (hT : Sched (T₀ m)) : θ_run defs (onTc (τ := τ) (main (F := Ideal))) (s₀ m ρ)
    (fun r => ∀ c : Dev nD, r.2.mem ((c.tc : Thread nD τ).loc main_v9) = taken (F := Ideal) (flat (F := Ideal) (totals (m ((c.tc : Thread nD τ).loc main_arg0))
          (m ((c.tc : Thread nD τ).loc main_arg1)) (m ((c.tc : Thread nD τ).loc main_arg2)) (m ((c.tc : Thread nD τ).loc main_arg3)))) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) := by
  refine (θ_run defs _ _).mono (fun r h c => ?_) (run (F := Ideal) m ρ hT)
  obtain ⟨⟨G, hG, h9⟩, hr⟩ := h.1 c
  refine ⟨h9.trans ?_, hr⟩
  have e := arr_eq (adm (T₀ m) hT) (entryV m) c hT (m ((c.tc : Thread nD τ).loc main_arg3)) (fun x o => entry_v0 m c x o) G hG
  rw [entry_arg1, entry_arg2] at e
  obtain rfl := dev_one c
  rw [e]
  rfl

end Cert.Proof.Grp
-- ==== Proof.GroupedRefRun.lean ====
/-
  The run of the grouped product's reference: a straight line of host operations.
-/
module

public import proofs.«01_k».proof.Defs
public import Idealize.ShloMosaic.Lib.StableHlo.Run
public import proofs.«01_k».proof.Proof.Gen.GroupedRefIdeal
public import proofs.«01_k».proof.Proof.Gen.Pre_sched_ok
public import Idealize.ShloMosaic.Lib.Quiescent

@[expose] public section

set_option maxRecDepth 16384

noncomputable section

namespace Cert.Proof.GRef

open Cert.GroupedRefIdeal Cert.GroupedRefIdeal.Gen
open Idealize.ShloMosaic Idealize.ShloMosaic.TcCoe Idealize.ShloMosaic.StableHlo Idealize.SL.Sem

variable {F : FTy → Type} [FloatOps F]

/-- The reference's operations, in order. -/
abbrev ops : List (HloOp τ sig (Elt F)) :=
  [ unary main_arg0 main_v0 ((extractStridedSlice S1x15 ![0, 0] · slices_S5x32_S1x15_0_0)),
    reshape main_v0 main_v1 (rfl : (.i32 : EltTy) = .i32) shapeCasts_S1x15_S15,
    unary main_arg0 main_v2 ((extractStridedSlice S1x15 ![1, 0] · slices_S5x32_S1x15_1_0)),
    reshape main_v2 main_v3 (rfl : (.i32 : EltTy) = .i32) shapeCasts_S1x15_S15,
    unary main_arg0 main_v4 ((extractStridedSlice S1x15 ![2, 0] · slices_S5x32_S1x15_2_0)),
    reshape main_v4 main_v5 (rfl : (.i32 : EltTy) = .i32) shapeCasts_S1x15_S15,
    unary main_arg0 main_v6 ((extractStridedSlice S1x15 ![3, 0] · slices_S5x32_S1x15_3_0)),
    reshape main_v6 main_v7 (rfl : (.i32 : EltTy) = .i32) shapeCasts_S1x15_S15,
    unary main_arg0 main_v8 ((extractStridedSlice S1x15 ![4, 0] · slices_S5x32_S1x15_4_0)),
    reshape main_v8 main_v9 (rfl : (.i32 : EltTy) = .i32) shapeCasts_S1x15_S15,
    nullary main_v10 (iotaInDim S4096 32 0),
    unary main_v10 main_v11 (broadcastInDim S4096x1 ![0] bcast_S4096_S4096x1_0),
    nullary main_c (constantI S_ 32 512#32),
    unary main_c main_v12 (broadcastInDim S15 ![] bcast_S_S15),
    binary main_v1 main_v12 main_v13 (muli),
    unary main_v13 main_v14 (broadcastInDim S1x15 ![1] bcast_S15_S1x15_1),
    unary main_v14 main_v15 (broadcastInDim S4096x15 ![0, 1] bcast_S1x15_S4096x15_0_1),
    unary main_v11 main_v16 (broadcastInDim S4096x15 ![0, 1] bcast_S4096x1_S4096x15_0_1),
    binary main_v15 main_v16 main_v17 (cmpi .sle),
    nullary main_c_0 (constantI S_ 32 512#32),
    unary main_c_0 main_v18 (broadcastInDim S15 ![] bcast_S_S15),
    binary main_v1 main_v18 main_v19 (muli),
    nullary main_c_1 (constantI S_ 32 512#32),
    unary main_c_1 main_v20 (broadcastInDim S15 ![] bcast_S_S15),
    binary main_v19 main_v20 main_v21 (addi),
    unary main_v21 main_v22 (broadcastInDim S1x15 ![1] bcast_S15_S1x15_1),
    unary main_v11 main_v23 (broadcastInDim S4096x15 ![0, 1] bcast_S4096x1_S4096x15_0_1),
    unary main_v22 main_v24 (broadcastInDim S4096x15 ![0, 1] bcast_S1x15_S4096x15_0_1),
    binary main_v23 main_v24 main_v25 (cmpi .slt),
    binary main_v17 main_v25 main_v26 (andi),
    nullary main_c_2 (constantI S_ 32 1#32),
    unary main_c_2 main_v27 (broadcastInDim S15 ![] bcast_S_S15),
    binary main_v5 main_v27 main_v28 (cmpi .eq),
    unary main_v28 main_v29 (broadcastInDim S1x15 ![1] bcast_S15_S1x15_1),
    unary main_v29 main_v30 (broadcastInDim S4096x15 ![0, 1] bcast_S1x15_S4096x15_0_1),
    binary main_v26 main_v30 main_v31 (andi),
    unary main_v7 main_v32 (broadcastInDim S1x15 ![1] bcast_S15_S1x15_1),
    unary main_v32 main_v33 (broadcastInDim S4096x15 ![0, 1] bcast_S1x15_S4096x15_0_1),
    unary main_v11 main_v34 (broadcastInDim S4096x15 ![0, 1] bcast_S4096x1_S4096x15_0_1),
    binary main_v33 main_v34 main_v35 (cmpi .sle),
    binary main_v31 main_v35 main_v36 (andi),
    unary main_v9 main_v37 (broadcastInDim S1x15 ![1] bcast_S15_S1x15_1),
    unary main_v11 main_v38 (broadcastInDim S4096x15 ![0, 1] bcast_S4096x1_S4096x15_0_1),
    unary main_v37 main_v39 (broadcastInDim S4096x15 ![0, 1] bcast_S1x15_S4096x15_0_1),
    binary main_v38 main_v39 main_v40 (cmpi .slt),
    binary main_v36 main_v40 main_v41 (andi),
    unary main_v41 main_v42 (broadcastInDim S4096x15x1 ![0, 1] bcast_S4096x15_S4096x15x1_0_1),
    unary main_v3 main_v43 (broadcastInDim S15x1 ![0] bcast_S15_S15x1_0),
    nullary main_v44 (iotaInDim S8 32 0),
    unary main_v44 main_v45 (broadcastInDim S1x8 ![1] bcast_S8_S1x8_1),
    unary main_v43 main_v46 (broadcastInDim S15x8 ![0, 1] bcast_S15x1_S15x8_0_1),
    unary main_v45 main_v47 (broadcastInDim S15x8 ![0, 1] bcast_S1x8_S15x8_0_1),
    binary main_v46 main_v47 main_v48 (cmpi .eq),
    unary main_v48 main_v49 (broadcastInDim S1x15x8 ![1, 2] bcast_S15x8_S1x15x8_1_2),
    unary main_v42 main_v50 (broadcastInDim S4096x15x8 ![0, 1, 2] bcast_S4096x15x1_S4096x15x8_0_1_2),
    unary main_v49 main_v51 (broadcastInDim S4096x15x8 ![0, 1, 2] bcast_S1x15x8_S4096x15x8_0_1_2),
    binary main_v50 main_v51 main_v52 (andi),
    binary main_arg1 main_arg2 main_v53 ((fun l r => Host.dotGeneral dot_S4096x1024_S8x1024x512_S4096x8x512_1_1_0_02_n_n none l r)),
    unary main_arg3 main_v54 (broadcastInDim S1x8x512 ![1, 2] bcast_S8x512_S1x8x512_1_2),
    unary main_v54 main_v55 (broadcastInDim S4096x8x512 ![0, 1, 2] bcast_S1x8x512_S4096x8x512_0_1_2),
    binary main_v53 main_v55 main_v56 (addf),
    unary main_v52 main_v57 (broadcastInDim S4096x15x8x1 ![0, 1, 2] bcast_S4096x15x8_S4096x15x8x1_0_1_2),
    unary main_v57 main_v58 (broadcastInDim S4096x15x8x512 ![0, 1, 2, 3] bcast_S4096x15x8x1_S4096x15x8x512_0_1_2_3),
    unary main_v56 main_v59 (broadcastInDim S4096x1x8x512 ![0, 2, 3] bcast_S4096x8x512_S4096x1x8x512_0_2_3),
    unary main_v59 main_v60 (broadcastInDim S4096x15x8x512 ![0, 1, 2, 3] bcast_S4096x1x8x512_S4096x15x8x512_0_1_2_3),
    nullary main_cst (constant S_ .f32 0x00000000#32),
    unary main_cst main_v61 (broadcastInDim S4096x15x8x512 ![] bcast_S_S4096x15x8x512),
    ternary main_v58 main_v60 main_v61 main_v62 (select),
    nullary main_cst_3 (constant S_ .f32 0x00000000#32),
    binary main_v62 main_cst_3 main_v63 ((fun x v => Host.reduceAdd x v reducesTo_S4096x15x8x512_S4096x8x512_d1 h_S_)),
    nullary main_cst_4 (constant S_ .f32 0x00000000#32),
    binary main_v63 main_cst_4 main_v64 ((fun x v => Host.reduceAdd x v reducesTo_S4096x8x512_S4096x512_d1 h_S_)),
    unary main_v52 main_v65 (uitofp .f32),
    nullary main_cst_5 (constant S_ .f32 0x00000000#32),
    binary main_v65 main_cst_5 main_v66 ((fun x v => Host.reduceAdd x v reducesTo_S4096x15x8_S4096x8_d1 h_S_)),
    binary main_v64 main_v66 main_v67 ((fun a b => concatenate S4096x520 1 [⟨S4096x512, a⟩, ⟨S4096x8, b⟩] concatenates_S4096x512_S4096x8_S4096x520_d1)),
    unary main_v67 main_v68 (broadcastInDim S4096x1x520 ![0, 2] bcast_S4096x520_S4096x1x520_0_2),
    nullary main_c_6 (constantI S_ 32 0#32),
    unary main_c_6 main_v69 (broadcastInDim S4096 ![] bcast_S_S4096),
    binary main_arg4 main_v69 main_v70 (cmpi .slt),
    nullary main_c_7 (constantI S_ 32 4096#32),
    unary main_c_7 main_v71 (broadcastInDim S4096 ![] bcast_S_S4096),
    binary main_arg4 main_v71 main_v72 (addi),
    ternary main_v70 main_v72 main_arg4 main_v73 (select),
    unary main_v73 main_v74 (broadcastInDim S4096x1 ![0] bcast_S4096_S4096x1_0),
    binary main_v68 main_v74 main_v75 ((fun x i => Host.gather gather_S4096x1x520_S4096x1_S4096x1x520_12_0_n_n_0_1_11520 x i)) ]

set_option maxHeartbeats 2000000 in
theorem main_eq (c : Dev nD) : main (F := F) c = seq ops := rfl

/-- A row of the schedule. -/
def row0 (T : IVec S5x32 32) : IVec S15 32 := shapeCast S15 (extractStridedSlice S1x15 ![0, 0] T slices_S5x32_S1x15_0_0) shapeCasts_S1x15_S15
def row1 (T : IVec S5x32 32) : IVec S15 32 := shapeCast S15 (extractStridedSlice S1x15 ![1, 0] T slices_S5x32_S1x15_1_0) shapeCasts_S1x15_S15
def row2 (T : IVec S5x32 32) : IVec S15 32 := shapeCast S15 (extractStridedSlice S1x15 ![2, 0] T slices_S5x32_S1x15_2_0) shapeCasts_S1x15_S15
def row3 (T : IVec S5x32 32) : IVec S15 32 := shapeCast S15 (extractStridedSlice S1x15 ![3, 0] T slices_S5x32_S1x15_3_0) shapeCasts_S1x15_S15
def row4 (T : IVec S5x32 32) : IVec S15 32 := shapeCast S15 (extractStridedSlice S1x15 ![4, 0] T slices_S5x32_S1x15_4_0) shapeCasts_S1x15_S15

/-- A word of each step, spread over the rows. -/
abbrev spread {α : Type} (v : S15.Idx → α) : S4096x15.Idx → α := broadcastInDim S4096x15 ![0, 1] bcast_S1x15_S4096x15_0_1 (broadcastInDim S1x15 ![1] bcast_S15_S1x15_1 v)
/-- The rows' numbers, spread over the steps. -/
abbrev nums : IVec S4096x15 32 := broadcastInDim S4096x15 ![0, 1] bcast_S4096x1_S4096x15_0_1 (broadcastInDim S4096x1 ![0] bcast_S4096_S4096x1_0 (iotaInDim S4096 32 0))
/-- One word, spread over the steps. -/
abbrev con (w : BitVec 32) : IVec S15 32 := broadcastInDim S15 ![] bcast_S_S15 (constantI S_ 32 w)

/-- Entry [r, t]: step t takes row r. -/
def takes (T : IVec S5x32 32) : IVec S4096x15 1 :=
  andi (andi (andi (andi
    (cmpi .sle (spread (muli (row0 T) (con 512#32))) nums)
    (cmpi .slt nums (spread (addi (muli (row0 T) (con 512#32)) (con 512#32)))))
    (spread (cmpi .eq (row2 T) (con 1#32))))
    (cmpi .sle (spread (row3 T)) nums))
    (cmpi .slt nums (spread (row4 T)))

/-- Entry [t, e]: step t is of kind e. -/
def kinds (T : IVec S5x32 32) : IVec S15x8 1 :=
  cmpi .eq (broadcastInDim S15x8 ![0, 1] bcast_S15x1_S15x8_0_1 (broadcastInDim S15x1 ![0] bcast_S15_S15x1_0 (row1 T)))
    (broadcastInDim S15x8 ![0, 1] bcast_S1x8_S15x8_0_1 (broadcastInDim S1x8 ![1] bcast_S8_S1x8_1 (iotaInDim S8 32 0)))

/-- Entry [r, t, e]: step t takes row r and is of kind e. -/
def which (T : IVec S5x32 32) : IVec S4096x15x8 1 :=
  andi (broadcastInDim S4096x15x8 ![0, 1, 2] bcast_S4096x15x1_S4096x15x8_0_1_2 (broadcastInDim S4096x15x1 ![0, 1] bcast_S4096x15_S4096x15x1_0_1 (takes T)))
    (broadcastInDim S4096x15x8 ![0, 1, 2] bcast_S1x15x8_S4096x15x8_0_1_2 (broadcastInDim S1x15x8 ![1, 2] bcast_S15x8_S1x15x8_1_2 (kinds T)))

/-- Each row's product with each kind's matrix. -/
def each (x : FVec F S4096x1024 .f32) (W : FVec F S8x1024x512 .f32) (b : FVec F S8x512 .f32) : FVec F S4096x8x512 .f32 :=
  addf (Host.dotGeneral dot_S4096x1024_S8x1024x512_S4096x8x512_1_1_0_02_n_n none x W)
    (broadcastInDim S4096x8x512 ![0, 1, 2] bcast_S1x8x512_S4096x8x512_0_1_2 (broadcastInDim S1x8x512 ![1, 2] bcast_S8x512_S1x8x512_1_2 b))

/-- The products of the steps that take each row, added up. -/
def rows (w : IVec S4096x15x8 1) (p : FVec F S4096x8x512 .f32) : FVec F S4096x512 .f32 :=
  Host.reduceAdd (Host.reduceAdd (select
      (broadcastInDim S4096x15x8x512 ![0, 1, 2, 3] bcast_S4096x15x8x1_S4096x15x8x512_0_1_2_3 (broadcastInDim S4096x15x8x1 ![0, 1, 2] bcast_S4096x15x8_S4096x15x8x1_0_1_2 w))
      (broadcastInDim S4096x15x8x512 ![0, 1, 2, 3] bcast_S4096x1x8x512_S4096x15x8x512_0_1_2_3 (broadcastInDim S4096x1x8x512 ![0, 2, 3] bcast_S4096x8x512_S4096x1x8x512_0_2_3 p))
      (broadcastInDim S4096x15x8x512 ![] bcast_S_S4096x15x8x512 (constant S_ .f32 0x00000000#32)))
    (constant S_ .f32 0x00000000#32) reducesTo_S4096x15x8x512_S4096x8x512_d1 h_S_)
    (constant S_ .f32 0x00000000#32) reducesTo_S4096x8x512_S4096x512_d1 h_S_

/-- How many steps of each kind take each row. -/
def share (w : IVec S4096x15x8 1) : FVec F S4096x8 .f32 :=
  Host.reduceAdd (uitofp .f32 w) (constant S_ .f32 0x00000000#32) reducesTo_S4096x15x8_S4096x8_d1 h_S_

/-- Every row's sums. -/
def sums (T : IVec S5x32 32) (x : FVec F S4096x1024 .f32) (W : FVec F S8x1024x512 .f32) (b : FVec F S8x512 .f32) : FVec F S4096x1x520 .f32 :=
  broadcastInDim S4096x1x520 ![0, 2] bcast_S4096x520_S4096x1x520_0_2
    (concatenate S4096x520 1 [⟨S4096x512, rows (which T) (each x W b)⟩, ⟨S4096x8, share (which T)⟩] concatenates_S4096x512_S4096x8_S4096x520_d1)

/-- The rows that `r` names, as rows to take; a negative one counts from the end. -/
def place (r : IVec S4096 32) : IVec S4096x1 32 :=
  broadcastInDim S4096x1 ![0] bcast_S4096_S4096x1_0 (select (cmpi .slt r (broadcastInDim S4096 ![] bcast_S_S4096 (constantI S_ 32 0#32)))
    (addi r (broadcastInDim S4096 ![] bcast_S_S4096 (constantI S_ 32 4096#32))) r)

/-- The reference's result. -/
def result (T : IVec S5x32 32) (x : FVec F S4096x1024 .f32) (W : FVec F S8x1024x512 .f32) (b : FVec F S8x512 .f32) (r : IVec S4096 32) : FVec F S4096x1x520 .f32 :=
  Host.gather gather_S4096x1x520_S4096x1_S4096x1x520_12_0_n_n_0_1_11520 (sums T x W b) (place r)

theorem v75_eq (V : Valuation τ sig (Elt F)) : after ops V (main_v75 : DevRef τ sig)
    = result (V (main_arg0 : DevRef τ sig)) (V (main_arg1 : DevRef τ sig)) (V (main_arg2 : DevRef τ sig)) (V (main_arg3 : DevRef τ sig)) (V (main_arg4 : DevRef τ sig)) := by
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., unary_bufs_sub .., reshape_bufs_sub .., nullary_bufs_sub .., unary_bufs_sub ..,
    nullary_bufs_sub .., unary_bufs_sub .., binary_bufs_sub .., unary_bufs_sub .., unary_bufs_sub .., unary_bufs_sub ..,
    binary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., binary_bufs_sub ..,
    nullary_bufs_sub .., unary_bufs_sub .., binary_bufs_sub .., unary_bufs_sub .., unary_bufs_sub .., binary_bufs_sub ..,
    unary_bufs_sub .., unary_bufs_sub .., unary_bufs_sub .., binary_bufs_sub .., binary_bufs_sub .., unary_bufs_sub .., unary_bufs_sub
    .., unary_bufs_sub .., binary_bufs_sub .., binary_bufs_sub .., unary_bufs_sub .., unary_bufs_sub .., nullary_bufs_sub ..,
    unary_bufs_sub .., unary_bufs_sub .., unary_bufs_sub .., binary_bufs_sub .., unary_bufs_sub .., unary_bufs_sub .., unary_bufs_sub
    .., binary_bufs_sub .., binary_bufs_sub .., unary_bufs_sub .., unary_bufs_sub .., binary_bufs_sub .., unary_bufs_sub ..,
    unary_bufs_sub .., unary_bufs_sub .., unary_bufs_sub .., nullary_bufs_sub .., unary_bufs_sub .., ternary_bufs_sub ..,
    nullary_bufs_sub .., binary_bufs_sub .., nullary_bufs_sub .., binary_bufs_sub .., unary_bufs_sub .., nullary_bufs_sub ..,
    binary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v75)
          = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) :=
  (θ_run defs _ _).mono (fun _ h c => ⟨(h c main_v75).trans (v75_eq _), (h c main_arg0).trans (arg0_eq _), (h c main_arg1).trans (arg1_eq _),
      (h c main_arg2).trans (arg2_eq _), (h c main_arg3).trans (arg3_eq _), (h c main_arg4).trans (arg4_eq _)⟩)
    (run_seq scopedRefs_eq scopedSems_eq defs main (fun _ => ops) main_eq (fun _ => ops_sub) m ρ)

end Cert.Proof.GRef

namespace Cert.Proof

open Idealize.ShloMosaic Idealize.SL.Sem

theorem frame_groupedRef : Cert.quiescent_GroupedRefIdeal := by
  intro m ρ _
  exact (θ_run Cert.GroupedRefIdeal.defs _ _).mono (fun r h => ⟨fun c => (h c).2,
      Idealize.ShloMosaic.sem_eq_zero_of_no_sems (by decide) r.2⟩)
    (GRef.run_main (F := Ideal) m ρ)

theorem frame_groupedRef_pre : Cert.quiescent_GroupedRefIdeal_pre_sched_ok := fun m ρ _ => frame_groupedRef m ρ trivial

end Cert.Proof

end
-- ==== Proof.GroupedRefValue.lean ====
/-
  What the grouped product's reference holds: each row's sum over the steps that take it.
-/
module

public import proofs.«01_k».proof.Proof.GroupedValue
public import proofs.«01_k».proof.Proof.GroupedRefRun

@[expose] public section

set_option maxRecDepth 16384

noncomputable section

namespace Cert.Proof.GRef

open Cert.GroupedRefIdeal Cert.GroupedRefIdeal.Gen
open Idealize.ShloMosaic
open Cert.Proof.Grp (wd bk kd Hit term total totals row)

theorem ofBool_and (p q : Bool) : IntOp.andi (BitVec.ofBool p) (BitVec.ofBool q) = BitVec.ofBool (p && q) := by
  revert p q; decide

theorem takes_bit (T : IVec S5x32 32) (r : Fin 4096) (s : Fin 15) : takes T (ix2 r s)
    = BitVec.ofBool ((((((row0 T (ix1 s)) * 512#32).sle (BitVec.ofNat 32 r.val) && (BitVec.ofNat 32 r.val).slt (row0 T (ix1 s) * 512#32 + 512#32))
      && (row2 T (ix1 s) == 1#32)) && (row3 T (ix1 s)).sle (BitVec.ofNat 32 r.val)) && (BitVec.ofNat 32 r.val).slt (row4 T (ix1 s))) := by
  simp only [← ofBool_and]
  unfold takes spread nums con
  generalize row0 T = R0
  generalize row2 T = R2
  generalize row3 T = R3
  generalize row4 T = R4
  pointwise
  rfl

theorem which_at (T : IVec S5x32 32) (r : Fin 4096) (s : Fin 15) (e : Fin 8) : which T (ix3 r s e)
    = IntOp.andi (takes T (ix2 r s)) (IntOp.cmpi .eq (row1 T (ix1 s)) (BitVec.ofNat 32 e.val)) := by
  unfold which kinds
  generalize row1 T = R1
  generalize takes T = A
  pointwise

theorem each_apply (x : FVec Ideal S4096x1024 .f32) (W : FVec Ideal S8x1024x512 .f32) (b : FVec Ideal S8x512 .f32) (r : Fin 4096) (e : Fin 8) (o : Fin 512) :
    each x W b (ix3 r e o) = (∑ d : Fin 1024, x (ix2 r d) * W (ix3 e d o)) + b (ix2 e o) := by
  unfold each
  pointwise

theorem rows_apply (w : IVec S4096x15x8 1) (p : FVec Ideal S4096x8x512 .f32) (r : Fin 4096) (o : Fin 512) :
    rows w p (ix2 r o) = ∑ e : Fin 8, ∑ s : Fin 15, if w (ix3 r s e) = 1#1 then p (ix3 r e o) else (0 : EReal) := by
  unfold rows
  pointwise
  rfl

theorem share_apply (w : IVec S4096x15x8 1) (r : Fin 4096) (e : Fin 8) :
    share (F := Ideal) w (ix2 r e) = ∑ s : Fin 15, if w (ix3 r s e) = 1#1 then (1 : EReal) else 0 := by
  have u : ∀ v : BitVec 1, (FloatOps.uitofp (F := Ideal) .f32 v : EReal) = if v = 1#1 then (1 : EReal) else 0 := fun v => by
    show ((v.toNat : ℝ) : EReal) = _
    have h : v = 0#1 ∨ v = 1#1 := by revert v; decide
    rcases h with h | h <;> simp [h]
  unfold share
  pointwise
  exact Finset.sum_congr rfl fun s _ => u _

/-! ## The rows a step takes -/

theorem row0_at (T : IVec S5x32 32) (s : Fin 15) : row0 T (ix1 s) = wd (F := Ideal) T 0 s.val := Grp.row_at (F := Ideal) T 0 _ _ s
theorem row1_at (T : IVec S5x32 32) (s : Fin 15) : row1 T (ix1 s) = wd (F := Ideal) T 1 s.val := Grp.row_at (F := Ideal) T 1 _ _ s
theorem row2_at (T : IVec S5x32 32) (s : Fin 15) : row2 T (ix1 s) = wd (F := Ideal) T 2 s.val := Grp.row_at (F := Ideal) T 2 _ _ s
theorem row3_at (T : IVec S5x32 32) (s : Fin 15) : row3 T (ix1 s) = wd (F := Ideal) T 3 s.val := Grp.row_at (F := Ideal) T 3 _ _ s
theorem row4_at (T : IVec S5x32 32) (s : Fin 15) : row4 T (ix1 s) = wd (F := Ideal) T 4 s.val := Grp.row_at (F := Ideal) T 4 _ _ s

/-- The rows of a block are the ones between its first and the next block's. -/
theorem in_block (w : BitVec 32) (h : w.toNat < 8) (k : Fin 8) (i : Fin 512) :
    ((w * 512#32).sle (BitVec.ofNat 32 (row k i).val) && (BitVec.ofNat 32 (row k i).val).slt (w * 512#32 + 512#32)) = true ↔ w.toNat = k.val := by
  have hk := k.isLt
  have hi := i.isLt
  unfold row
  rw [Bool.and_eq_true, BitVec.sle_eq_decide, BitVec.slt_eq_decide, decide_eq_true_eq, decide_eq_true_eq]
  simp only [BitVec.toInt_eq_toNat_cond, BitVec.toNat_mul, BitVec.toNat_add, BitVec.toNat_ofNat, Nat.reducePow, Nat.reduceMod]
  omega

theorem which_iff (T : IVec S5x32 32) (hT : Grp.Sched (F := Ideal) T) (k : Fin 8) (i : Fin 512) (s : Fin 15) (e : Fin 8) :
    which T (ix3 (row k i) s e) = 1#1 ↔ bk T s.val = k.val ∧ Hit T s.val (row k i).val ∧ kd T s.val = e := by
  have a : ∀ p q : Bool, IntOp.andi (BitVec.ofBool p) (BitVec.ofBool q) = 1#1 ↔ p = true ∧ q = true := by decide
  have h7 := hT.knd s.val s.isLt
  have he : (wd (F := Ideal) T 1 s.val == BitVec.ofNat 32 e.val) = true ↔ kd T s.val = e := by
    rw [beq_iff_eq, ← BitVec.toNat_inj, BitVec.toNat_ofNat, Fin.ext_iff]
    have : (kd T s.val).val = (wd (F := Ideal) T 1 s.val).toNat := Nat.mod_eq_of_lt h7
    have := e.isLt
    omega
  rw [which_at, takes_bit, row0_at, row1_at, row2_at, row3_at, row4_at]
  refine (a _ _).trans ?_
  rw [he, Bool.and_eq_true, Bool.and_eq_true, Bool.and_eq_true, in_block _ (hT.blk s.val s.isLt), beq_iff_eq]
  unfold Hit
  tauto

/-- The reference's sum of a row. -/
theorem sum_eq (T : IVec S5x32 32) (hT : Grp.Sched (F := Ideal) T) (x : FVec Ideal S4096x1024 .f32) (W : FVec Ideal S8x1024x512 .f32) (b : FVec Ideal S8x512 .f32)
    (k : Fin 8) (i : Fin 512) (o : Fin 520) :
    concatenate S4096x520 1 [⟨S4096x512, rows (which T) (each x W b)⟩, ⟨S4096x8, share (F := Ideal) (which T)⟩] concatenates_S4096x512_S4096x8_S4096x520_d1 (ix2 (row k i) o)
      = total T x W b k i o := by
  unfold total
  rw [Finset.sum_range]
  by_cases ho : o.val < 512
  · refine (concatenate_pair_apply_left (t := S4096x520) (s₁ := S4096x512) (s₂ := S4096x8) 1 _ _ _ (ix2 (row k i) o) rfl (ix2 (row k i) (⟨o.val, ho⟩ : Fin 512)) (fun a => by fin_cases a <;> rfl)).trans ?_
    rw [rows_apply, Finset.sum_comm]
    refine Finset.sum_congr rfl fun s _ => ?_
    simp only [which_iff T hT]
    unfold term
    by_cases hb : bk T s.val = k.val
    · by_cases hh : Hit T s.val (row k i).val
      · simp only [hb, hh, true_and, ↓reduceIte]
        rw [Finset.sum_ite_eq, if_pos (Finset.mem_univ _), dif_pos ho, each_apply]
      · simp only [hh, false_and, and_false, ↓reduceIte, Finset.sum_const_zero, ite_self]
    · simp only [hb, false_and, ↓reduceIte, Finset.sum_const_zero]
  · refine (concatenate_pair_apply_right (t := S4096x520) (s₁ := S4096x512) (s₂ := S4096x8) 1 _ _ _ (ix2 (row k i) o) rfl rfl (ix2 (row k i) (⟨o.val - 512, by omega⟩ : Fin 8))
      (fun a ha => by fin_cases a <;> first | rfl | exact absurd rfl ha) (by show o.val - 512 + 512 = o.val; omega)).trans ?_
    rw [share_apply]
    refine Finset.sum_congr rfl fun s _ => ?_
    simp only [which_iff T hT]
    unfold term
    rw [dif_neg ho]
    by_cases hb : bk T s.val = k.val
    · by_cases hh : Hit T s.val (row k i).val
      · simp only [hb, hh, true_and, ↓reduceIte, Fin.ext_iff]
      · simp only [hh, false_and, and_false, ↓reduceIte, ite_self]
    · simp only [hb, false_and, ↓reduceIte]

/-- The reference's sums are the kernel's, row by row. -/
theorem sums_eq (T : IVec S5x32 32) (hT : Grp.Sched (F := Ideal) T) (x : FVec Ideal S4096x1024 .f32) (W : FVec Ideal S8x1024x512 .f32) (b : FVec Ideal S8x512 .f32) :
    sums (F := Ideal) T x W b = Grp.flat (F := Ideal) (totals T x W b) := by
  refine funext fun (j : S4096x1x520.Idx) => ?_
  obtain ⟨r, o, rfl⟩ : ∃ (r : Fin 4096) (o : Fin 520), j = ix3 r 0 o := ⟨j 0, j 2, by
    funext a
    fin_cases a
    · rfl
    · exact Subsingleton.elim (α := Fin 1) _ _
    · rfl⟩
  obtain ⟨k, i, rfl⟩ : ∃ (k : Fin 8) (i : Fin 512), r = row k i := ⟨⟨r.val / 512, by omega⟩, ⟨r.val % 512, by omega⟩, Fin.ext (by
    show r.val = 512 * (r.val / 512) + r.val % 512
    omega)⟩
  have e : sums (F := Ideal) T x W b (ix3 (row k i) 0 o) = concatenate S4096x520 1 [⟨S4096x512, rows (which T) (each x W b)⟩, ⟨S4096x8, share (F := Ideal) (which T)⟩]
      concatenates_S4096x512_S4096x8_S4096x520_d1 (ix2 (row k i) o) := by
    unfold sums
    generalize concatenate S4096x520 1 [⟨S4096x512, rows (which T) (each x W b)⟩, ⟨S4096x8, share (F := Ideal) (which T)⟩] concatenates_S4096x512_S4096x8_S4096x520_d1 = C
    pointwise
  rw [e, sum_eq T hT]
  rw [Grp.flat, shapeCast_apply (totals T x W b) _ (ix3 (row k i) 0 o) (ix3 k i o) (by
    rw [Shape.rowMajor_val_three, Shape.rowMajor_val_three]
    show (k.val * 512 + i.val) * 520 + o.val = ((512 * k.val + i.val) * 1 + 0) * 520 + o.val
    omega)]
  rfl

/-- The reference's result is the rows of those sums that the ranks name. -/
theorem result_eq (T : IVec S5x32 32) (hT : Grp.Sched (F := Ideal) T) (x : FVec Ideal S4096x1024 .f32) (W : FVec Ideal S8x1024x512 .f32) (b : FVec Ideal S8x512 .f32) (r : IVec S4096 32) :
    result (F := Ideal) T x W b r = Grp.taken (F := Ideal) (Grp.flat (F := Ideal) (totals T x W b)) r := by
  unfold result
  rw [sums_eq T hT]
  rfl

end Cert.Proof.GRef
-- ==== Proof.GroupedBitsFrames.lean ====
/-
  The grouped product at the machine's own floats: its text is that of the idealized one, so it runs as that does.
-/
module

public import proofs.«01_k».proof.Proof.GroupedFrames
public import proofs.«01_k».proof.Proof.Gen.Grouped

@[expose] public section

noncomputable section

namespace Cert.Proof

open Idealize.ShloMosaic Idealize.ShloMosaic.TcCoe Idealize.SL.Sem

set_option maxHeartbeats 1000000 in
/-- The two bodies are one text. -/
theorem body_same (c : Cert.Grouped.grid0.Coords) (b0 : Memref Cert.Grouped.sig .tc .smem Cert.Grouped.S5x32 .i32) (h0 : b0.IsWhole)
    (b1 : Memref Cert.Grouped.sig .tc .vmem Cert.Grouped.S512x1024 .f32) (h1 : b1.IsWhole) (b2 : Memref Cert.Grouped.sig .tc .vmem Cert.Grouped.S1x1024x512 .f32) (h2 : b2.IsWhole)
    (b3 : Memref Cert.Grouped.sig .tc .vmem Cert.Grouped.S1x1x512 .f32) (h3 : b3.IsWhole) (b4 : Memref Cert.Grouped.sig .tc .vmem Cert.Grouped.S1x512x520 .f32) (h4 : b4.IsWhole)
    (b5 : Memref Cert.Grouped.sig .tc .vmem Cert.Grouped.S1024x512 .bf16) (h5 : b5.IsWhole) :
    Cert.Grouped.cc0__grouped_body (F := Bits) c b0 h0 b1 h1 b2 h2 b3 h3 b4 h4 b5 h5 = Cert.GroupedIdeal.cc0__grouped_body (F := Bits) c b0 h0 b1 h1 b2 h2 b3 h3 b4 h4 b5 h5 := rfl

theorem defs₀_same : Cert.Grouped.defs₀ (F := Bits) = Cert.GroupedIdeal.defs₀ (F := Bits) := by
  refine congrArg Defs.onTc ?_
  funext l x
  match l, x with
  | 0, (t, s) => exact body_same _ _ _ _ _ _ _ _ _ _ _ _ _

theorem defs_same : Cert.Grouped.defs (F := Bits) = Cert.GroupedIdeal.defs (F := Bits) :=
  congrArg (Pipeline.defs (Cert.Grouped.pcfgs (F := Bits))) defs₀_same

set_option maxHeartbeats 1000000 in
theorem main_same : Cert.Grouped.main (F := Bits) = Cert.GroupedIdeal.main (F := Bits) := rfl

theorem sched_grouped (m : (ℓ : Loc Cert.Grouped.nD Cert.Grouped.τ Cert.Grouped.sig) → Buf (Elt Bits) ℓ)
    (h : Cert.Pre_Grouped m) : Grp.Sched (F := Bits) (Grp.T₀ (F := Bits) m) := Grp.sched_of_pre (F := Bits) _ _ _ _ _ (h 0)

theorem frame_grouped : Cert.quiescent_Grouped := fun m ρ hpre => by
  rw [defs_same, main_same]
  exact (θ_run Cert.GroupedIdeal.defs _ _).mono (fun _ h => ⟨fun c => (h.1 c).2, h.2⟩)
    (Grp.run (F := Bits) m ρ (sched_grouped m hpre))

end Cert.Proof

end
-- ==== Proof.lean ====
/-
  The proof of `Cert.Claim`: the frames of the programs, from their runs, and the equality of each call's results with its reference's.
-/
module

public import proofs.«01_k».proof.Defs
public import proofs.«01_k».proof.Proof.Frames
public import proofs.«01_k».proof.Proof.RefValue
public import proofs.«01_k».proof.Proof.KerValue
public import proofs.«01_k».proof.Proof.GroupedRefValue
public import proofs.«01_k».proof.Proof.GroupedBitsFrames
public import proofs.«01_k».proof.Proof.Gen.GroupedIdeal
public import proofs.«01_k».proof.Proof.Gen.GroupedIdeal.Skeleton
public import proofs.«01_k».proof.Proof.Gen.GroupedIdeal.Launch
public import proofs.«01_k».proof.Proof.Gen.GroupedRefIdeal
public import proofs.«01_k».proof.Proof.Gen.Grouped
public import proofs.«01_k».proof.Proof.Gen.Pre_sched_ok

@[expose] public section

noncomputable section

namespace Cert.Proof

open Idealize.ShloMosaic Idealize.SL.Sem

theorem frame_reference_pre : Cert.quiescent_ReferenceIdeal_pre_ids_ok := fun m ρ _ => frame_reference m ρ trivial

theorem ix1_eta {n : Nat} (j : (⟨1, ![n]⟩ : Shape).Idx) : j = ix1 (j 0) := funext fun a => by fin_cases a; rfl
theorem ix2_eta {n k : Nat} (j : (⟨2, ![n, k]⟩ : Shape).Idx) : j = ix2 (j 0) (j 1) := funext fun a => by fin_cases a <;> rfl

/-- The kernel's sorted tokens are the reference's: row `s` of both is the token whose rank is `s`. -/
theorem sorted_eq (m : (ℓ : Loc Cert.KernelIdeal.nD Cert.KernelIdeal.τ Cert.KernelIdeal.sig) → Buf (Elt Ideal) ℓ) (d : Dev Cert.KernelIdeal.nD)
    (f : Buf (Elt Ideal) (Disp.oLoc d)) (ok : Disp.Ok8 (m (Disp.tLoc d))) (hf : Disp.AllXs (F := Ideal) (m (Disp.tLoc d)) (Disp.X m d) f) :
    Disp.Y m d f = Ref.sorted (F := Ideal) (m (Disp.aLoc d)) (m (Disp.tLoc d)) := by
  refine funext fun (j : Cert.KernelIdeal.S4096x1024.Idx) => ?_
  obtain ⟨n, hn, hr⟩ := Disp.rk_surj ok (j 0).val (j 0).isLt
  rw [ix2_eta j]
  exact (Disp.Y_apply m d f ok hf (j 0) ⟨n, hn⟩ (j 1) hr).trans (Ref.sorted_apply _ _ ok (j 0) ⟨n, hn⟩ (j 1) hr).symm

/-- The kernel's ranks are the reference's. -/
theorem ranks_eq (t f : Cert.KernelIdeal.S4096.Idx → BitVec 32) (ok : Disp.Ok8 t) (hf : Disp.AllRank t f) : f = Ref.ranks t := by
  refine funext fun j => ?_
  rw [ix1_eta j]
  exact (Disp.rank_apply t ok f hf (j 0)).trans (Ref.ranks_apply t ok (j 0)).symm

/-- Over the extended reals the kernel computes what the reference says. -/
theorem same_results : Cert.algebraic_KernelIdeal_ReferenceIdeal := by
  intro m g m' g' hpre hargs
  have ok := ok_kernelIdeal m hpre
  refine ⟨fun c => Ref.sorted (F := Ideal) (m (Disp.aLoc c)) (m (Disp.tLoc c)), fun c => Ref.ranks (m (Disp.tLoc c)), ?_, ?_⟩
  · refine (θ_run Cert.KernelIdeal.defs _ _).mono (fun r h c => ?_) (Disp.run_main (F := Ideal) m g ok)
    obtain ⟨ha, ht, ⟨f, hf, hy⟩, hr⟩ := h.1 c
    exact ⟨hy.trans (sorted_eq m c f (ok c) hf), ranks_eq _ _ (ok c) hr, ha, ht⟩
  · refine (θ_run Cert.ReferenceIdeal.defs _ _).mono (fun r h c => ?_) (Ref.run_main (F := Ideal) m' g')
    obtain ⟨h0, h1, h2, h3⟩ := h c
    exact ⟨h0.trans (congrArg₂ (Ref.sorted (F := Ideal)) (hargs c).1 (hargs c).2), h1.trans (congrArg Ref.ranks (hargs c).2), h2, h3⟩

/-- Over the extended reals the grouped product computes what its reference says. -/
theorem same_grouped : Cert.algebraic_GroupedIdeal_GroupedRefIdeal := by
  intro m g m' g' hpre hargs
  have hT := sched_groupedIdeal m hpre
  refine ⟨fun c => Grp.taken (F := Ideal) (Grp.flat (F := Ideal) (Grp.totals (m (c.tc.loc Cert.GroupedIdeal.main_arg0)) (m (c.tc.loc Cert.GroupedIdeal.main_arg1))
    (m (c.tc.loc Cert.GroupedIdeal.main_arg2)) (m (c.tc.loc Cert.GroupedIdeal.main_arg3)))) (m (c.tc.loc Cert.GroupedIdeal.main_arg4)), ?_, ?_⟩
  · exact (θ_run Cert.GroupedIdeal.defs _ _).mono (fun r h c => h c) (Grp.run_total m g hT)
  · refine (θ_run Cert.GroupedRefIdeal.defs _ _).mono (fun r h c => ?_) (GRef.run_main (F := Ideal) m' g')
    obtain ⟨h0, hr⟩ := h c
    obtain ⟨a0, a1, a2, a3, a4⟩ := hargs c
    refine ⟨h0.trans ?_, hr⟩
    rw [a0, a1, a2, a3, a4]
    obtain rfl := Grp.dev_one c
    exact GRef.result_eq _ hT _ _ _ _

theorem claim : Cert.Claim := ⟨Cert.Kernel.Gen.facts, Cert.KernelIdeal.Gen.facts, Cert.ReferenceIdeal.Gen.facts,
  Cert.Grouped.Gen.facts, Cert.GroupedIdeal.Gen.facts, Cert.GroupedRefIdeal.Gen.facts, Cert.Pre_ids_ok.Gen.facts, Cert.Pre_sched_ok.Gen.facts,
  frame_kernel, frame_kernelIdeal, frame_reference, frame_reference_pre, frame_grouped, frame_groupedIdeal, frame_groupedRef, frame_groupedRef_pre,
  trivial, same_results, trivial, same_grouped⟩

end Cert.Proof

end
